-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_KernelUpIdeal_real_weights [hPre_real_weights : Cert.Pre_real_weights.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_real_weights.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4))).1 = (fun _ => 1#1)
    ∧ (Cert.Pre_real_weights.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4))).2.1 = (fun _ => 1#1)
    ∧ (Cert.Pre_real_weights.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4))).2.2.1 = (fun _ => 1#1)
    ∧ (Cert.Pre_real_weights.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4))).2.2.2 = (fun _ => 1#1)

def Pre_ReferenceUpIdeal (m : (ℓ : Loc Cert.ReferenceUpIdeal.nD Cert.ReferenceUpIdeal.τ Cert.ReferenceUpIdeal.sig) → Buf (Elt Ideal) ℓ) : Prop :=
  True

def Pre_ReferenceUpIdeal_real_weights [hPre_real_weights : Cert.Pre_real_weights.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_real_weights.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4))).1 = (fun _ => 1#1)
    ∧ (Cert.Pre_real_weights.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4))).2.1 = (fun _ => 1#1)
    ∧ (Cert.Pre_real_weights.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4))).2.2.1 = (fun _ => 1#1)
    ∧ (Cert.Pre_real_weights.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4))).2.2.2 = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelIn2 (m : (ℓ : Loc Cert.KernelIn2.nD Cert.KernelIn2.τ Cert.KernelIn2.sig) → Buf (Elt Bits) ℓ) : Prop :=
  True

def Pre_KernelIn2Ideal (m : (ℓ : Loc Cert.KernelIn2Ideal.nD Cert.KernelIn2Ideal.τ Cert.KernelIn2Ideal.sig) → Buf (Elt Ideal) ℓ) : Prop :=
  True

def Pre_ReferenceIn2Ideal (m : (ℓ : Loc Cert.ReferenceIn2Ideal.nD Cert.ReferenceIn2Ideal.τ Cert.ReferenceIn2Ideal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_KernelUpIdeal_pre_real_weights [hKernelUpIdeal : Cert.KernelUpIdeal.Facts] [hPre_real_weights : Cert.Pre_real_weights.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal_real_weights m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_ReferenceUpIdeal_pre_real_weights [hReferenceUpIdeal : Cert.ReferenceUpIdeal.Facts] [hPre_real_weights : Cert.Pre_real_weights.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal_real_weights m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelIn2 [hKernelIn2 : Cert.KernelIn2.Facts] : Prop :=
  ∀ (m : (ℓ : Loc Cert.KernelIn2.nD Cert.KernelIn2.τ Cert.KernelIn2.sig) → Buf (Elt Bits) ℓ) (g : Dev Cert.KernelIn2.nD → PrngReg), Pre_KernelIn2 m →
    θ_run (Cert.KernelIn2.defs (F := Bits)) (onTc (τ := Cert.KernelIn2.τ) (Cert.KernelIn2.main (F := Bits))) ⟨m, fun _ => 0, g⟩ (fun r => (∀ c : Dev Cert.KernelIn2.nD,
      r.2.mem ((c.tc : Thread Cert.KernelIn2.nD Cert.KernelIn2.τ).loc Cert.KernelIn2.main_arg0) = m ((c.tc : Thread Cert.KernelIn2.nD Cert.KernelIn2.τ).loc Cert.KernelIn2.main_arg0)
      ∧ r.2.mem ((c.tc : Thread Cert.KernelIn2.nD Cert.KernelIn2.τ).loc Cert.KernelIn2.main_arg1) = m ((c.tc : Thread Cert.KernelIn2.nD Cert.KernelIn2.τ).loc Cert.KernelIn2.main_arg1)
      ∧ r.2.mem ((c.tc : Thread Cert.KernelIn2.nD Cert.KernelIn2.τ).loc Cert.KernelIn2.main_arg2) = m ((c.tc : Thread Cert.KernelIn2.nD Cert.KernelIn2.τ).loc Cert.KernelIn2.main_arg2))
      ∧ r.2.sem = fun _ => 0)

def quiescent_KernelIn2Ideal [hKernelIn2Ideal : Cert.KernelIn2Ideal.Facts] : Prop :=
  ∀ (m : (ℓ : Loc Cert.KernelIn2Ideal.nD Cert.KernelIn2Ideal.τ Cert.KernelIn2Ideal.sig) → Buf (Elt Ideal) ℓ) (g : Dev Cert.KernelIn2Ideal.nD → PrngReg), Pre_KernelIn2Ideal m →
    θ_run (Cert.KernelIn2Ideal.defs (F := Ideal)) (onTc (τ := Cert.KernelIn2Ideal.τ) (Cert.KernelIn2Ideal.main (F := Ideal))) ⟨m, fun _ => 0, g⟩ (fun r => (∀ c : Dev Cert.KernelIn2Ideal.nD,
      r.2.mem ((c.tc : Thread Cert.KernelIn2Ideal.nD Cert.KernelIn2Ideal.τ).loc Cert.KernelIn2Ideal.main_arg0) = m ((c.tc : Thread Cert.KernelIn2Ideal.nD Cert.KernelIn2Ideal.τ).loc Cert.KernelIn2Ideal.main_arg0)
      ∧ r.2.mem ((c.tc : Thread Cert.KernelIn2Ideal.nD Cert.KernelIn2Ideal.τ).loc Cert.KernelIn2Ideal.main_arg1) = m ((c.tc : Thread Cert.KernelIn2Ideal.nD Cert.KernelIn2Ideal.τ).loc Cert.KernelIn2Ideal.main_arg1)
      ∧ r.2.mem ((c.tc : Thread Cert.KernelIn2Ideal.nD Cert.KernelIn2Ideal.τ).loc Cert.KernelIn2Ideal.main_arg2) = m ((c.tc : Thread Cert.KernelIn2Ideal.nD Cert.KernelIn2Ideal.τ).loc Cert.KernelIn2Ideal.main_arg2))
      ∧ r.2.sem = fun _ => 0)

def quiescent_ReferenceIn2Ideal [hReferenceIn2Ideal : Cert.ReferenceIn2Ideal.Facts] : Prop :=
  ∀ (m : (ℓ : Loc Cert.ReferenceIn2Ideal.nD Cert.ReferenceIn2Ideal.τ Cert.ReferenceIn2Ideal.sig) → Buf (Elt Ideal) ℓ) (g : Dev Cert.ReferenceIn2Ideal.nD → PrngReg), Pre_ReferenceIn2Ideal m →
    θ_run (Cert.ReferenceIn2Ideal.defs (F := Ideal)) (onTc (τ := Cert.ReferenceIn2Ideal.τ) (Cert.ReferenceIn2Ideal.main (F := Ideal))) ⟨m, fun _ => 0, g⟩ (fun r => (∀ c : Dev Cert.ReferenceIn2Ideal.nD,
      r.2.mem ((c.tc : Thread Cert.ReferenceIn2Ideal.nD Cert.ReferenceIn2Ideal.τ).loc Cert.ReferenceIn2Ideal.main_arg0) = m ((c.tc : Thread Cert.ReferenceIn2Ideal.nD Cert.ReferenceIn2Ideal.τ).loc Cert.ReferenceIn2Ideal.main_arg0)
      ∧ r.2.mem ((c.tc : Thread Cert.ReferenceIn2Ideal.nD Cert.ReferenceIn2Ideal.τ).loc Cert.ReferenceIn2Ideal.main_arg1) = m ((c.tc : Thread Cert.ReferenceIn2Ideal.nD Cert.ReferenceIn2Ideal.τ).loc Cert.ReferenceIn2Ideal.main_arg1)
      ∧ r.2.mem ((c.tc : Thread Cert.ReferenceIn2Ideal.nD Cert.ReferenceIn2Ideal.τ).loc Cert.ReferenceIn2Ideal.main_arg2) = m ((c.tc : Thread Cert.ReferenceIn2Ideal.nD Cert.ReferenceIn2Ideal.τ).loc Cert.ReferenceIn2Ideal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def preserves_Kernel_KernelIdeal : Prop :=
  IdealRules.named_const.Statement Cert.KernelIdeal.κ "inv_cap" .f32 0x3D888889#32 ((15⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUp_KernelUpIdeal : Prop :=
  True

def algebraic_KernelUpIdeal_ReferenceUpIdeal_pre_real_weights [hKernelUpIdeal : Cert.KernelUpIdeal.Facts] [hReferenceUpIdeal : Cert.ReferenceUpIdeal.Facts] [hPre_real_weights : Cert.Pre_real_weights.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal_real_weights m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) →
    ∃ (v0 : (c : Dev Cert.KernelUpIdeal.nD) → Buf (Elt Ideal) ((c.tc : Thread Cert.KernelUpIdeal.nD Cert.KernelUpIdeal.τ).loc Cert.KernelUpIdeal.main_v7)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v7) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v50) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v1_0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v1_0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v10)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v10) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v21) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelIn2_KernelIn2Ideal : Prop :=
  True

def algebraic_KernelIn2Ideal_ReferenceIn2Ideal [hKernelIn2Ideal : Cert.KernelIn2Ideal.Facts] [hReferenceIn2Ideal : Cert.ReferenceIn2Ideal.Facts] : Prop :=
  ∀ (m : (ℓ : Loc Cert.KernelIn2Ideal.nD Cert.KernelIn2Ideal.τ Cert.KernelIn2Ideal.sig) → Buf (Elt Ideal) ℓ) (g : Dev Cert.KernelIn2Ideal.nD → PrngReg)
    (m' : (ℓ : Loc Cert.ReferenceIn2Ideal.nD Cert.ReferenceIn2Ideal.τ Cert.ReferenceIn2Ideal.sig) → Buf (Elt Ideal) ℓ) (g' : Dev Cert.ReferenceIn2Ideal.nD → PrngReg), Pre_KernelIn2Ideal m →
    (∀ c : Dev Cert.KernelIn2Ideal.nD,
      m' ((c.tc : Thread Cert.ReferenceIn2Ideal.nD Cert.ReferenceIn2Ideal.τ).loc Cert.ReferenceIn2Ideal.main_arg0) = m ((c.tc : Thread Cert.KernelIn2Ideal.nD Cert.KernelIn2Ideal.τ).loc Cert.KernelIn2Ideal.main_arg0)
      ∧ m' ((c.tc : Thread Cert.ReferenceIn2Ideal.nD Cert.ReferenceIn2Ideal.τ).loc Cert.ReferenceIn2Ideal.main_arg1) = m ((c.tc : Thread Cert.KernelIn2Ideal.nD Cert.KernelIn2Ideal.τ).loc Cert.KernelIn2Ideal.main_arg1)
      ∧ m' ((c.tc : Thread Cert.ReferenceIn2Ideal.nD Cert.ReferenceIn2Ideal.τ).loc Cert.ReferenceIn2Ideal.main_arg2) = m ((c.tc : Thread Cert.KernelIn2Ideal.nD Cert.KernelIn2Ideal.τ).loc Cert.KernelIn2Ideal.main_arg2)) →
    ∃ (v0 : (c : Dev Cert.KernelIn2Ideal.nD) → Buf (Elt Ideal) ((c.tc : Thread Cert.KernelIn2Ideal.nD Cert.KernelIn2Ideal.τ).loc Cert.KernelIn2Ideal.main_v8)),
      θ_run (Cert.KernelIn2Ideal.defs (F := Ideal)) (onTc (τ := Cert.KernelIn2Ideal.τ) (Cert.KernelIn2Ideal.main (F := Ideal))) ⟨m, fun _ => 0, g⟩ (fun r => ∀ c : Dev Cert.KernelIn2Ideal.nD,
          r.2.mem ((c.tc : Thread Cert.KernelIn2Ideal.nD Cert.KernelIn2Ideal.τ).loc Cert.KernelIn2Ideal.main_v8) = v0 c
          ∧ r.2.mem ((c.tc : Thread Cert.KernelIn2Ideal.nD Cert.KernelIn2Ideal.τ).loc Cert.KernelIn2Ideal.main_arg0) = m ((c.tc : Thread Cert.KernelIn2Ideal.nD Cert.KernelIn2Ideal.τ).loc Cert.KernelIn2Ideal.main_arg0)
          ∧ r.2.mem ((c.tc : Thread Cert.KernelIn2Ideal.nD Cert.KernelIn2Ideal.τ).loc Cert.KernelIn2Ideal.main_arg1) = m ((c.tc : Thread Cert.KernelIn2Ideal.nD Cert.KernelIn2Ideal.τ).loc Cert.KernelIn2Ideal.main_arg1)
          ∧ r.2.mem ((c.tc : Thread Cert.KernelIn2Ideal.nD Cert.KernelIn2Ideal.τ).loc Cert.KernelIn2Ideal.main_arg2) = m ((c.tc : Thread Cert.KernelIn2Ideal.nD Cert.KernelIn2Ideal.τ).loc Cert.KernelIn2Ideal.main_arg2))
      ∧ θ_run (Cert.ReferenceIn2Ideal.defs (F := Ideal)) (onTc (τ := Cert.ReferenceIn2Ideal.τ) (Cert.ReferenceIn2Ideal.main (F := Ideal))) ⟨m', fun _ => 0, g'⟩ (fun r => ∀ c : Dev Cert.ReferenceIn2Ideal.nD,
          r.2.mem ((c.tc : Thread Cert.ReferenceIn2Ideal.nD Cert.ReferenceIn2Ideal.τ).loc Cert.ReferenceIn2Ideal.main_v19) = v0 c
          ∧ r.2.mem ((c.tc : Thread Cert.ReferenceIn2Ideal.nD Cert.ReferenceIn2Ideal.τ).loc Cert.ReferenceIn2Ideal.main_arg0) = m' ((c.tc : Thread Cert.ReferenceIn2Ideal.nD Cert.ReferenceIn2Ideal.τ).loc Cert.ReferenceIn2Ideal.main_arg0)
          ∧ r.2.mem ((c.tc : Thread Cert.ReferenceIn2Ideal.nD Cert.ReferenceIn2Ideal.τ).loc Cert.ReferenceIn2Ideal.main_arg1) = m' ((c.tc : Thread Cert.ReferenceIn2Ideal.nD Cert.ReferenceIn2Ideal.τ).loc Cert.ReferenceIn2Ideal.main_arg1)
          ∧ r.2.mem ((c.tc : Thread Cert.ReferenceIn2Ideal.nD Cert.ReferenceIn2Ideal.τ).loc Cert.ReferenceIn2Ideal.main_arg2) = m' ((c.tc : Thread Cert.ReferenceIn2Ideal.nD Cert.ReferenceIn2Ideal.τ).loc Cert.ReferenceIn2Ideal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v1_0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1_0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v4) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelIn2 : Cert.KernelIn2.Facts) (hKernelIn2Ideal : Cert.KernelIn2Ideal.Facts) (hReferenceIn2Ideal : Cert.ReferenceIn2Ideal.Facts) (hKernelOut : Cert.KernelOut.Facts) (hKernelOutIdeal : Cert.KernelOutIdeal.Facts) (hReferenceOutIdeal : Cert.ReferenceOutIdeal.Facts) (hPre_real_weights : Cert.Pre_real_weights.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_KernelUpIdeal_pre_real_weights (hKernelUpIdeal := hKernelUpIdeal) (hPre_real_weights := hPre_real_weights)
    ∧ quiescent_ReferenceUpIdeal (hReferenceUpIdeal := hReferenceUpIdeal)
    ∧ quiescent_ReferenceUpIdeal_pre_real_weights (hReferenceUpIdeal := hReferenceUpIdeal) (hPre_real_weights := hPre_real_weights)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelIn2 (hKernelIn2 := hKernelIn2)
    ∧ quiescent_KernelIn2Ideal (hKernelIn2Ideal := hKernelIn2Ideal)
    ∧ quiescent_ReferenceIn2Ideal (hReferenceIn2Ideal := hReferenceIn2Ideal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ preserves_Kernel_KernelIdeal
    ∧ algebraic_KernelIdeal_ReferenceIdeal (hKernelIdeal := hKernelIdeal) (hReferenceIdeal := hReferenceIdeal)
    ∧ preserves_KernelUp_KernelUpIdeal
    ∧ algebraic_KernelUpIdeal_ReferenceUpIdeal_pre_real_weights (hKernelUpIdeal := hKernelUpIdeal) (hReferenceUpIdeal := hReferenceUpIdeal) (hPre_real_weights := hPre_real_weights)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelIn2_KernelIn2Ideal
    ∧ algebraic_KernelIn2Ideal_ReferenceIn2Ideal (hKernelIn2Ideal := hKernelIn2Ideal) (hReferenceIn2Ideal := hReferenceIn2Ideal)
    ∧ preserves_KernelOut_KernelOutIdeal
    ∧ algebraic_KernelOutIdeal_ReferenceOutIdeal (hKernelOutIdeal := hKernelOutIdeal) (hReferenceOutIdeal := hReferenceOutIdeal)
-- ==== Pre_real_weights.lean ====
abbrev S4x4096x4096 : Shape := ⟨3, ![4, 4096, 4096]⟩
abbrev S4x4096 : Shape := ⟨2, ![4, 4096]⟩
abbrev S4x4096x16384 : Shape := ⟨3, ![4, 4096, 16384]⟩
abbrev S4x3x8192 : Shape := ⟨3, ![4, 3, 8192]⟩
abbrev S4x8192 : Shape := ⟨2, ![4, 8192]⟩
abbrev S1x4096 : Shape := ⟨2, ![1, 4096]⟩
abbrev S4096 : Shape := ⟨1, ![4096]⟩
abbrev S_ : Shape := ⟨0, ![]⟩
abbrev S1x4096x8192 : Shape := ⟨3, ![1, 4096, 8192]⟩
abbrev S4096x8192 : Shape := ⟨2, ![4096, 8192]⟩
abbrev S1x3x8192 : Shape := ⟨3, ![1, 3, 8192]⟩
abbrev S3x8192 : Shape := ⟨2, ![3, 8192]⟩
abbrev S1x8192 : Shape := ⟨2, ![1, 8192]⟩
abbrev S8192 : Shape := ⟨1, ![8192]⟩

class Facts : Prop where
  slices_S4x4096_S1x4096_0_0 : S4x4096.Slices ![0, 0] S1x4096
  shapeCasts_S1x4096_S4096 : S1x4096.ShapeCasts S4096
  bcast_S_S4096 : S_.BroadcastsInDim S4096 (![] : Fin 0 → Fin S4096.rank)
  slices_S4x4096x16384_S1x4096x8192_0_0_0 : S4x4096x16384.Slices ![0, 0, 0] S1x4096x8192
  shapeCasts_S1x4096x8192_S4096x8192 : S1x4096x8192.ShapeCasts S4096x8192
  bcast_S_S4096x8192 : S_.BroadcastsInDim S4096x8192 (![] : Fin 0 → Fin S4096x8192.rank)
  slices_S4x3x8192_S1x3x8192_0_0_0 : S4x3x8192.Slices ![0, 0, 0] S1x3x8192
  shapeCasts_S1x3x8192_S3x8192 : S1x3x8192.ShapeCasts S3x8192
  bcast_S_S3x8192 : S_.BroadcastsInDim S3x8192 (![] : Fin 0 → Fin S3x8192.rank)
  slices_S4x8192_S1x8192_0_0 : S4x8192.Slices ![0, 0] S1x8192
  shapeCasts_S1x8192_S8192 : S1x8192.ShapeCasts S8192
  bcast_S_S8192 : S_.BroadcastsInDim S8192 (![] : Fin 0 → Fin S8192.rank)

variable [Facts]

def fn {F : FTy → Type} [FloatOps F] (main_arg0 : FVec F S4x4096x4096 .f32) (main_arg1 : FVec F S4x4096 .f32) (main_arg2 : FVec F S4x4096x16384 .f32) (main_arg3 : FVec F S4x3x8192 .f32) (main_arg4 : FVec F S4x8192 .f32) : IVec S4096 1 × IVec S4096x8192 1 × IVec S3x8192 1 × IVec S8192 1 :=
  let main_v0 : FVec F S1x4096 .f32 := (extractStridedSlice S1x4096 ![0, 0] · slices_S4x4096_S1x4096_0_0) main_arg1
  let main_v1 : FVec F S4096 .f32 := shapeCast S4096 main_v0 shapeCasts_S1x4096_S4096
  let main_v2 : FVec F S4096 .f32 := Host.absf main_v1
  let main_cst : FVec F S_ .f32 := constant S_ .f32 0x7F800000#32
  let main_v3 : FVec F S4096 .f32 := broadcastInDim S4096 ![] bcast_S_S4096 main_cst
  let main_v4 : IVec S4096 1 := cmpf .olt main_v2 main_v3
  let main_v5 : FVec F S1x4096x8192 .f32 := (extractStridedSlice S1x4096x8192 ![0, 0, 0] · slices_S4x4096x16384_S1x4096x8192_0_0_0) main_arg2
  let main_v6 : FVec F S4096x8192 .f32 := shapeCast S4096x8192 main_v5 shapeCasts_S1x4096x8192_S4096x8192
  let main_v7 : FVec F S4096x8192 .f32 := Host.absf main_v6
  let main_cst_0 : FVec F S_ .f32 := constant S_ .f32 0x7F800000#32
  let main_v8 : FVec F S4096x8192 .f32 := broadcastInDim S4096x8192 ![] bcast_S_S4096x8192 main_cst_0
  let main_v9 : IVec S4096x8192 1 := cmpf .olt main_v7 main_v8
  let main_v10 : FVec F S1x3x8192 .f32 := (extractStridedSlice S1x3x8192 ![0, 0, 0] · slices_S4x3x8192_S1x3x8192_0_0_0) main_arg3
  let main_v11 : FVec F S3x8192 .f32 := shapeCast S3x8192 main_v10 shapeCasts_S1x3x8192_S3x8192
  let main_v12 : FVec F S3x8192 .f32 := Host.absf main_v11
  let main_cst_1 : FVec F S_ .f32 := constant S_ .f32 0x7F800000#32
  let main_v13 : FVec F S3x8192 .f32 := broadcastInDim S3x8192 ![] bcast_S_S3x8192 main_cst_1
  let main_v14 : IVec S3x8192 1 := cmpf .olt main_v12 main_v13
  let main_v15 : FVec F S1x8192 .f32 := (extractStridedSlice S1x8192 ![0, 0] · slices_S4x8192_S1x8192_0_0) main_arg4
  let main_v16 : FVec F S8192 .f32 := shapeCast S8192 main_v15 shapeCasts_S1x8192_S8192
  let main_v17 : FVec F S8192 .f32 := Host.absf main_v16
  let main_cst_2 : FVec F S_ .f32 := constant S_ .f32 0x7F800000#32
  let main_v18 : FVec F S8192 .f32 := broadcastInDim S8192 ![] bcast_S_S8192 main_cst_2
  let main_v19 : IVec S8192 1 := cmpf .olt main_v17 main_v18
  (main_v4, main_v9, main_v14, main_v19)
-- ==== Kernel.lean ====
abbrev S4x4096x14336 : Shape := ⟨3, ![4, 4096, 14336]⟩
abbrev S4x4096x128 : Shape := ⟨3, ![4, 4096, 128]⟩
abbrev S4 : Shape := ⟨1, ![4]⟩
abbrev S2048 : Shape := ⟨1, ![2048]⟩
abbrev S8 : Shape := ⟨1, ![8]⟩
abbrev S_ : Shape := ⟨0, ![]⟩
abbrev S1x128 : Shape := ⟨2, ![1, 128]⟩
abbrev S1 : Shape := ⟨1, ![1]⟩
abbrev S2 : Shape := ⟨1, ![2]⟩
abbrev S1x2048 : Shape := ⟨2, ![1, 2048]⟩
abbrev S4x4096x2048 : Shape := ⟨3, ![4, 4096, 2048]⟩
abbrev S1x256x1024 : Shape := ⟨3, ![1, 256, 1024]⟩
abbrev S1x256x2048 : Shape := ⟨3, ![1, 256, 2048]⟩
abbrev S1x256x128 : Shape := ⟨3, ![1, 256, 128]⟩
abbrev S4x256x512 : Shape := ⟨3, ![4, 256, 512]⟩
abbrev S4x1x256 : Shape := ⟨3, ![4, 1, 256]⟩
abbrev S4x1x128 : Shape := ⟨3, ![4, 1, 128]⟩
abbrev S128x128 : Shape := ⟨2, ![128, 128]⟩
abbrev S1x128x128 : Shape := ⟨3, ![1, 128, 128]⟩
abbrev S1x128x256 : Shape := ⟨3, ![1, 128, 256]⟩
abbrev S128x256 : Shape := ⟨2, ![128, 256]⟩
abbrev S128x1 : Shape := ⟨2, ![128, 1]⟩
abbrev S1x1x128 : Shape := ⟨3, ![1, 1, 128]⟩
abbrev S1x1 : Shape := ⟨2, ![1, 1]⟩
abbrev S128 : Shape := ⟨1, ![128]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩
abbrev S1x1x256 : Shape := ⟨3, ![1, 1, 256]⟩
abbrev S1x256 : Shape := ⟨2, ![1, 256]⟩
abbrev S256 : Shape := ⟨1, ![256]⟩
abbrev S1x512 : Shape := ⟨2, ![1, 512]⟩

abbrev nBuf : Space → Nat
  | .hbm => 16
  | .vmem => 17
  | .smem => 0
  | _ => 0

abbrev bufTy : (tb : Table) → Fin (tcTables nBuf tb) → BufTy
  | .hbm, ⟨0, _⟩ => ⟨S4x4096x14336, .f32⟩
  | .hbm, ⟨1, _⟩ => ⟨S4x4096x128, .f32⟩
  | .hbm, ⟨2, _⟩ => ⟨S4, .f32⟩
  | .hbm, ⟨3, _⟩ => ⟨S4, .f32⟩
  | .hbm, ⟨4, _⟩ => ⟨S2048, .f32⟩
  | .hbm, ⟨5, _⟩ => ⟨S8, .f32⟩
  | .hbm, ⟨6, _⟩ => ⟨S_, .f32⟩
  | .hbm, ⟨7, _⟩ => ⟨S1x128, .f32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S2, .i32⟩
  | .hbm, ⟨13, _⟩ => ⟨S1x128, .f32⟩
  | .hbm, ⟨14, _⟩ => ⟨S1x2048, .f32⟩
  | .hbm, ⟨15, _⟩ => ⟨S4x4096x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x128, .f32⟩
  | .local _ .vmem, ⟨9, _⟩ => ⟨S1x256x128, .f32⟩
  | .local _ .vmem, ⟨10, _⟩ => ⟨S1x128, .f32⟩
  | .local _ .vmem, ⟨11, _⟩ => ⟨S1x2048, .f32⟩
  | .local _ .vmem, ⟨12, _⟩ => ⟨S1x256x2048, .bf16⟩
  | .local _ .vmem, ⟨13, _⟩ => ⟨S1x256x2048, .bf16⟩
  | .local _ .vmem, ⟨14, _⟩ => ⟨S4x256x512, .f32⟩
  | .local _ .vmem, ⟨15, _⟩ => ⟨S4x1x256, .f32⟩
  | .local _ .vmem, ⟨16, _⟩ => ⟨S4x1x128, .f32⟩
  | _, _ => ⟨S4x4096x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "inv_cap" => some ((15⁻¹ : ℝ) : EReal)
  | _ => none
-- ==== ReferenceIdeal.lean ====
abbrev S4x4096x14336 : Shape := ⟨3, ![4, 4096, 14336]⟩
abbrev S4x4096x128 : Shape := ⟨3, ![4, 4096, 128]⟩
abbrev S4 : Shape := ⟨1, ![4]⟩
abbrev S2048 : Shape := ⟨1, ![2048]⟩
abbrev S4x4096x1024 : Shape := ⟨3, ![4, 4096, 1024]⟩
abbrev S4x4096x2048 : Shape := ⟨3, ![4, 4096, 2048]⟩
abbrev S4x4096x4 : Shape := ⟨3, ![4, 4096, 4]⟩
abbrev S4x4096x4x256 : Shape := ⟨4, ![4, 4096, 4, 256]⟩
abbrev S_ : Shape := ⟨0, ![]⟩
abbrev S4x4096x4x512 : Shape := ⟨4, ![4, 4096, 4, 512]⟩
abbrev S1x1x4 : Shape := ⟨3, ![1, 1, 4]⟩
abbrev S128x128 : Shape := ⟨2, ![128, 128]⟩
abbrev S4x4x256x512 : Shape := ⟨4, ![4, 4, 256, 512]⟩
abbrev S4x4x256 : Shape := ⟨3, ![4, 4, 256]⟩
abbrev S4x4 : Shape := ⟨2, ![4, 4]⟩
abbrev S4x32x128x4x256 : Shape := ⟨5, ![4, 32, 128, 4, 256]⟩
abbrev S32x4x128x4x256 : Shape := ⟨5, ![32, 4, 128, 4, 256]⟩
abbrev S4x32x128x4x512 : Shape := ⟨5, ![4, 32, 128, 4, 512]⟩
abbrev S32x4x128x4x512 : Shape := ⟨5, ![32, 4, 128, 4, 512]⟩
abbrev S4x32x128x4 : Shape := ⟨4, ![4, 32, 128, 4]⟩
abbrev S32x4x128x4 : Shape := ⟨4, ![32, 4, 128, 4]⟩
abbrev S1x4x128x4x256 : Shape := ⟨5, ![1, 4, 128, 4, 256]⟩
abbrev S4x128x4x256 : Shape := ⟨4, ![4, 128, 4, 256]⟩
abbrev S1x4x128x4x512 : Shape := ⟨5, ![1, 4, 128, 4, 512]⟩
abbrev S4x128x4x512 : Shape := ⟨4, ![4, 128, 4, 512]⟩
abbrev S1x4x128x4 : Shape := ⟨4, ![1, 4, 128, 4]⟩
abbrev S4x128x4 : Shape := ⟨3, ![4, 128, 4]⟩
abbrev S4x128x1x4 : Shape := ⟨4, ![4, 128, 1, 4]⟩
abbrev S4x1x128x4 : Shape := ⟨4, ![4, 1, 128, 4]⟩
abbrev S4x128x128x4 : Shape := ⟨4, ![4, 128, 128, 4]⟩
abbrev S1x128x128x1 : Shape := ⟨4, ![1, 128, 128, 1]⟩
abbrev S4x1x4 : Shape := ⟨3, ![4, 1, 4]⟩
abbrev S4x4x128x128 : Shape := ⟨4, ![4, 4, 128, 128]⟩
abbrev S4x4x512x128 : Shape := ⟨4, ![4, 4, 512, 128]⟩
abbrev S4x128x4x1 : Shape := ⟨4, ![4, 128, 4, 1]⟩
abbrev S4x4x128 : Shape := ⟨3, ![4, 4, 128]⟩
abbrev S4x4x1x1 : Shape := ⟨4, ![4, 4, 1, 1]⟩
abbrev S4x4x1 : Shape := ⟨3, ![4, 4, 1]⟩
abbrev S4x4096x4x1 : Shape := ⟨4, ![4, 4096, 4, 1]⟩
abbrev S1x1x2048 : Shape := ⟨3, ![1, 1, 2048]⟩

abbrev nBuf : Space → Nat
  | .hbm => 244
  | .vmem => 0
  | .smem => 0
  | _ => 0

abbrev hbmTy0_0 (i : Nat) : BufTy := match i % 128 with
  | 0 => ⟨S4x4096x14336, .f32⟩
  | 1 => ⟨S4x4096x128, .f32⟩
  | 2 => ⟨S4, .f32⟩
  | 3 => ⟨S4, .f32⟩
  | 4 => ⟨S2048, .f32⟩
  | 5 => ⟨S4x4096x1024, .f32⟩
  | 6 => ⟨S4x4096x1024, .f32⟩
  | 7 => ⟨S4x4096x2048, .f32⟩
  | 8 => ⟨S4x4096x4, .f32⟩
  | 9 => ⟨S4x4096x4, .f32⟩
  | 10 => ⟨S4x4096x4x256, .f32⟩
  | 11 => ⟨S4x4096x4x256, .f32⟩
  | 12 => ⟨S_, .f32⟩
  | 13 => ⟨S4x4096x4x256, .f32⟩
  | 14 => ⟨S4x4096x4x256, .f32⟩
  | 15 => ⟨S4x4096x4x512, .f32⟩
  | 16 => ⟨S1x1x4, .f32⟩
  | 17 => ⟨S4x4096x4, .f32⟩
  | 18 => ⟨S4x4096x4, .f32⟩
  | 19 => ⟨S_, .f32⟩
  | 20 => ⟨S4x4096x4, .f32⟩
  | 21 => ⟨S4x4096x4, .f32⟩
  | 22 => ⟨S4x4096x4, .f32⟩
  | 23 => ⟨S_, .f32⟩
  | 24 => ⟨S4x4096x4, .f32⟩
  | 25 => ⟨S4x4096x4, .f32⟩
  | 26 => ⟨S1x1x4, .f32⟩
  | 27 => ⟨S4x4096x4, .f32⟩
  | 28 => ⟨S4x4096x4, .f32⟩
  | 29 => ⟨S_, .f32⟩
  | 30 => ⟨S4x4096x4, .f32⟩
  | 31 => ⟨S4x4096x4, .f32⟩
  | 32 => ⟨S4x4096x4, .f32⟩
  | 33 => ⟨S_, .f32⟩
  | 34 => ⟨S4x4096x4, .f32⟩
  | 35 => ⟨S4x4096x4, .f32⟩
  | 36 => ⟨S4x4096x4, .f32⟩
  | 37 => ⟨S_, .f32⟩
  | 38 => ⟨S4x4096x4, .f32⟩
  | 39 => ⟨S4x4096x4, .f32⟩
  | 40 => ⟨S4x4096x4, .f32⟩
  | 41 => ⟨S4x4096x4, .f32⟩
  | 42 => ⟨S4x4096x4, .i1⟩
  | 43 => ⟨S4x4096x4, .f32⟩
  | 44 => ⟨S4x4096x4, .f32⟩
  | 45 => ⟨S4x4096x4, .f32⟩
  | 46 => ⟨S4x4096x4, .f32⟩
  | 47 => ⟨S4x4096x4, .f32⟩
  | 48 => ⟨S4x4096x4, .f32⟩
  | 49 => ⟨S4x4096x4, .f32⟩
  | 50 => ⟨S4x4096x4, .f32⟩
  | 51 => ⟨S4x4096x4, .f32⟩
  | 52 => ⟨S_, .i1⟩
  | 53 => ⟨S128x128, .i1⟩
  | 54 => ⟨S128x128, .i32⟩
  | 55 => ⟨S_, .i32⟩
  | 56 => ⟨S128x128, .i32⟩
  | 57 => ⟨S128x128, .i32⟩
  | 58 => ⟨S128x128, .i32⟩
  | 59 => ⟨S128x128, .i1⟩
  | 60 => ⟨S_, .i1⟩
  | 61 => ⟨S128x128, .i1⟩
  | 62 => ⟨S128x128, .i1⟩
  | 63 => ⟨S_, .f32⟩
  | 64 => ⟨S4x4x256x512, .f32⟩
  | 65 => ⟨S_, .f32⟩
  | 66 => ⟨S4x4x256, .f32⟩
  | 67 => ⟨S_, .f32⟩
  | 68 => ⟨S4x4, .f32⟩
  | 69 => ⟨S4x32x128x4x256, .f32⟩
  | 70 => ⟨S32x4x128x4x256, .f32⟩
  | 71 => ⟨S4x32x128x4x256, .f32⟩
  | 72 => ⟨S32x4x128x4x256, .f32⟩
  | 73 => ⟨S4x32x128x4x512, .f32⟩
  | 74 => ⟨S32x4x128x4x512, .f32⟩
  | 75 => ⟨S4x32x128x4, .f32⟩
  | 76 => ⟨S32x4x128x4, .f32⟩
  | 77 => ⟨S4x32x128x4, .f32⟩
  | 78 => ⟨S32x4x128x4, .f32⟩
  | 79 => ⟨S_, .f32⟩
  | 80 => ⟨S32x4x128x4x512, .f32⟩
  | 81 => ⟨S_, .i32⟩
  | 82 => ⟨S32x4x128x4x256, .f32⟩
  | 83 => ⟨S32x4x128x4x256, .f32⟩
  | 84 => ⟨S32x4x128x4x512, .f32⟩
  | 85 => ⟨S32x4x128x4, .f32⟩
  | 86 => ⟨S32x4x128x4, .f32⟩
  | 87 => ⟨S128x128, .i1⟩
  | 88 => ⟨S_, .i32⟩
  | 89 => ⟨S4x4x256x512, .f32⟩
  | 90 => ⟨S4x4x256, .f32⟩
  | 91 => ⟨S4x4, .f32⟩
  | 92 => ⟨S32x4x128x4x512, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x4x128x4x256, .f32⟩
  | 100 => ⟨S4x128x4x256, .f32⟩
  | 101 => ⟨S_, .i32⟩
  | 102 => ⟨S_, .i32⟩
  | 103 => ⟨S_, .i32⟩
  | 104 => ⟨S_, .i32⟩
  | 105 => ⟨S1x4x128x4x256, .f32⟩
  | 106 => ⟨S4x128x4x256, .f32⟩
  | 107 => ⟨S_, .i32⟩
  | 108 => ⟨S_, .i32⟩
  | 109 => ⟨S_, .i32⟩
  | 110 => ⟨S_, .i32⟩
  | 111 => ⟨S1x4x128x4x512, .f32⟩
  | 112 => ⟨S4x128x4x512, .f32⟩
  | 113 => ⟨S_, .i32⟩
  | 114 => ⟨S_, .i32⟩
  | 115 => ⟨S_, .i32⟩
  | 116 => ⟨S1x4x128x4, .f32⟩
  | 117 => ⟨S4x128x4, .f32⟩
  | 118 => ⟨S_, .i32⟩
  | 119 => ⟨S_, .i32⟩
  | 120 => ⟨S_, .i32⟩
  | 121 => ⟨S1x4x128x4, .f32⟩
  | 122 => ⟨S4x128x4, .f32⟩
  | 123 => ⟨S_, .f32⟩
  | 124 => ⟨S_, .f32⟩
  | 125 => ⟨S4x128x4, .f32⟩
  | 126 => ⟨S4x128x1x4, .f32⟩
  | 127 => ⟨S4x1x128x4, .f32⟩
  | _ => ⟨S4x4096x14336, .f32⟩

abbrev hbmTy0_1 (i : Nat) : BufTy := match i % 128 with
  | 0 => ⟨S4x128x128x4, .f32⟩
  | 1 => ⟨S4x128x128x4, .f32⟩
  | 2 => ⟨S4x128x128x4, .f32⟩
  | 3 => ⟨S4x1x128x4, .f32⟩
  | 4 => ⟨S4x128x128x4, .f32⟩
  | 5 => ⟨S4x128x128x4, .f32⟩
  | 6 => ⟨S1x128x128x1, .i1⟩
  | 7 => ⟨S_, .f32⟩
  | 8 => ⟨S_, .f32⟩
  | 9 => ⟨S4x128x128x4, .i1⟩
  | 10 => ⟨S4x128x128x4, .f32⟩
  | 11 => ⟨S4x128x128x4, .f32⟩
  | 12 => ⟨S4x1x4, .f32⟩
  | 13 => ⟨S4x128x4, .f32⟩
  | 14 => ⟨S4x128x4, .f32⟩
  | 15 => ⟨S_, .f32⟩
  | 16 => ⟨S4x128x4, .f32⟩
  | 17 => ⟨S4x128x4, .f32⟩
  | 18 => ⟨S4x4x128x128, .f32⟩
  | 19 => ⟨S4x128x128x4, .f32⟩
  | 20 => ⟨S4x128x1x4, .f32⟩
  | 21 => ⟨S4x128x128x4, .f32⟩
  | 22 => ⟨S4x128x128x4, .f32⟩
  | 23 => ⟨S4x128x128x4, .f32⟩
  | 24 => ⟨S4x128x128x4, .f32⟩
  | 25 => ⟨S4x128x4, .f32⟩
  | 26 => ⟨S4x128x4, .f32⟩
  | 27 => ⟨S4x4x512x128, .f32⟩
  | 28 => ⟨S4x128x4x512, .f32⟩
  | 29 => ⟨S4x128x4x1, .f32⟩
  | 30 => ⟨S4x4x512x128, .f32⟩
  | 31 => ⟨S4x128x4x512, .f32⟩
  | 32 => ⟨S4x128x4x512, .f32⟩
  | 33 => ⟨S4x128x4x512, .f32⟩
  | 34 => ⟨S4x128x4x512, .f32⟩
  | 35 => ⟨S_, .f32⟩
  | 36 => ⟨S4x128x4, .f32⟩
  | 37 => ⟨S4x4x128, .f32⟩
  | 38 => ⟨S4x128x4, .f32⟩
  | 39 => ⟨S4x128x4, .f32⟩
  | 40 => ⟨S4x128x4, .f32⟩
  | 41 => ⟨S4x128x4, .f32⟩
  | 42 => ⟨S4x128x4, .f32⟩
  | 43 => ⟨S4x128x4, .f32⟩
  | 44 => ⟨S4x128x4, .f32⟩
  | 45 => ⟨S4x128x4x1, .f32⟩
  | 46 => ⟨S4x128x4x512, .f32⟩
  | 47 => ⟨S4x128x4x512, .f32⟩
  | 48 => ⟨S4x1x4, .f32⟩
  | 49 => ⟨S4x4, .f32⟩
  | 50 => ⟨S4x1x4, .f32⟩
  | 51 => ⟨S4x128x4, .f32⟩
  | 52 => ⟨S4x128x4, .f32⟩
  | 53 => ⟨S4x128x4, .f32⟩
  | 54 => ⟨S4x4, .f32⟩
  | 55 => ⟨S_, .f32⟩
  | 56 => ⟨S4x4, .f32⟩
  | 57 => ⟨S4x4, .f32⟩
  | 58 => ⟨S4x1x4, .f32⟩
  | 59 => ⟨S4x128x4, .f32⟩
  | 60 => ⟨S4x128x4, .f32⟩
  | 61 => ⟨S4x128x4, .f32⟩
  | 62 => ⟨S4x4, .f32⟩
  | 63 => ⟨S4x4, .f32⟩
  | 64 => ⟨S4x4, .f32⟩
  | 65 => ⟨S4x4x1x1, .f32⟩
  | 66 => ⟨S4x4x256x512, .f32⟩
  | 67 => ⟨S4x4x256x512, .f32⟩
  | 68 => ⟨S4x128x4x1, .f32⟩
  | 69 => ⟨S4x128x4x256, .f32⟩
  | 70 => ⟨S4x128x4x256, .f32⟩
  | 71 => ⟨S4x4x256x512, .f32⟩
  | 72 => ⟨S4x4x256x512, .f32⟩
  | 73 => ⟨S4x4x1, .f32⟩
  | 74 => ⟨S4x4x256, .f32⟩
  | 75 => ⟨S4x4x256, .f32⟩
  | 76 => ⟨S4x4x256, .f32⟩
  | 77 => ⟨S4x4x256, .f32⟩
  | 78 => ⟨S1x4x128x4x512, .f32⟩
  | 79 => ⟨S_, .i32⟩
  | 80 => ⟨S_, .i32⟩
  | 81 => ⟨S_, .i32⟩
  | 82 => ⟨S_, .i32⟩
  | 83 => ⟨S32x4x128x4x512, .f32⟩
  | 84 => ⟨S_, .i32⟩
  | 85 => ⟨S_, .i32⟩
  | 86 => ⟨S4x32x128x4x512, .f32⟩
  | 87 => ⟨S4x4096x4x512, .f32⟩
  | 88 => ⟨S4x4096x2048, .f32⟩
  | 89 => ⟨S4x4096x4x512, .f32⟩
  | 90 => ⟨S_, .f32⟩
  | 91 => ⟨S4x4096x4, .f32⟩
  | 92 => ⟨S4x4096x4x1, .f32⟩
  | 93 => ⟨S_, .f32⟩
  | 94 => ⟨S4x4096x4x1, .f32⟩
  | 95 => ⟨S4x4096x4x1, .f32⟩
  | 96 => ⟨S_, .f32⟩
  | 97 => ⟨S4x4096x4x1, .f32⟩
  | 98 => ⟨S4x4096x4x1, .f32⟩
  | 99 => ⟨S4x4096x4x1, .f32⟩
  | 100 => ⟨S4x4096x4x512, .f32⟩
  | 101 => ⟨S4x4096x4x512, .f32⟩
  | 102 => ⟨S4x4096x2048, .f32⟩
  | 103 => ⟨S1x1x2048, .f32⟩
  | 104 => ⟨S4x4096x2048, .f32⟩
  | 105 => ⟨S4x4096x2048, .f32⟩
  | 106 => ⟨S4x4096x2048, .f32⟩
  | 107 => ⟨S4x4096x2048, .f32⟩
  | 108 => ⟨S_, .f32⟩
  | 109 => ⟨S4x4096x2048, .f32⟩
  | 110 => ⟨S4x4096x2048, .f32⟩
  | 111 => ⟨S_, .f32⟩
  | 112 => ⟨S4x4096x2048, .f32⟩
  | 113 => ⟨S4x4096x2048, .f32⟩
  | 114 => ⟨S4x4096x2048, .f32⟩
  | 115 => ⟨S4x4096x2048, .bf16⟩
  | _ => ⟨S4x4096x14336, .f32⟩

abbrev hbmTy (i : Nat) : BufTy := match i / 128 with
  | 0 => hbmTy0_0 i
  | 1 => hbmTy0_1 i
  | _ => ⟨S4x4096x14336, .f32⟩

abbrev bufTy : (tb : Table) → Fin (tcTables nBuf tb) → BufTy
  | .hbm, ⟨i, _⟩ => hbmTy i
  | _, _ => ⟨S4x4096x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_v1 : Ref sig .tc := ⟨.hbm, 50, rfl⟩
abbrev main_v26 : Ref sig .tc := ⟨.hbm, 51, rfl⟩
abbrev main_c : Ref sig .tc := ⟨.hbm, 52, rfl⟩
abbrev main_v27 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_0 : Ref sig .tc := ⟨.hbm, 60, rfl⟩
abbrev main_call1_v5 : Ref sig .tc := ⟨.hbm, 61, rfl⟩
abbrev main_v28 : Ref sig .tc := ⟨.hbm, 62, rfl⟩
abbrev main_cst_4 : Ref sig .tc := ⟨.hbm, 63, rfl⟩
abbrev main_v29 : Ref sig .tc := ⟨.hbm, 64, rfl⟩
abbrev main_cst_5 : Ref sig .tc := ⟨.hbm, 65, rfl⟩
abbrev main_v30 : Ref sig .tc := ⟨.hbm, 66, rfl⟩
abbrev main_cst_6 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_7 : Ref sig .tc := ⟨.hbm, 79, rfl⟩
abbrev main_v42 : Ref sig .tc := ⟨.hbm, 80, rfl⟩
abbrev main_c_8 : Ref sig .tc := ⟨.hbm, 81, rfl⟩
abbrev main_v43_0 : Ref sig .tc := ⟨.hbm, 82, rfl⟩
abbrev main_v43_1 : Ref sig .tc := ⟨.hbm, 83, rfl⟩
abbrev main_v43_2 : Ref sig .tc := ⟨.hbm, 84, rfl⟩
abbrev main_v43_3 : Ref sig .tc := ⟨.hbm, 85, rfl⟩
abbrev main_v43_4 : Ref sig .tc := ⟨.hbm, 86, rfl⟩
abbrev main_v43_5 : Ref sig .tc := ⟨.hbm, 87, rfl⟩
abbrev main_v43_6 : Ref sig .tc := ⟨.hbm, 88, rfl⟩
abbrev main_v43_7 : Ref sig .tc := ⟨.hbm, 89, rfl⟩
abbrev main_v43_8 : Ref sig .tc := ⟨.hbm, 90, rfl⟩
abbrev main_v43_9 : Ref sig .tc := ⟨.hbm, 91, rfl⟩
abbrev main_v43_10 : Ref sig .tc := ⟨.hbm, 92, rfl⟩
abbrev main_while0c_c_24 : Ref sig .tc := ⟨.hbm, 93, rfl⟩
abbrev main_while0c_v69 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_call2_c_2 : Ref sig .tc := ⟨.hbm, 98, rfl⟩
abbrev main_while0b_call2_v0 : Ref sig .tc := ⟨.hbm, 99, rfl⟩
abbrev main_while0b_v69 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_c_1 : Ref sig .tc := ⟨.hbm, 103, rfl⟩
abbrev main_while0b_call3_c_2 : Ref sig .tc := ⟨.hbm, 104, rfl⟩
abbrev main_while0b_call3_v0 : Ref sig .tc := ⟨.hbm, 105, rfl⟩
abbrev main_while0b_v70 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_c_1 : Ref sig .tc := ⟨.hbm, 109, rfl⟩
abbrev main_while0b_call4_c_2 : Ref sig .tc := ⟨.hbm, 110, rfl⟩
abbrev main_while0b_call4_v0 : Ref sig .tc := ⟨.hbm, 111, rfl⟩
abbrev main_while0b_v71 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_c_1 : Ref sig .tc := ⟨.hbm, 115, rfl⟩
abbrev main_while0b_call5_v0 : Ref sig .tc := ⟨.hbm, 116, rfl⟩
abbrev main_while0b_v72 : Ref sig .tc := ⟨.hbm, 117, rfl⟩
abbrev main_while0b_call6_c : Ref sig .tc := ⟨.hbm, 118, rfl⟩
abbrev main_while0b_call6_c_0 : Ref sig .tc := ⟨.hbm, 119, rfl⟩
abbrev main_while0b_call6_c_1 : Ref sig .tc := ⟨.hbm, 120, rfl⟩
abbrev main_while0b_call6_v0 : Ref sig .tc := ⟨.hbm, 121, rfl⟩
abbrev main_while0b_v73 : Ref sig .tc := ⟨.hbm, 122, rfl⟩
abbrev main_while0b_call7_call0_cst : Ref sig .tc := ⟨.hbm, 123, rfl⟩
abbrev main_while0b_call7_call0_v0 : Ref sig .tc := ⟨.hbm, 124, rfl⟩
abbrev main_while0b_v74 : Ref sig .tc := ⟨.hbm, 125, rfl⟩
abbrev main_while0b_v75 : Ref sig .tc := ⟨.hbm, 126, rfl⟩
abbrev main_while0b_v76 : Ref sig .tc := ⟨.hbm, 127, rfl⟩
abbrev main_while0b_v77 : Ref sig .tc := ⟨.hbm, 128, rfl⟩
abbrev main_while0b_v78 : Ref sig .tc := ⟨.hbm, 129, rfl⟩
abbrev main_while0b_v79 : Ref sig .tc := ⟨.hbm, 130, rfl⟩
abbrev main_while0b_v80 : Ref sig .tc := ⟨.hbm, 131, rfl⟩
abbrev main_while0b_v81 : Ref sig .tc := ⟨.hbm, 132, rfl⟩
abbrev main_while0b_v82 : Ref sig .tc := ⟨.hbm, 133, rfl⟩
abbrev main_while0b_v83 : Ref sig .tc := ⟨.hbm, 134, rfl⟩
abbrev main_while0b_cst_24 : Ref sig .tc := ⟨.hbm, 135, rfl⟩
abbrev main_while0b_call8_v0 : Ref sig .tc := ⟨.hbm, 136, rfl⟩
abbrev main_while0b_call8_v1 : Ref sig .tc := ⟨.hbm, 137, rfl⟩
abbrev main_while0b_call8_v2 : Ref sig .tc := ⟨.hbm, 138, rfl⟩
abbrev main_while0b_v84 : Ref sig .tc := ⟨.hbm, 139, rfl⟩
abbrev main_while0b_v85 : Ref sig .tc := ⟨.hbm, 140, rfl⟩
abbrev main_while0b_v86 : Ref sig .tc := ⟨.hbm, 141, rfl⟩
abbrev main_while0b_v87 : Ref sig .tc := ⟨.hbm, 142, rfl⟩
abbrev main_while0b_cst_25 : Ref sig .tc := ⟨.hbm, 143, rfl⟩
abbrev main_while0b_v88 : Ref sig .tc := ⟨.hbm, 144, rfl⟩
abbrev main_while0b_v89 : Ref sig .tc := ⟨.hbm, 145, rfl⟩
abbrev main_while0b_v90 : Ref sig .tc := ⟨.hbm, 146, rfl⟩
abbrev main_while0b_v91 : Ref sig .tc := ⟨.hbm, 147, rfl⟩
abbrev main_while0b_v92 : Ref sig .tc := ⟨.hbm, 148, rfl⟩
abbrev main_while0b_v93 : Ref sig .tc := ⟨.hbm, 149, rfl⟩
abbrev main_while0b_v94 : Ref sig .tc := ⟨.hbm, 150, rfl⟩
abbrev main_while0b_v95 : Ref sig .tc := ⟨.hbm, 151, rfl⟩
abbrev main_while0b_v96 : Ref sig .tc := ⟨.hbm, 152, rfl⟩
abbrev main_while0b_v97 : Ref sig .tc := ⟨.hbm, 153, rfl⟩
abbrev main_while0b_v98 : Ref sig .tc := ⟨.hbm, 154, rfl⟩
abbrev main_while0b_v99 : Ref sig .tc := ⟨.hbm, 155, rfl⟩
abbrev main_while0b_v100 : Ref sig .tc := ⟨.hbm, 156, rfl⟩
abbrev main_while0b_v101 : Ref sig .tc := ⟨.hbm, 157, rfl⟩
abbrev main_while0b_v102 : Ref sig .tc := ⟨.hbm, 158, rfl⟩
abbrev main_while0b_v103 : Ref sig .tc := ⟨.hbm, 159, rfl⟩
abbrev main_while0b_v104 : Ref sig .tc := ⟨.hbm, 160, rfl⟩
abbrev main_while0b_v105 : Ref sig .tc := ⟨.hbm, 161, rfl⟩
abbrev main_while0b_v106 : Ref sig .tc := ⟨.hbm, 162, rfl⟩
abbrev main_while0b_cst_26 : Ref sig .tc := ⟨.hbm, 163, rfl⟩
abbrev main_while0b_v107 : Ref sig .tc := ⟨.hbm, 164, rfl⟩
abbrev main_while0b_v108 : Ref sig .tc := ⟨.hbm, 165, rfl⟩
abbrev main_while0b_v109 : Ref sig .tc := ⟨.hbm, 166, rfl⟩
abbrev main_while0b_v110 : Ref sig .tc := ⟨.hbm, 167, rfl⟩
abbrev main_while0b_v111 : Ref sig .tc := ⟨.hbm, 168, rfl⟩
abbrev main_while0b_v112 : Ref sig .tc := ⟨.hbm, 169, rfl⟩
abbrev main_while0b_v113 : Ref sig .tc := ⟨.hbm, 170, rfl⟩
abbrev main_while0b_v114 : Ref sig .tc := ⟨.hbm, 171, rfl⟩
abbrev main_while0b_v115 : Ref sig .tc := ⟨.hbm, 172, rfl⟩
abbrev main_while0b_v116 : Ref sig .tc := ⟨.hbm, 173, rfl⟩
abbrev main_while0b_v117 : Ref sig .tc := ⟨.hbm, 174, rfl⟩
abbrev main_while0b_v118 : Ref sig .tc := ⟨.hbm, 175, rfl⟩
abbrev main_while0b_v119 : Ref sig .tc := ⟨.hbm, 176, rfl⟩
abbrev main_while0b_v120 : Ref sig .tc := ⟨.hbm, 177, rfl⟩
abbrev main_while0b_v121 : Ref sig .tc := ⟨.hbm, 178, rfl⟩
abbrev main_while0b_v122 : Ref sig .tc := ⟨.hbm, 179, rfl⟩
abbrev main_while0b_v123 : Ref sig .tc := ⟨.hbm, 180, rfl⟩
abbrev main_while0b_v124 : Ref sig .tc := ⟨.hbm, 181, rfl⟩
abbrev main_while0b_v125 : Ref sig .tc := ⟨.hbm, 182, rfl⟩
abbrev main_while0b_cst_27 : Ref sig .tc := ⟨.hbm, 183, rfl⟩
abbrev main_while0b_v126 : Ref sig .tc := ⟨.hbm, 184, rfl⟩
abbrev main_while0b_v127 : Ref sig .tc := ⟨.hbm, 185, rfl⟩
abbrev main_while0b_v128 : Ref sig .tc := ⟨.hbm, 186, rfl⟩
abbrev main_while0b_v129 : Ref sig .tc := ⟨.hbm, 187, rfl⟩
abbrev main_while0b_v130 : Ref sig .tc := ⟨.hbm, 188, rfl⟩
abbrev main_while0b_v131 : Ref sig .tc := ⟨.hbm, 189, rfl⟩
abbrev main_while0b_v132 : Ref sig .tc := ⟨.hbm, 190, rfl⟩
abbrev main_while0b_v133 : Ref sig .tc := ⟨.hbm, 191, rfl⟩
abbrev main_while0b_v134 : Ref sig .tc := ⟨.hbm, 192, rfl⟩
abbrev main_while0b_v135 : Ref sig .tc := ⟨.hbm, 193, rfl⟩
abbrev main_while0b_v136 : Ref sig .tc := ⟨.hbm, 194, rfl⟩
abbrev main_while0b_v137 : Ref sig .tc := ⟨.hbm, 195, rfl⟩
abbrev main_while0b_v138 : Ref sig .tc := ⟨.hbm, 196, rfl⟩
abbrev main_while0b_v139 : Ref sig .tc := ⟨.hbm, 197, rfl⟩
abbrev main_while0b_v140 : Ref sig .tc := ⟨.hbm, 198, rfl⟩
abbrev main_while0b_v141 : Ref sig .tc := ⟨.hbm, 199, rfl⟩
abbrev main_while0b_v142 : Ref sig .tc := ⟨.hbm, 200, rfl⟩
abbrev main_while0b_v143 : Ref sig .tc := ⟨.hbm, 201, rfl⟩
abbrev main_while0b_v144 : Ref sig .tc := ⟨.hbm, 202, rfl⟩
abbrev main_while0b_v145 : Ref sig .tc := ⟨.hbm, 203, rfl⟩
abbrev main_while0b_v146 : Ref sig .tc := ⟨.hbm, 204, rfl⟩
abbrev main_while0b_v147 : Ref sig .tc := ⟨.hbm, 205, rfl⟩
abbrev main_while0b_call9_v0 : Ref sig .tc := ⟨.hbm, 206, rfl⟩
abbrev main_while0b_call9_c : Ref sig .tc := ⟨.hbm, 207, rfl⟩
abbrev main_while0b_call9_c_0 : Ref sig .tc := ⟨.hbm, 208, rfl⟩
abbrev main_while0b_call9_c_1 : Ref sig .tc := ⟨.hbm, 209, rfl⟩
abbrev main_while0b_call9_c_2 : Ref sig .tc := ⟨.hbm, 210, rfl⟩
abbrev main_while0b_v148 : Ref sig .tc := ⟨.hbm, 211, rfl⟩
abbrev main_while0b_c_28 : Ref sig .tc := ⟨.hbm, 212, rfl⟩
abbrev main_while0b_v149 : Ref sig .tc := ⟨.hbm, 213, rfl⟩
abbrev main_v44 : Ref sig .tc := ⟨.hbm, 214, rfl⟩
abbrev main_v45 : Ref sig .tc := ⟨.hbm, 215, rfl⟩
abbrev main_v46 : Ref sig .tc := ⟨.hbm, 216, rfl⟩
abbrev main_v47 : Ref sig .tc := ⟨.hbm, 217, rfl⟩
abbrev main_cst_9 : Ref sig .tc := ⟨.hbm, 218, rfl⟩
abbrev main_v48 : Ref sig .tc := ⟨.hbm, 219, rfl⟩
abbrev main_v49 : Ref sig .tc := ⟨.hbm, 220, rfl⟩
abbrev main_cst_10 : Ref sig .tc := ⟨.hbm, 221, rfl⟩
abbrev main_v50 : Ref sig .tc := ⟨.hbm, 222, rfl⟩
abbrev main_v51 : Ref sig .tc := ⟨.hbm, 223, rfl⟩
abbrev main_cst_11 : Ref sig .tc := ⟨.hbm, 224, rfl⟩
abbrev main_v52 : Ref sig .tc := ⟨.hbm, 225, rfl⟩
abbrev main_v53 : Ref sig .tc := ⟨.hbm, 226, rfl⟩
abbrev main_v54 : Ref sig .tc := ⟨.hbm, 227, rfl⟩
abbrev main_v55 : Ref sig .tc := ⟨.hbm, 228, rfl⟩
abbrev main_v56 : Ref sig .tc := ⟨.hbm, 229, rfl⟩
abbrev main_v57 : Ref sig .tc := ⟨.hbm, 230, rfl⟩
abbrev main_v58 : Ref sig .tc := ⟨.hbm, 231, rfl⟩
abbrev main_v59 : Ref sig .tc := ⟨.hbm, 232, rfl⟩
abbrev main_v60 : Ref sig .tc := ⟨.hbm, 233, rfl⟩
abbrev main_v61 : Ref sig .tc := ⟨.hbm, 234, rfl⟩
abbrev main_v62 : Ref sig .tc := ⟨.hbm, 235, rfl⟩
abbrev main_cst_12 : Ref sig .tc := ⟨.hbm, 236, rfl⟩
abbrev main_v63 : Ref sig .tc := ⟨.hbm, 237, rfl⟩
abbrev main_v64 : Ref sig .tc := ⟨.hbm, 238, rfl⟩
abbrev main_cst_13 : Ref sig .tc := ⟨.hbm, 239, rfl⟩
abbrev main_v65 : Ref sig .tc := ⟨.hbm, 240, rfl⟩
abbrev main_v66 : Ref sig .tc := ⟨.hbm, 241, rfl⟩
abbrev main_v67 : Ref sig .tc := ⟨.hbm, 242, rfl⟩
abbrev main_v68 : Ref sig .tc := ⟨.hbm, 243, rfl⟩

abbrev nD : Nat := 1
abbrev τ : Topo := Topo.v7x

variable {F : FTy → Type} [FloatOps F]

abbrev main_while0_count : Scf.Loop 32 := ⟨0#32, 32#32, 1#32⟩
-- ==== KernelUp.lean ====
abbrev S4x4096x4096 : Shape := ⟨3, ![4, 4096, 4096]⟩
abbrev S4x4096 : Shape := ⟨2, ![4, 4096]⟩
abbrev S4x4096x16384 : Shape := ⟨3, ![4, 4096, 16384]⟩
abbrev S4x3x8192 : Shape := ⟨3, ![4, 3, 8192]⟩
abbrev S4x8192 : Shape := ⟨2, ![4, 8192]⟩
abbrev S4x4096x1 : Shape := ⟨3, ![4, 4096, 1]⟩
abbrev S16384x4096 : Shape := ⟨2, ![16384, 4096]⟩
abbrev S16384x128 : Shape := ⟨2, ![16384, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S4x1x8192 : Shape := ⟨3, ![4, 1, 8192]⟩
abbrev S16384x8192 : Shape := ⟨2, ![16384, 8192]⟩
abbrev S1024x4096 : Shape := ⟨2, ![1024, 4096]⟩
abbrev S1024x128 : Shape := ⟨2, ![1024, 128]⟩
abbrev S1x4096x512 : Shape := ⟨3, ![1, 4096, 512]⟩
abbrev S1x3x512 : Shape := ⟨3, ![1, 3, 512]⟩
abbrev S1x1x512 : Shape := ⟨3, ![1, 1, 512]⟩
abbrev S1024x512 : Shape := ⟨2, ![1024, 512]⟩
abbrev S16x8x512 : Shape := ⟨3, ![16, 8, 512]⟩
abbrev S8x512 : Shape := ⟨2, ![8, 512]⟩
abbrev S1x8x512 : Shape := ⟨3, ![1, 8, 512]⟩
abbrev S1024x1 : Shape := ⟨2, ![1024, 1]⟩
abbrev S4096x512 : Shape := ⟨2, ![4096, 512]⟩
abbrev S3x512 : Shape := ⟨2, ![3, 512]⟩
abbrev S1032x512 : Shape := ⟨2, ![1032, 512]⟩
abbrev S1x512 : Shape := ⟨2, ![1, 512]⟩

abbrev nBuf : Space → Nat
  | .hbm => 14
  | .vmem => 21
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S4x4096x16384, .f32⟩
  | .hbm, ⟨3, _⟩ => ⟨S4x3x8192, .f32⟩
  | .hbm, ⟨4, _⟩ => ⟨S4x8192, .f32⟩
  | .hbm, ⟨5, _⟩ => ⟨S4x4096x1, .f32⟩
  | .hbm, ⟨6, _⟩ => ⟨S4x4096x16384, .f32⟩
  | .hbm, ⟨7, _⟩ => ⟨S4x4096x16384, .f32⟩
  | .hbm, ⟨8, _⟩ => ⟨S4x4096x16384, .bf16⟩
  | .hbm, ⟨9, _⟩ => ⟨S16384x4096, .f32⟩
  | .hbm, ⟨10, _⟩ => ⟨S16384x4096, .bf16⟩
  | .hbm, ⟨11, _⟩ => ⟨S16384x128, .f32⟩
  | .hbm, ⟨12, _⟩ => ⟨S4x1x8192, .f32⟩
  | .hbm, ⟨13, _⟩ => ⟨S16384x8192, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x128, .f32⟩
  | .local _ .vmem, ⟨5, _⟩ => ⟨S256x128, .f32⟩
  | .local _ .vmem, ⟨6, _⟩ => ⟨S1024x4096, .bf16⟩
  | .local _ .vmem, ⟨7, _⟩ => ⟨S1024x4096, .bf16⟩
  | .local _ .vmem, ⟨8, _⟩ => ⟨S1024x128, .f32⟩
  | .local _ .vmem, ⟨9, _⟩ => ⟨S1024x128, .f32⟩
  | .local _ .vmem, ⟨10, _⟩ => ⟨S1x4096x512, .bf16⟩
  | .local _ .vmem, ⟨11, _⟩ => ⟨S1x4096x512, .bf16⟩
  | .local _ .vmem, ⟨12, _⟩ => ⟨S1x4096x512, .bf16⟩
  | .local _ .vmem, ⟨13, _⟩ => ⟨S1x4096x512, .bf16⟩
  | .local _ .vmem, ⟨14, _⟩ => ⟨S1x3x512, .f32⟩
  | .local _ .vmem, ⟨15, _⟩ => ⟨S1x3x512, .f32⟩
  | .local _ .vmem, ⟨16, _⟩ => ⟨S1x1x512, .f32⟩
  | .local _ .vmem, ⟨17, _⟩ => ⟨S1x1x512, .f32⟩
  | .local _ .vmem, ⟨18, _⟩ => ⟨S1024x512, .bf16⟩
  | .local _ .vmem, ⟨19, _⟩ => ⟨S1024x512, .bf16⟩
  | .local _ .vmem, ⟨20, _⟩ => ⟨S16x8x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def k1_cond1 (i : grid1.Coords) : BitVec 1 :=
  let arg0 : BitVec 32 := BitVec.ofNat 32 (i 0).val
  let c4_i32 : BitVec 32 := 4#32
  let v0 : BitVec 32 := Scalar.remsi arg0 c4_i32
  let c0_i32 : BitVec 32 := 0#32
  let v1 : BitVec 1 := Scalar.cmpi .eq v0 c0_i32
  let v2 : BitVec 32 := Scalar.extui v1
  let c0_i32_0 : BitVec 32 := 0#32
  let v3 : BitVec 1 := Scalar.cmpi .ne v2 c0_i32_0
  v3

def k1_off1 (i : grid1.Coords) : Fin 3 → Nat :=
  let arg1 : BitVec 32 := BitVec.ofNat 32 (i 1).val
  let v62 : Index := Scalar.indexCast arg1
  let c0_27 : Index := 0#32
  let c0_28 : Index := 0#32
  ![v62.toNat, 0, 0]
def k1_off2 (i : grid1.Coords) : Fin 3 → Nat :=
  let arg1 : BitVec 32 := BitVec.ofNat 32 (i 1).val
  let v23 : Index := Scalar.indexCast arg1
  let c0_13 : Index := 0#32
  let c0_14 : Index := 0#32
  ![v23.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x3x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceUpIdeal.lean ====
abbrev S4x4096x4096 : Shape := ⟨3, ![4, 4096, 4096]⟩
abbrev S4x4096 : Shape := ⟨2, ![4, 4096]⟩
abbrev S4x4096x16384 : Shape := ⟨3, ![4, 4096, 16384]⟩
abbrev S4x3x8192 : Shape := ⟨3, ![4, 3, 8192]⟩
abbrev S4x8192 : Shape := ⟨2, ![4, 8192]⟩
abbrev S1x4096 : Shape := ⟨2, ![1, 4096]⟩
abbrev S4096 : Shape := ⟨1, ![4096]⟩
abbrev S_ : Shape := ⟨0, ![]⟩
abbrev S4x4096x1 : Shape := ⟨3, ![4, 4096, 1]⟩
abbrev S1x1x4096 : Shape := ⟨3, ![1, 1, 4096]⟩
abbrev S1x4096x16384 : Shape := ⟨3, ![1, 4096, 16384]⟩
abbrev S4096x16384 : Shape := ⟨2, ![4096, 16384]⟩
abbrev S4x4096x8192 : Shape := ⟨3, ![4, 4096, 8192]⟩
abbrev S1x3x8192 : Shape := ⟨3, ![1, 3, 8192]⟩
abbrev S3x8192 : Shape := ⟨2, ![3, 8192]⟩
abbrev S1x8192 : Shape := ⟨2, ![1, 8192]⟩
abbrev S8192 : Shape := ⟨1, ![8192]⟩
abbrev S4x4098x8192 : Shape := ⟨3, ![4, 4098, 8192]⟩
abbrev S1x1x8192 : Shape := ⟨3, ![1, 1, 8192]⟩
abbrev S16384x8192 : Shape := ⟨2, ![16384, 8192]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S4x4096x16384, .f32⟩
  | .hbm, ⟨3, _⟩ => ⟨S4x3x8192, .f32⟩
  | .hbm, ⟨4, _⟩ => ⟨S4x8192, .f32⟩
  | .hbm, ⟨5, _⟩ => ⟨S1x4096, .f32⟩
  | .hbm, ⟨6, _⟩ => ⟨S4096, .f32⟩
  | .hbm, ⟨7, _⟩ => ⟨S4x4096x4096, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x4096, .f32⟩
  | .hbm, ⟨19, _⟩ => ⟨S4x4096x4096, .f32⟩
  | .hbm, ⟨20, _⟩ => ⟨S1x1x4096, .f32⟩
  | .hbm, ⟨21, _⟩ => ⟨S4x4096x4096, .f32⟩
  | .hbm, ⟨22, _⟩ => ⟨S4x4096x4096, .f32⟩
  | .hbm, ⟨23, _⟩ => ⟨S1x4096x16384, .f32⟩
  | .hbm, ⟨24, _⟩ => ⟨S4096x16384, .f32⟩
  | .hbm, ⟨25, _⟩ => ⟨S4x4096x16384, .f32⟩
  | .hbm, ⟨26, _⟩ => ⟨S4x4096x8192, .f32⟩
  | .hbm, ⟨27, _⟩ => ⟨S4x4096x8192, .f32⟩
  | .hbm, ⟨28, _⟩ => ⟨S1x3x8192, .f32⟩
  | .hbm, ⟨29, _⟩ => ⟨S3x8192, .f32⟩
  | .hbm, ⟨30, _⟩ => ⟨S1x8192, .f32⟩
  | .hbm, ⟨31, _⟩ => ⟨S8192, .f32⟩
  | .hbm, ⟨32, _⟩ => ⟨S_, .i32⟩
  | .hbm, ⟨33, _⟩ => ⟨S_, .f32⟩
  | .hbm, ⟨34, _⟩ => ⟨S4x4098x8192, .f32⟩
  | .hbm, ⟨35, _⟩ => ⟨S4x4096x8192, .f32⟩
  | .hbm, ⟨36, _⟩ => ⟨S1x8192, .f32⟩
  | .hbm, ⟨37, _⟩ => ⟨S8192, .f32⟩
  | .hbm, ⟨38, _⟩ => ⟨S1x1x8192, .f32⟩
  | .hbm, ⟨39, _⟩ => ⟨S4x4096x8192, .f32⟩
  | .hbm, ⟨40, _⟩ => ⟨S4x4096x8192, .f32⟩
  | .hbm, ⟨41, _⟩ => ⟨S4x4096x8192, .f32⟩
  | .hbm, ⟨42, _⟩ => ⟨S1x8192, .f32⟩
  | .hbm, ⟨43, _⟩ => ⟨S8192, .f32⟩
  | .hbm, ⟨44, _⟩ => ⟨S1x1x8192, .f32⟩
  | .hbm, ⟨45, _⟩ => ⟨S4x4096x8192, .f32⟩
  | .hbm, ⟨46, _⟩ => ⟨S4x4096x8192, .f32⟩
  | .hbm, ⟨47, _⟩ => ⟨S4x4096x8192, .f32⟩
  | .hbm, ⟨48, _⟩ => ⟨S1x8192, .f32⟩
  | .hbm, ⟨49, _⟩ => ⟨S8192, .f32⟩
  | .hbm, ⟨50, _⟩ => ⟨S1x1x8192, .f32⟩
  | .hbm, ⟨51, _⟩ => ⟨S4x4096x8192, .f32⟩
  | .hbm, ⟨52, _⟩ => ⟨S4x4096x8192, .f32⟩
  | .hbm, ⟨53, _⟩ => ⟨S4x4096x8192, .f32⟩
  | .hbm, ⟨54, _⟩ => ⟨S1x1x8192, .f32⟩
  | .hbm, ⟨55, _⟩ => ⟨S4x4096x8192, .f32⟩
  | .hbm, ⟨56, _⟩ => ⟨S4x4096x8192, .f32⟩
  | .hbm, ⟨57, _⟩ => ⟨S4x4096x8192, .f32⟩
  | .hbm, ⟨58, _⟩ => ⟨S4x4096x8192, .f32⟩
  | .hbm, ⟨59, _⟩ => ⟨S_, .f32⟩
  | .hbm, ⟨60, _⟩ => ⟨S4x4096x8192, .f32⟩
  | .hbm, ⟨61, _⟩ => ⟨S4x4096x8192, .f32⟩
  | .hbm, ⟨62, _⟩ => ⟨S_, .f32⟩
  | .hbm, ⟨63, _⟩ => ⟨S4x4096x8192, .f32⟩
  | .hbm, ⟨64, _⟩ => ⟨S4x4096x8192, .f32⟩
  | .hbm, ⟨65, _⟩ => ⟨S4x4096x8192, .f32⟩
  | .hbm, ⟨66, _⟩ => ⟨S4x4096x8192, .f32⟩
  | .hbm, ⟨67, _⟩ => ⟨S16384x8192, .f32⟩
  | .hbm, ⟨68, _⟩ => ⟨S16384x8192, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== KernelDown.lean ====
abbrev S16384x8192 : Shape := ⟨2, ![16384, 8192]⟩
abbrev S4x8192x4096 : Shape := ⟨3, ![4, 8192, 4096]⟩
abbrev S16384x4096 : Shape := ⟨2, ![16384, 4096]⟩
abbrev S16384x128 : Shape := ⟨2, ![16384, 128]⟩
abbrev S1024x4096 : Shape := ⟨2, ![1024, 4096]⟩
abbrev S1x4096x1024 : Shape := ⟨3, ![1, 4096, 1024]⟩
abbrev S1024x1024 : Shape := ⟨2, ![1024, 1024]⟩
abbrev S1024x128 : Shape := ⟨2, ![1024, 128]⟩
abbrev S1024x256 : Shape := ⟨2, ![1024, 256]⟩
abbrev S1x4096x256 : Shape := ⟨3, ![1, 4096, 256]⟩
abbrev S4096x256 : Shape := ⟨2, ![4096, 256]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x8192, .bf16⟩
  | .hbm, ⟨1, _⟩ => ⟨S4x8192x4096, .f32⟩
  | .hbm, ⟨2, _⟩ => ⟨S16384x4096, .f32⟩
  | .hbm, ⟨3, _⟩ => ⟨S4x8192x4096, .bf16⟩
  | .hbm, ⟨4, _⟩ => ⟨S16384x4096, .f32⟩
  | .hbm, ⟨5, _⟩ => ⟨S16384x4096, .bf16⟩
  | .hbm, ⟨6, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c1_i32 : BitVec 32 := 1#32
  let v4 : BitVec 1 := Scalar.cmpi .slt arg2 c1_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg1 : BitVec 32 := BitVec.ofNat 32 (i 1).val
  let c0_i32_52 : BitVec 32 := 0#32
  let v68 : BitVec 1 := Scalar.cmpi .eq arg1 c0_i32_52
  let v69 : BitVec 32 := Scalar.extui v68
  let c0_i32_53 : BitVec 32 := 0#32
  let v70 : BitVec 1 := Scalar.cmpi .ne v69 c0_i32_53
  v70

def k0_cond5 (i : grid0.Coords) : BitVec 1 :=
  let arg1 : BitVec 32 := BitVec.ofNat 32 (i 1).val
  let c0_i32_54 : BitVec 32 := 0#32
  let v71 : BitVec 1 := Scalar.cmpi .sgt arg1 c0_i32_54
  let v72 : BitVec 32 := Scalar.extui v71
  let c0_i32_55 : BitVec 32 := 0#32
  let v73 : BitVec 1 := Scalar.cmpi .ne v72 c0_i32_55
  v73

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== ReferenceDownIdeal.lean ====
abbrev S16384x8192 : Shape := ⟨2, ![16384, 8192]⟩
abbrev S4x8192x4096 : Shape := ⟨3, ![4, 8192, 4096]⟩
abbrev S16384x4096 : Shape := ⟨2, ![16384, 4096]⟩
abbrev S1x8192x4096 : Shape := ⟨3, ![1, 8192, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S4x8192x4096, .f32⟩
  | .hbm, ⟨2, _⟩ => ⟨S16384x4096, .f32⟩
  | .hbm, ⟨3, _⟩ => ⟨S16384x8192, .f32⟩
  | .hbm, ⟨4, _⟩ => ⟨S1x8192x4096, .f32⟩
  | .hbm, ⟨5, _⟩ => ⟨S8192x4096, .f32⟩
  | .hbm, ⟨6, _⟩ => ⟨S16384x4096, .f32⟩
  | .hbm, ⟨7, _⟩ => ⟨S16384x4096, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelIn.lean ====
abbrev S4x4096x4096 : Shape := ⟨3, ![4, 4096, 4096]⟩
abbrev S4x4096 : Shape := ⟨2, ![4, 4096]⟩
abbrev S2x4096x14376 : Shape := ⟨3, ![2, 4096, 14376]⟩
abbrev S2x4096 : Shape := ⟨2, ![2, 4096]⟩
abbrev S2x4096x1 : Shape := ⟨3, ![2, 4096, 1]⟩
abbrev S2x4096x6144 : Shape := ⟨3, ![2, 4096, 6144]⟩
abbrev S2x4096x8192 : Shape := ⟨3, ![2, 4096, 8192]⟩
abbrev S2x4096x14336 : Shape := ⟨3, ![2, 4096, 14336]⟩
abbrev S16384x4096 : Shape := ⟨2, ![16384, 4096]⟩
abbrev S16384x128 : Shape := ⟨2, ![16384, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S16384x14336 : Shape := ⟨2, ![16384, 14336]⟩
abbrev S1024x4096 : Shape := ⟨2, ![1024, 4096]⟩
abbrev S1024x128 : Shape := ⟨2, ![1024, 128]⟩
abbrev S1x4096x1024 : Shape := ⟨3, ![1, 4096, 1024]⟩
abbrev S1024x1024 : Shape := ⟨2, ![1024, 1024]⟩
abbrev S4096x1024 : Shape := ⟨2, ![4096, 1024]⟩
abbrev S1024x1 : Shape := ⟨2, ![1024, 1]⟩

abbrev nBuf : Space → Nat
  | .hbm => 15
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S2x4096x14376, .f32⟩
  | .hbm, ⟨3, _⟩ => ⟨S2x4096, .f32⟩
  | .hbm, ⟨4, _⟩ => ⟨S2x4096x1, .f32⟩
  | .hbm, ⟨5, _⟩ => ⟨S2x4096x6144, .f32⟩
  | .hbm, ⟨6, _⟩ => ⟨S2x4096x8192, .f32⟩
  | .hbm, ⟨7, _⟩ => ⟨S2x4096x14336, .f32⟩
  | .hbm, ⟨8, _⟩ => ⟨S2x4096x14336, .f32⟩
  | .hbm, ⟨9, _⟩ => ⟨S2x4096x14336, .f32⟩
  | .hbm, ⟨10, _⟩ => ⟨S2x4096x14336, .bf16⟩
  | .hbm, ⟨11, _⟩ => ⟨S16384x4096, .f32⟩
  | .hbm, ⟨12, _⟩ => ⟨S16384x4096, .bf16⟩
  | .hbm, ⟨13, _⟩ => ⟨S16384x128, .f32⟩
  | .hbm, ⟨14, _⟩ => ⟨S16384x14336, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x128, .f32⟩
  | .local _ .vmem, ⟨5, _⟩ => ⟨S256x128, .f32⟩
  | .local _ .vmem, ⟨6, _⟩ => ⟨S1024x4096, .bf16⟩
  | .local _ .vmem, ⟨7, _⟩ => ⟨S1024x4096, .bf16⟩
  | .local _ .vmem, ⟨8, _⟩ => ⟨S1024x128, .f32⟩
  | .local _ .vmem, ⟨9, _⟩ => ⟨S1024x128, .f32⟩
  | .local _ .vmem, ⟨10, _⟩ => ⟨S1x4096x1024, .bf16⟩
  | .local _ .vmem, ⟨11, _⟩ => ⟨S1x4096x1024, .bf16⟩
  | .local _ .vmem, ⟨12, _⟩ => ⟨S1024x1024, .f32⟩
  | .local _ .vmem, ⟨13, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 14], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceInIdeal.lean ====
abbrev S4x4096x4096 : Shape := ⟨3, ![4, 4096, 4096]⟩
abbrev S4x4096 : Shape := ⟨2, ![4, 4096]⟩
abbrev S2x4096x14376 : Shape := ⟨3, ![2, 4096, 14376]⟩
abbrev S1x4096 : Shape := ⟨2, ![1, 4096]⟩
abbrev S4096 : Shape := ⟨1, ![4096]⟩
abbrev S_ : Shape := ⟨0, ![]⟩
abbrev S4x4096x1 : Shape := ⟨3, ![4, 4096, 1]⟩
abbrev S1x1x4096 : Shape := ⟨3, ![1, 1, 4096]⟩
abbrev S1x4096x14376 : Shape := ⟨3, ![1, 4096, 14376]⟩
abbrev S4096x14376 : Shape := ⟨2, ![4096, 14376]⟩
abbrev S4x4096x14376 : Shape := ⟨3, ![4, 4096, 14376]⟩
abbrev S4x4096x6144 : Shape := ⟨3, ![4, 4096, 6144]⟩
abbrev S4x4096x8192 : Shape := ⟨3, ![4, 4096, 8192]⟩
abbrev S4x4096x14336 : Shape := ⟨3, ![4, 4096, 14336]⟩
abbrev S16384x14336 : Shape := ⟨2, ![16384, 14336]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S2x4096x14376, .f32⟩
  | .hbm, ⟨3, _⟩ => ⟨S1x4096, .f32⟩
  | .hbm, ⟨4, _⟩ => ⟨S4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | .hbm, ⟨21, _⟩ => ⟨S1x4096x14376, .f32⟩
  | .hbm, ⟨22, _⟩ => ⟨S4096x14376, .f32⟩
  | .hbm, ⟨23, _⟩ => ⟨S4x4096x14376, .f32⟩
  | .hbm, ⟨24, _⟩ => ⟨S4x4096x6144, .f32⟩
  | .hbm, ⟨25, _⟩ => ⟨S4x4096x8192, .f32⟩
  | .hbm, ⟨26, _⟩ => ⟨S4x4096x14336, .f32⟩
  | .hbm, ⟨27, _⟩ => ⟨S16384x14336, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== KernelIn2.lean ====
abbrev S4x4096x4096 : Shape := ⟨3, ![4, 4096, 4096]⟩
abbrev S4x4096 : Shape := ⟨2, ![4, 4096]⟩
abbrev S2x4096x18560 : Shape := ⟨3, ![2, 4096, 18560]⟩
abbrev S2x4096 : Shape := ⟨2, ![2, 4096]⟩
abbrev S2x4096x1 : Shape := ⟨3, ![2, 4096, 1]⟩
abbrev S16384x4096 : Shape := ⟨2, ![16384, 4096]⟩
abbrev S16384x128 : Shape := ⟨2, ![16384, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S2x4096x18432 : Shape := ⟨3, ![2, 4096, 18432]⟩
abbrev S16384x18432 : Shape := ⟨2, ![16384, 18432]⟩
abbrev S1024x4096 : Shape := ⟨2, ![1024, 4096]⟩
abbrev S1024x128 : Shape := ⟨2, ![1024, 128]⟩
abbrev S1x4096x1024 : Shape := ⟨3, ![1, 4096, 1024]⟩
abbrev S1024x1024 : Shape := ⟨2, ![1024, 1024]⟩
abbrev S4096x1024 : Shape := ⟨2, ![4096, 1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S2x4096x18560, .f32⟩
  | .hbm, ⟨3, _⟩ => ⟨S2x4096, .f32⟩
  | .hbm, ⟨4, _⟩ => ⟨S2x4096x1, .f32⟩
  | .hbm, ⟨5, _⟩ => ⟨S2x4096x18560, .f32⟩
  | .hbm, ⟨6, _⟩ => ⟨S2x4096x18560, .f32⟩
  | .hbm, ⟨7, _⟩ => ⟨S2x4096x18560, .bf16⟩
  | .hbm, ⟨8, _⟩ => ⟨S16384x4096, .f32⟩
  | .hbm, ⟨9, _⟩ => ⟨S16384x4096, .bf16⟩
  | .hbm, ⟨10, _⟩ => ⟨S16384x128, .f32⟩
  | .hbm, ⟨11, _⟩ => ⟨S2x4096x18432, .bf16⟩
  | .hbm, ⟨12, _⟩ => ⟨S16384x18432, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S256x128, .f32⟩
  | .local _ .vmem, ⟨5, _⟩ => ⟨S256x128, .f32⟩
  | .local _ .vmem, ⟨6, _⟩ => ⟨S1024x4096, .bf16⟩
  | .local _ .vmem, ⟨7, _⟩ => ⟨S1024x4096, .bf16⟩
  | .local _ .vmem, ⟨8, _⟩ => ⟨S1024x128, .f32⟩
  | .local _ .vmem, ⟨9, _⟩ => ⟨S1024x128, .f32⟩
  | .local _ .vmem, ⟨10, _⟩ => ⟨S1x4096x1024, .bf16⟩
  | .local _ .vmem, ⟨11, _⟩ => ⟨S1x4096x1024, .bf16⟩
  | .local _ .vmem, ⟨12, _⟩ => ⟨S1024x1024, .f32⟩
  | .local _ .vmem, ⟨13, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 18], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIn2Ideal.lean ====
abbrev S4x4096x4096 : Shape := ⟨3, ![4, 4096, 4096]⟩
abbrev S4x4096 : Shape := ⟨2, ![4, 4096]⟩
abbrev S2x4096x18560 : Shape := ⟨3, ![2, 4096, 18560]⟩
abbrev S1x4096 : Shape := ⟨2, ![1, 4096]⟩
abbrev S4096 : Shape := ⟨1, ![4096]⟩
abbrev S_ : Shape := ⟨0, ![]⟩
abbrev S4x4096x1 : Shape := ⟨3, ![4, 4096, 1]⟩
abbrev S1x1x4096 : Shape := ⟨3, ![1, 1, 4096]⟩
abbrev S1x4096x18560 : Shape := ⟨3, ![1, 4096, 18560]⟩
abbrev S4096x18560 : Shape := ⟨2, ![4096, 18560]⟩
abbrev S4x4096x18560 : Shape := ⟨3, ![4, 4096, 18560]⟩
abbrev S4x4096x18432 : Shape := ⟨3, ![4, 4096, 18432]⟩
abbrev S16384x18432 : Shape := ⟨2, ![16384, 18432]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .f32⟩
  | .hbm, ⟨2, _⟩ => ⟨S2x4096x18560, .f32⟩
  | .hbm, ⟨3, _⟩ => ⟨S1x4096, .f32⟩
  | .hbm, ⟨4, _⟩ => ⟨S4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | .hbm, ⟨21, _⟩ => ⟨S1x4096x18560, .f32⟩
  | .hbm, ⟨22, _⟩ => ⟨S4096x18560, .f32⟩
  | .hbm, ⟨23, _⟩ => ⟨S4x4096x18560, .f32⟩
  | .hbm, ⟨24, _⟩ => ⟨S4x4096x18432, .f32⟩
  | .hbm, ⟨25, _⟩ => ⟨S16384x18432, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== KernelOut.lean ====
abbrev S16384x4096 : Shape := ⟨2, ![16384, 4096]⟩
abbrev S2x4096x4096 : Shape := ⟨3, ![2, 4096, 4096]⟩
abbrev S16384x128 : Shape := ⟨2, ![16384, 128]⟩
abbrev S1024x4096 : Shape := ⟨2, ![1024, 4096]⟩
abbrev S1x4096x1024 : Shape := ⟨3, ![1, 4096, 1024]⟩
abbrev S1024x1024 : Shape := ⟨2, ![1024, 1024]⟩
abbrev S1024x128 : Shape := ⟨2, ![1024, 128]⟩
abbrev S1024x256 : Shape := ⟨2, ![1024, 256]⟩
abbrev S1x4096x256 : Shape := ⟨3, ![1, 4096, 256]⟩
abbrev S4096x256 : Shape := ⟨2, ![4096, 256]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S2x4096x4096, .bf16⟩
  | .hbm, ⟨4, _⟩ => ⟨S16384x4096, .f32⟩
  | .hbm, ⟨5, _⟩ => ⟨S16384x4096, .bf16⟩
  | .hbm, ⟨6, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 1], ![false, false, false]⟩

def k0_cond1 (i : grid0.Coords) : BitVec 1 :=
  let arg1 : BitVec 32 := BitVec.ofNat 32 (i 1).val
  let c0_i32 : BitVec 32 := 0#32
  let v53 : BitVec 1 := Scalar.cmpi .eq arg1 c0_i32
  let v54 : BitVec 32 := Scalar.extui v53
  let c0_i32_47 : BitVec 32 := 0#32
  let v55 : BitVec 1 := Scalar.cmpi .ne v54 c0_i32_47
  v55

def k0_cond2 (i : grid0.Coords) : BitVec 1 :=
  let arg1 : BitVec 32 := BitVec.ofNat 32 (i 1).val
  let c0_i32_48 : BitVec 32 := 0#32
  let v56 : BitVec 1 := Scalar.cmpi .sgt arg1 c0_i32_48
  let v57 : BitVec 32 := Scalar.extui v56
  let c0_i32_49 : BitVec 32 := 0#32
  let v58 : BitVec 1 := Scalar.cmpi .ne v57 c0_i32_49
  v58

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== ReferenceOutIdeal.lean ====
abbrev S16384x4096 : Shape := ⟨2, ![16384, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S16384x4096, .f32⟩
  | .hbm, ⟨4, _⟩ => ⟨S1x4096x4096, .f32⟩
  | .hbm, ⟨5, _⟩ => ⟨S4096x4096, .f32⟩
  | .hbm, ⟨6, _⟩ => ⟨S16384x4096, .f32⟩
  | .hbm, ⟨7, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.ChunkSpec.lean ====
/-
  One chunk of the stabilised mLSTM recurrence for one head, over the extended reals, entry by entry.

  A chunk has 128 rows. `q`, `k` are its rows of 256 query and (scaled) key entries, `v` its rows of 512 value entries,
  `cb` the accumulated log forget gates and `li` the log input gates; the state is the matrix `C`, the normaliser `n`
  and the running maximum `m`. These are the formulas both the kernel and the reference are shown to compute.
-/
module

public import Idealize.ShloMosaic.PureOps.Ideal

@[expose] public section

noncomputable section

open Idealize.ShloMosaic

namespace Mlstm

/-- One extended real per row of a chunk. -/
abbrev Row : Type := Fin 128 → EReal

variable (q k : Fin 128 → Fin 256 → EReal) (v : Fin 128 → Fin 512 → EReal) (cb li : Row)
  (C : Fin 256 → Fin 512 → EReal) (n : Fin 256 → EReal) (m : EReal)

/-- The exponent with which row `s` enters row `t`: minus infinity for a later row. -/
def dec (t s : Fin 128) : EReal := if s.val ≤ t.val then cb t - cb s + li s else ⊥
/-- The stabiliser of row `t`: the greatest exponent, the carried state's included. -/
def top (t : Fin 128) : EReal := max (cb t + m) (Finset.univ.fold max ⊥ fun s => dec cb li t s)
/-- The weighted score of row `s` for row `t`. -/
def score (t s : Fin 128) : EReal := (∑ d, q t d * k s d) * Ideal.exp (dec cb li t s - top cb li m t)
/-- The carried state's weight in row `t`. -/
def carry (t : Fin 128) : EReal := Ideal.exp (cb t + m - top cb li m t)
/-- The numerator of row `t`. -/
def num (t : Fin 128) (e : Fin 512) : EReal :=
  (∑ s, score q k cb li m t s * v s e) + carry cb li m t * ∑ d, q t d * C d e
/-- The denominator of row `t`. -/
def den (t : Fin 128) : EReal := (∑ s, score q k cb li m t s) + carry cb li m t * ∑ d, q t d * n d
/-- Row `t` of the head's output. -/
def hid (t : Fin 128) (e : Fin 512) : EReal :=
  Ideal.div (num q k v cb li C m t e) (max (max (den q k cb li n m t) (-(den q k cb li n m t))) (Ideal.exp (-(top cb li m t))))

/-- The exponent with which row `s` enters the new state. -/
def into (s : Fin 128) : EReal := cb 127 - cb s + li s
/-- The new running maximum. -/
def nextM : EReal := max (cb 127 + m) (Finset.univ.fold max ⊥ fun s => into cb li s)
/-- The old state's weight in the new one. -/
def keep : EReal := Ideal.exp (cb 127 + m - nextM cb li m)
/-- Row `s`'s weight in the new state. -/
def gain (s : Fin 128) : EReal := Ideal.exp (into cb li s - nextM cb li m)
/-- The new matrix state. -/
def nextC (d : Fin 256) (e : Fin 512) : EReal := keep cb li m * C d e + ∑ s, k s d * gain cb li m s * v s e
/-- The new normaliser. -/
def nextN (d : Fin 256) : EReal := keep cb li m * n d + ∑ s, k s d * gain cb li m s

/-- A row of a head's output, scaled to unit mean square. -/
def unit (x : Fin 512 → EReal) (e : Fin 512) : EReal :=
  x e * Ideal.rsqrt (Ideal.div (∑ d, x d * x d) (Ideal.ofBits .f32 0x44000000#32) + Ideal.ofBits .f32 0x358637BD#32)

/-- The sigmoid. -/
def sigmoid (x : EReal) : EReal := Ideal.div 1 (1 + Ideal.exp (-x))

/-- A gate's value, capped smoothly at fifteen. -/
def cap (x : EReal) : EReal := Ideal.ofBits .f32 0x41700000#32 * Ideal.tanh (Ideal.div x (Ideal.ofBits .f32 0x41700000#32))

/-- The logarithm of the sigmoid. -/
def logSigmoid (x : EReal) : EReal := -(max (-x) 0 + Ideal.log1p (Ideal.exp (-(max x (-x)))))

end Mlstm

end
-- ==== Proof.Seq.lean ====
/-
  The mLSTM head group of one batch row, over the extended reals: what both programs compute.

  `Args` is a batch row's columns of the combined projection, its gate columns, the gate biases and the gain. `Args.chunk`
  cuts a head's rows into chunks of 128, `seqSt` runs the recurrence of ChunkSpec over them from a zero state, and
  `Args.out` is an entry of the output: the head's row at unit mean square, times the gain, times the sigmoid of the
  output gate.
-/
module

public import proofs.«01_k».proof.Proof.ChunkSpec
public import Idealize.ShloMosaic.Lib.Pointwise

@[expose] public section

noncomputable section

open Idealize.ShloMosaic

namespace Mlstm

/-- What a chunk of one head is made of. -/
@[ext] structure Chunk where
  q : Fin 128 → Fin 256 → EReal
  k : Fin 128 → Fin 256 → EReal
  v : Fin 128 → Fin 512 → EReal
  cb : Row
  li : Row

/-- The state of one head. -/
@[ext] structure St where
  C : Fin 256 → Fin 512 → EReal
  n : Fin 256 → EReal
  m : EReal

/-- The state before the first chunk. -/
def St.zero : St := ⟨fun _ _ => 0, fun _ => 0, 0⟩

/-- The state after a chunk. -/
def St.next (S : St) (X : Chunk) : St :=
  ⟨nextC X.k X.v X.cb X.li S.C S.m, nextN X.k X.cb X.li S.n S.m, nextM X.cb X.li S.m⟩

/-- A row of a chunk's output. -/
def St.row (S : St) (X : Chunk) (t : Fin 128) (e : Fin 512) : EReal := hid X.q X.k X.v X.cb X.li S.C S.n S.m t e

/-- The state before chunk `r`. -/
def seqSt (X : ℕ → Chunk) : ℕ → St
  | 0 => St.zero
  | r + 1 => (seqSt X r).next (X r)

/-- The place in the sequence of row `t` of chunk `r`. -/
def at' (r : ℕ) (t : Fin 128) : Fin 4096 := ⟨(128 * r + t.val) % 4096, Nat.mod_lt _ (by decide)⟩

/-- A batch row's inputs. -/
structure Args where
  x : Fin 4096 → Fin 14336 → EReal
  g : Fin 4096 → Fin 128 → EReal
  bi : Fin 4 → EReal
  bf : Fin 4 → EReal
  ng : Fin 2048 → EReal

/-- The log input gate of head `h` at row `s`. -/
def Args.li (A : Args) (h : Fin 4) (s : Fin 4096) : EReal := cap (A.g s ⟨h.val, by omega⟩ + A.bi h)
/-- The log forget gate of head `h` at row `s`. -/
def Args.lf (A : Args) (h : Fin 4) (s : Fin 4096) : EReal := logSigmoid (cap (A.g s ⟨4 + h.val, by omega⟩ + A.bf h))

/-- Chunk `r` of head `h`. -/
def Args.chunk (A : Args) (h : Fin 4) (r : ℕ) : Chunk where
  q t d := A.x (at' r t) ⟨256 * h.val + d.val, by omega⟩
  k t d := A.x (at' r t) ⟨1024 + 256 * h.val + d.val, by omega⟩ * Ideal.ofBits .f32 0x3D800000#32
  v t e := A.x (at' r t) ⟨2048 + 512 * h.val + e.val, by omega⟩
  cb t := ∑ s with s.val ≤ t.val, A.lf h (at' r s)
  li t := A.li h (at' r t)

/-- Row `t` of chunk `r` of head `h`. -/
def Args.row (A : Args) (h : Fin 4) (r : ℕ) (t : Fin 128) (e : Fin 512) : EReal := (seqSt (A.chunk h) r).row (A.chunk h r) t e

/-- The output of head `h` at row `t` of chunk `r`, in its column `e`. -/
def Args.headOut (A : Args) (h : Fin 4) (r : ℕ) (t : Fin 128) (e : Fin 512) : EReal :=
  unit (A.row h r t) e * A.ng ⟨512 * h.val + e.val, by omega⟩ * sigmoid (A.x (at' r t) ⟨4096 + 512 * h.val + e.val, by omega⟩)

/-- The inputs of batch row `b`, from the arguments. -/
def argsOf (x : (⟨3, ![4, 4096, 14336]⟩ : Shape).Idx → EReal) (g : (⟨3, ![4, 4096, 128]⟩ : Shape).Idx → EReal) (bi bf : (⟨1, ![4]⟩ : Shape).Idx → EReal)
    (ng : (⟨1, ![2048]⟩ : Shape).Idx → EReal) (b : Fin 4) : Args :=
  ⟨fun s e => x (ix3 b s e), fun s e => g (ix3 b s e), fun h => bi (ix1 h), fun h => bf (ix1 h), fun e => ng (ix1 e)⟩

end Mlstm

end
-- ==== Proof.HeadOps.lean ====
/-
  One head of one chunk of the mLSTM kernel, as operations on whole vectors, for every float instance.

  The kernel's body repeats the same arithmetic for two chunks of 128 rows and four heads. This module names that
  arithmetic once, as functions of the head number and of the blocks it loads: the gates of a chunk (`gateCap`,
  `logSig`, `runSum`), the decay matrix and its row maximum, the head's normalised output (`headOut`) and the
  state it leaves (`newC`, `newN`, `newM`). `HeadRun.lean` shows that the generated run stores exactly these values.
-/
module

public import proofs.«01_k».proof.Proof.Gen.KernelIdeal

@[expose] public section

noncomputable section

open Idealize.ShloMosaic Idealize.ShloMosaic.TcCoe

namespace Cert.KernelIdeal.Head

open Cert.KernelIdeal Cert.KernelIdeal.Gen

variable {F : FTy → Type} [FloatOps F] [Named F]

/-- A block filled with one number. -/
abbrev fill (s : Shape) (b : BitVec 32) : FVec F s .f32 := broadcast s (Scalar.ofBits .f32 b)

/-! ## The gates of a chunk -/

/-- The causal mask: column at most row. -/
def tri : IVec S128x128 1 :=
  cmpi .sle (iota .tc S128x128 32 [1] iota_S128x128_d1_w32) (iota .tc S128x128 32 [0] iota_S128x128_d0_w32)

/-- The gate columns plus their bias, capped to 15 by a hyperbolic tangent. -/
def gateCap (g : Vec F S1x128x128 .f32) (b : Vec F S1x128 .f32) : FVec F S128x128 .f32 :=
  mulf (fill S128x128 0x41700000#32)
    (tanh (mulf (addf (shapeCast S128x128 g shapeCasts_S1x128x128_S128x128)
        (broadcastTo S128x128 (shapeCast S1x128 b shapeCasts_S1x128_S1x128) broadcasts_S1x128_S128x128))
      (broadcast S128x128 (Named.named κ "inv_cap" 0x3D888889#32))))

/-- The logarithm of the sigmoid, entry by entry. -/
def logSig (x : FVec F S128x128 .f32) : FVec F S128x128 .f32 :=
  subf (minimumf x (fill S128x128 0x00000000#32))
    (log1p (exp (subf (fill S128x128 0x00000000#32) (absf x))))

/-- One doubling step of the running sum down the rows: each row at or below row `s` gains the row `s` above it. -/
def shiftAdd (s : BitVec 32) (x : FVec F S128x128 .f32) : FVec F S128x128 .f32 :=
  addf x (select (cmpi .sge (iota .tc S128x128 32 [0] iota_S128x128_d0_w32) (broadcast S128x128 s))
    (dynamicRotate 0 s none x rotates_S128x128_d0) (fill S128x128 0x00000000#32))

/-- The running sum down the 128 rows, by seven doubling steps. -/
def runSum (x : FVec F S128x128 .f32) : FVec F S128x128 .f32 :=
  shiftAdd 64#32 (shiftAdd 32#32 (shiftAdd 16#32 (shiftAdd 8#32 (shiftAdd 4#32 (shiftAdd 2#32 (shiftAdd 1#32 x))))))

/-- The accumulated log forget gates of a chunk. -/
def gateSum (g : Vec F S1x128x128 .f32) (b : Vec F S1x128 .f32) : FVec F S128x128 .f32 := runSum (logSig (gateCap g b))

/-! ## One head's share of them -/

theorem sliceCol (h : Fin 4) : S128x128.Slices ![0, h.val] S128x1 := by revert h; decide
theorem sliceCol4 (h : Fin 4) : S128x128.Slices ![0, 4 + h.val] S128x1 := by revert h; decide
theorem sliceRow (h : Fin 4) : S128x128.Slices ![h.val, 0] S1x128 := by revert h; decide
theorem sliceRow4 (h : Fin 4) : S128x128.Slices ![4 + h.val, 0] S1x128 := by revert h; decide

/-- The head's log input gates, as a column. -/
def liCol (h : Fin 4) (li : FVec F S128x128 .f32) : FVec F S128x1 .f32 := extractStridedSlice S128x1 ![0, h.val] li (sliceCol h)
/-- The head's accumulated log forget gates, as a column. -/
def cbCol (h : Fin 4) (cb : FVec F S128x128 .f32) : FVec F S128x1 .f32 := extractStridedSlice S128x1 ![0, 4 + h.val] cb (sliceCol4 h)

/-- The decay exponents: row minus column accumulated gate plus column input gate, below the diagonal; minus infinity
    above it. -/
def decay (h : Fin 4) (li cb : FVec F S128x128 .f32) : FVec F S128x128 .f32 :=
  select tri
    (addf (subf (broadcastTo S128x128 (cbCol h cb) broadcasts_S128x1_S128x128)
        (broadcastTo S128x128 (extractStridedSlice S1x128 ![4 + h.val, 0]
          (transpose S128x128 [1, 0] cb transposes_S128x128_p1_0_S128x128) (sliceRow4 h)) broadcasts_S1x128_S128x128))
      (broadcastTo S128x128 (extractStridedSlice S1x128 ![h.val, 0]
        (transpose S128x128 [1, 0] li transposes_S128x128_p1_0_S128x128) (sliceRow h)) broadcasts_S1x128_S128x128))
    (fill S128x128 0xFF800000#32)

/-- The running maximum a head carries, out of its lane-wide scratch row. -/
def mCell (m : Vec F S1x1x128 .f32) : FVec F S1x1 .f32 :=
  extractStridedSlice S1x1 ![0, 0] (shapeCast S1x128 m shapeCasts_S1x1x128_S1x128) slices_S1x128_o0_0_S1x1

/-- The exponent with which the carried state enters each row. -/
def inter (h : Fin 4) (cb : FVec F S128x128 .f32) (m : Vec F S1x1x128 .f32) : FVec F S128x1 .f32 :=
  addf (cbCol h cb) (broadcastTo S128x1 (mCell m) broadcasts_S1x1_S128x1)

/-- Each row's stabiliser: the greatest exponent in it. -/
def rowMax (h : Fin 4) (li cb : FVec F S128x128 .f32) (m : Vec F S1x1x128 .f32) : FVec F S128x1 .f32 :=
  maximumf (inter h cb m)
    (shapeCast S128x1 (multiReduction .maximumf [1] S128 (decay h li cb) 0xFF800000#32 reduces_S128x128_S128 (.inl rfl) rfl)
      shapeCasts_S128_S128x1)

/-! ## The head's output -/

/-- A head's queries (and, below, its keys scaled by 1/16 and its values). -/
def qRows (q : Vec F S1x128x256 .f32) : FVec F S128x256 .f32 := shapeCast S128x256 q shapeCasts_S1x128x256_S128x256
def kRows (k : Vec F S1x128x256 .f32) : FVec F S128x256 .f32 :=
  mulf (shapeCast S128x256 k shapeCasts_S1x128x256_S128x256) (fill S128x256 0x3D800000#32)
def vRows (v : Vec F S1x128x512 .f32) : FVec F S128x512 .bf16 :=
  truncf .bf16 (shapeCast S128x512 v shapeCasts_S1x128x512_S128x512) bitsLt_bf16_f32

/-- Scores: products of queries and keys, weighted by the stabilised decay. -/
def scores (h : Fin 4) (q k : Vec F S1x128x256 .f32) (li cb : FVec F S128x128 .f32) (m : Vec F S1x1x128 .f32) :
    FVec F S128x128 .f32 :=
  mulf (matmul dot_S128x256_S128x256_S128x128_1_1_0_0_n_n none (truncf .bf16 (qRows q) bitsLt_bf16_f32)
      (truncf .bf16 (kRows k) bitsLt_bf16_f32) (constant S128x128 .f32 0x00000000#32))
    (exp (subf (decay h li cb) (broadcastTo S128x128 (rowMax h li cb m) broadcasts_S128x1_S128x128)))

/-- The weight of the carried state in each row. -/
def carryWt (h : Fin 4) (li cb : FVec F S128x128 .f32) (m : Vec F S1x1x128 .f32) : FVec F S128x1 .f32 :=
  exp (subf (inter h cb m) (rowMax h li cb m))

/-- The numerator: scores times values plus the weighted carried matrix read by the queries. -/
def numer (h : Fin 4) (q k : Vec F S1x128x256 .f32) (v : Vec F S1x128x512 .f32) (li cb : FVec F S128x128 .f32)
    (c : Vec F S1x256x512 .f32) (m : Vec F S1x1x128 .f32) : FVec F S128x512 .f32 :=
  addf (matmul dot_S128x128_S128x512_S128x512_1_0_0_1_n_n none (truncf .bf16 (scores h q k li cb m) bitsLt_bf16_f32)
      (vRows v) (constant S128x512 .f32 0x00000000#32))
    (mulf (broadcastTo S128x512 (carryWt h li cb m) broadcasts_S128x1_S128x512)
      (matmul dot_S128x256_S256x512_S128x512_1_0_0_1_n_n none (truncf .bf16 (qRows q) bitsLt_bf16_f32)
        (truncf .bf16 (shapeCast S256x512 c shapeCasts_S1x256x512_S256x512) bitsLt_bf16_f32)
        (constant S128x512 .f32 0x00000000#32)))

/-- The denominator: row sums of the scores plus the weighted carried normaliser read by the queries. -/
def denom (h : Fin 4) (q k : Vec F S1x128x256 .f32) (li cb : FVec F S128x128 .f32)
    (n : Vec F S1x1x256 .f32) (m : Vec F S1x1x128 .f32) : FVec F S128x1 .f32 :=
  addf (shapeCast S128x1 (multiReduction .add [1] S128 (scores h q k li cb m) 0x00000000#32 reduces_S128x128_S128 (.inl rfl) rfl)
      shapeCasts_S128_S128x1)
    (mulf (carryWt h li cb m)
      (shapeCast S128x1 (multiReduction .add [1] S128
        (mulf (qRows q) (broadcastTo S128x256 (shapeCast S1x256 n shapeCasts_S1x1x256_S1x256) broadcasts_S1x256_S128x256))
        0x00000000#32 reduces_S128x256_S128 (.inl rfl) rfl) shapeCasts_S128_S128x1))

/-- The head's rows before normalisation: numerator over the stabilised size of the denominator. -/
def rows (h : Fin 4) (q k : Vec F S1x128x256 .f32) (v : Vec F S1x128x512 .f32) (li cb : FVec F S128x128 .f32)
    (c : Vec F S1x256x512 .f32) (n : Vec F S1x1x256 .f32) (m : Vec F S1x1x128 .f32) : FVec F S128x512 .f32 :=
  divf (numer h q k v li cb c m)
    (broadcastTo S128x512 (maximumf (absf (denom h q k li cb n m))
      (exp (subf (fill S128x1 0x00000000#32) (rowMax h li cb m)))) broadcasts_S128x1_S128x512)

/-- Rows scaled to unit mean square. -/
def rmsRows (hh : FVec F S128x512 .f32) : FVec F S128x512 .f32 :=
  mulf hh (broadcastTo S128x512 (rsqrt (addf (divf
    (shapeCast S128x1 (multiReduction .add [1] S128 (mulf hh hh) 0x00000000#32 reduces_S128x512_S128 (.inl rfl) rfl)
      shapeCasts_S128_S128x1) (fill S128x1 0x44000000#32)) (fill S128x1 0x358637BD#32))) broadcasts_S128x1_S128x512)

/-- Normalised rows times the gain, times the sigmoid of the output gate written with a hyperbolic tangent. -/
def gated (hn : FVec F S128x512 .f32) (ng : Vec F S1x512 .f32) (og : Vec F S1x128x512 .f32) : FVec F S1x128x512 .bf16 :=
  shapeCast S1x128x512 (truncf .bf16 (mulf (mulf hn (broadcastTo S128x512 (shapeCast S1x512 ng shapeCasts_S1x512_S1x512)
      broadcasts_S1x512_S128x512))
    (addf (fill S128x512 0x3F000000#32) (mulf (fill S128x512 0x3F000000#32)
      (tanh (mulf (fill S128x512 0x3F000000#32) (shapeCast S128x512 og shapeCasts_S1x128x512_S128x512))))))
    bitsLt_bf16_f32) shapeCasts_S128x512_S1x128x512

/-- What the head stores for its 128 rows. -/
def headOut (h : Fin 4) (q k : Vec F S1x128x256 .f32) (v og : Vec F S1x128x512 .f32) (ng : Vec F S1x512 .f32)
    (li cb : FVec F S128x128 .f32) (c : Vec F S1x256x512 .f32) (n : Vec F S1x1x256 .f32) (m : Vec F S1x1x128 .f32) :
    FVec F S1x128x512 .bf16 :=
  gated (rmsRows (rows h q k v li cb c n m)) ng og

/-! ## The state the head leaves -/

/-- The last row's accumulated gate. -/
def cbLast (h : Fin 4) (cb : FVec F S128x128 .f32) : FVec F S1x1 .f32 :=
  extractStridedSlice S1x1 ![127, 0] (cbCol h cb) slices_S128x1_o127_0_S1x1

/-- The exponent with which each row enters the new state. -/
def wLog (h : Fin 4) (li cb : FVec F S128x128 .f32) : FVec F S128x1 .f32 :=
  addf (subf (broadcastTo S128x1 (cbLast h cb) broadcasts_S1x1_S128x1) (cbCol h cb)) (liCol h li)

/-- The new running maximum. -/
def mNext (h : Fin 4) (li cb : FVec F S128x128 .f32) (m : Vec F S1x1x128 .f32) : FVec F S1x1 .f32 :=
  maximumf (addf (cbLast h cb) (mCell m))
    (shapeCast S1x1 (multiReduction .maximumf [0] S1 (wLog h li cb) 0xFF800000#32 reduces_S128x1_S1 (.inl rfl) rfl)
      shapeCasts_S1_S1x1)

/-- The weight of the old state in the new one. -/
def oldWt (h : Fin 4) (li cb : FVec F S128x128 .f32) (m : Vec F S1x1x128 .f32) : FVec F S1x1 .f32 :=
  exp (subf (addf (cbLast h cb) (mCell m)) (mNext h li cb m))

/-- The keys, each weighted by its row's share of the new state. -/
def kWt (h : Fin 4) (k : Vec F S1x128x256 .f32) (li cb : FVec F S128x128 .f32) (m : Vec F S1x1x128 .f32) : FVec F S128x256 .f32 :=
  mulf (kRows k) (broadcastTo S128x256
    (exp (subf (wLog h li cb) (broadcastTo S128x1 (mNext h li cb m) broadcasts_S1x1_S128x1))) broadcasts_S128x1_S128x256)

/-- The new matrix state. -/
def newC (h : Fin 4) (k : Vec F S1x128x256 .f32) (v : Vec F S1x128x512 .f32) (li cb : FVec F S128x128 .f32)
    (c : Vec F S1x256x512 .f32) (m : Vec F S1x1x128 .f32) : FVec F S1x256x512 .f32 :=
  shapeCast S1x256x512 (addf (mulf (broadcastTo S256x512 (oldWt h li cb m) broadcasts_S1x1_S256x512)
      (shapeCast S256x512 c shapeCasts_S1x256x512_S256x512))
    (matmul dot_S128x256_S128x512_S256x512_0_0_1_1_n_n none (truncf .bf16 (kWt h k li cb m) bitsLt_bf16_f32) (vRows v)
      (constant S256x512 .f32 0x00000000#32))) shapeCasts_S256x512_S1x256x512

/-- The new normaliser state. -/
def newN (h : Fin 4) (k : Vec F S1x128x256 .f32) (li cb : FVec F S128x128 .f32) (n : Vec F S1x1x256 .f32)
    (m : Vec F S1x1x128 .f32) : FVec F S1x1x256 .f32 :=
  shapeCast S1x1x256 (addf (mulf (broadcastTo S1x256 (oldWt h li cb m) broadcasts_S1x1_S1x256)
      (shapeCast S1x256 n shapeCasts_S1x1x256_S1x256))
    (shapeCast S1x256 (multiReduction .add [0] S256 (kWt h k li cb m) 0x00000000#32 reduces_S128x256_S256 (.inl rfl) rfl)
      shapeCasts_S256_S1x256)) shapeCasts_S1x256_S1x1x256

/-- The new running maximum, over all lanes of its scratch row. -/
def newM (h : Fin 4) (li cb : FVec F S128x128 .f32) (m : Vec F S1x1x128 .f32) : FVec F S1x1x128 .f32 :=
  shapeCast S1x1x128 (broadcastTo S1x128 (shapeCast S1x1 (mNext h li cb m) shapeCasts_S1x1_S1x1) broadcasts_S1x1_S1x128)
    shapeCasts_S1x128_S1x1x128

end Cert.KernelIdeal.Head

end
-- ==== Proof.Scalars.lean ====
/-
  Scalar identities over the extended reals that the kernel's gates rest on.
-/
module

public import proofs.«01_k».proof.Proof.ChunkSpec

@[expose] public section

noncomputable section

open Idealize.ShloMosaic

namespace Mlstm

/-- The pattern of one half is one half. -/
theorem ofBits_half : Ideal.ofBits .f32 0x3F000000#32 = ((1 / 2 : ℝ) : EReal) := by
  simp [Ideal.ofBits, Ideal.ieee, -EReal.coe_mul]; norm_num

/-- The logistic function by a hyperbolic tangent, for a real argument. -/
theorem half_tanh (x : ℝ) : 1 / 2 + 1 / 2 * Real.tanh (1 / 2 * x) = 1 / (1 + Real.exp (-x)) := by
  rw [Real.tanh_eq_sinh_div_cosh, Real.sinh_eq, Real.cosh_eq]
  have h1 : Real.exp (-x) = Real.exp (-(1 / 2 * x)) * Real.exp (-(1 / 2 * x)) := by rw [← Real.exp_add]; ring_nf
  have h2 : Real.exp (1 / 2 * x) * Real.exp (-(1 / 2 * x)) = 1 := by rw [← Real.exp_add]; simp
  rw [h1]
  have ha := Real.exp_pos (1 / 2 * x)
  have hb := Real.exp_pos (-(1 / 2 * x))
  set a := Real.exp (1 / 2 * x)
  set b := Real.exp (-(1 / 2 * x))
  field_simp
  nlinarith

/-- The sigmoid written with a hyperbolic tangent is the sigmoid, at the infinities too. -/
theorem sigmoid_tanh (x : EReal) : Ideal.ofBits .f32 0x3F000000#32
    + Ideal.ofBits .f32 0x3F000000#32 * Ideal.tanh (Ideal.ofBits .f32 0x3F000000#32 * x) = sigmoid x := by
  rw [ofBits_half, sigmoid]
  induction x using EReal.rec with
  | bot =>
    rw [EReal.coe_mul_bot_of_pos (by norm_num)]
    have h1 : Ideal.tanh ⊥ = -1 := rfl
    have h2 : Ideal.exp (-⊥) = ⊤ := rfl
    have h3 : (1 : EReal) + ⊤ = ⊤ := rfl
    rw [h1, h2, h3]
    simp only [Ideal.div, EReal.top_ne_zero, if_false, EReal.inv_top, mul_zero]
    rw [mul_neg, mul_one, ← EReal.coe_neg, ← EReal.coe_add]; norm_num
  | top =>
    rw [EReal.coe_mul_top_of_pos (by norm_num)]
    have h1 : Ideal.tanh ⊤ = 1 := rfl
    have h2 : Ideal.exp (-⊤) = 0 := rfl
    rw [h1, h2, add_zero, mul_one, ← EReal.coe_add]
    have h4 : Ideal.div 1 1 = ((1 : ℝ) : EReal) := by simp [Ideal.div]
    rw [h4]; norm_num
  | coe x =>
    have hp : (1 + Real.exp (-x) : ℝ) ≠ 0 := by positivity
    have h1 (y : ℝ) : Ideal.tanh (y : EReal) = (Real.tanh y : EReal) := rfl
    have h2 (y : ℝ) : Ideal.exp (y : EReal) = (Real.exp y : EReal) := rfl
    rw [← EReal.coe_mul, h1, ← EReal.coe_mul, ← EReal.coe_add, half_tanh, ← EReal.coe_neg, h2,
      show (1 : EReal) = ((1 : ℝ) : EReal) from rfl, ← EReal.coe_add, Ideal.div_coe hp, EReal.coe_one, one_mul]

end Mlstm

end
-- ==== Proof.HeadAt.lean ====
/-
  The kernel's head operations read entry by entry at the extended reals.

  Each whole-vector function of `HeadOps.lean` is, at an index, the formula of `ChunkSpec.lean` of its operands' entries:
  casts to bfloat16 are the identity, a matrix product is the sum of products, a row reduction the sum or the maximum.
  The running sum by seven doubling steps is the sum of the rows up to each row (`runSum_at`).
-/
module

public import proofs.«01_k».proof.Proof.HeadOps
public import proofs.«01_k».proof.Proof.Scalars
public import Idealize.ShloMosaic.Lib.Pointwise
public import Idealize.ShloMosaic.Lib.WordCmp

@[expose] public section

noncomputable section

open Idealize.ShloMosaic Idealize.ShloMosaic.TcCoe

namespace Cert.KernelIdeal.Head

open Cert.KernelIdeal Cert.KernelIdeal.Gen

/-- The pattern of minus infinity is minus infinity. -/
theorem ofBits_ninf : Ideal.ofBits .f32 0xFF800000#32 = ⊥ := by
  simp [Ideal.ofBits, Ideal.ieee]

/-- A choice by "at most" between two small row numbers. -/
theorem select_sle {α : Type} (a b : Nat) (ha : a < 128) (hb : b < 128) (x y : α) :
    Scalar.select (IntOp.cmpi .sle (BitVec.ofNat 32 a) (BitVec.ofNat 32 b)) x y = if a ≤ b then x else y := by
  rw [WordCmp.cmpi_sle_ofNat (by omega) (by omega)]
  by_cases h : a ≤ b <;> simp [h, Scalar.select]

/-- A choice by "at least" between two small row numbers. -/
theorem select_sge {α : Type} (a b : Nat) (ha : a < 128) (hb : b < 128) (x y : α) :
    Scalar.select (IntOp.cmpi .sge (BitVec.ofNat 32 a) (BitVec.ofNat 32 b)) x y = if b ≤ a then x else y := by
  rw [WordCmp.cmpi_sge_ofNat (by omega) (by omega)]
  by_cases h : b ≤ a <;> simp [h, Scalar.select]

/-- The gate column of head `h`, and its forget-gate column. -/
abbrev cI (h : Fin 4) : Fin 128 := ⟨h.val, by omega⟩
abbrev cF (h : Fin 4) : Fin 128 := ⟨4 + h.val, by omega⟩
/-- The rows' input gates and accumulated forget gates of head `h`. -/
abbrev rowI (li : FVec Ideal S128x128 .f32) (h : Fin 4) : Mlstm.Row := fun t => li (ix2 t (cI h))
abbrev rowF (cb : FVec Ideal S128x128 .f32) (h : Fin 4) : Mlstm.Row := fun t => cb (ix2 t (cF h))
/-- The rows of a head's queries (or values) and of its scaled keys. -/
abbrev ent {n : Nat} (x : Vec Ideal (⟨3, ![1, 128, n]⟩ : Shape) .f32) : Fin 128 → Fin n → EReal := fun t d => x (ix3 0 t d)
abbrev key (k : Vec Ideal S1x128x256 .f32) : Fin 128 → Fin 256 → EReal := fun t d => k (ix3 0 t d) * Ideal.ofBits .f32 0x3D800000#32

variable (h : Fin 4) (q k : Vec Ideal S1x128x256 .f32) (v og : Vec Ideal S1x128x512 .f32) (li cb : FVec Ideal S128x128 .f32)
  (c : Vec Ideal S1x256x512 .f32) (n : Vec Ideal S1x1x256 .f32) (m : Vec Ideal S1x1x128 .f32)

theorem decay_at (t s : Fin 128) : decay h li cb (ix2 t s) = Mlstm.dec (rowF cb h) (rowI li h) t s := by
  pointwise [decay, tri, cbCol]
  rw [select_sle _ _ s.isLt t.isLt, ofBits_ninf]
  rfl

theorem inter_at (t : Fin 128) : inter h cb m (ix2 t 0) = rowF cb h t + m (ix3 0 0 0) := by
  pointwise [inter, cbCol, mCell]

theorem rowMax_at (t : Fin 128) : rowMax h li cb m (ix2 t 0) = Mlstm.top (rowF cb h) (rowI li h) (m (ix3 0 0 0)) t := by
  pointwise [rowMax, inter, cbCol, mCell]
  simp only [decay_at, ofBits_ninf]
  rfl

theorem scores_at (t s : Fin 128) : scores h q k li cb m (ix2 t s)
    = Mlstm.score (ent q) (key k) (rowF cb h) (rowI li h) (m (ix3 0 0 0)) t s := by
  pointwise [scores, qRows, kRows]
  simp only [decay_at, rowMax_at]
  rfl

theorem carryWt_at (t : Fin 128) : carryWt h li cb m (ix2 t 0) = Mlstm.carry (rowF cb h) (rowI li h) (m (ix3 0 0 0)) t := by
  pointwise [carryWt]
  simp only [inter_at, rowMax_at]
  rfl

theorem numer_at (t : Fin 128) (e : Fin 512) : numer h q k v li cb c m (ix2 t e)
    = Mlstm.num (ent q) (key k) (ent v) (rowF cb h) (rowI li h) (fun d e => c (ix3 0 d e)) (m (ix3 0 0 0)) t e := by
  pointwise [numer, qRows, vRows]
  simp only [scores_at, carryWt_at]
  rfl

theorem denom_at (t : Fin 128) : denom h q k li cb n m (ix2 t 0)
    = Mlstm.den (ent q) (key k) (rowF cb h) (rowI li h) (fun d => n (ix3 0 0 d)) (m (ix3 0 0 0)) t := by
  pointwise [denom, qRows]
  simp only [scores_at, carryWt_at]
  rfl

theorem rows_at (t : Fin 128) (e : Fin 512) : rows h q k v li cb c n m (ix2 t e)
    = Mlstm.hid (ent q) (key k) (ent v) (rowF cb h) (rowI li h) (fun d e => c (ix3 0 d e)) (fun d => n (ix3 0 0 d)) (m (ix3 0 0 0)) t e := by
  pointwise [rows]
  simp only [numer_at, denom_at, rowMax_at, zero_sub, Ideal.absf_def]
  rfl

/-- Rows scaled to unit mean square, entry by entry. -/
theorem rmsRows_at (hh : FVec Ideal S128x512 .f32) (t : Fin 128) (e : Fin 512) : rmsRows hh (ix2 t e)
    = Mlstm.unit (fun e => hh (ix2 t e)) e := by
  pointwise [rmsRows]
  rfl

theorem headOut_at (ng : Vec Ideal S1x512 .f32) (t : Fin 128) (e : Fin 512) : headOut h q k v og ng li cb c n m (ix3 0 t e)
    = Mlstm.unit (fun e => Mlstm.hid (ent q) (key k) (ent v) (rowF cb h) (rowI li h) (fun d e => c (ix3 0 d e)) (fun d => n (ix3 0 0 d)) (m (ix3 0 0 0)) t e) e
      * ng (ix2 0 e) * Mlstm.sigmoid (og (ix3 0 t e)) := by
  pointwise [headOut, gated]
  simp only [rmsRows_at, rows_at, Mlstm.sigmoid_tanh]

theorem wLog_at (s : Fin 128) : wLog h li cb (ix2 s 0) = Mlstm.into (rowF cb h) (rowI li h) s := by
  pointwise [wLog, cbLast, cbCol, liCol]
  rfl

theorem mNext_at : mNext h li cb m (ix2 0 0) = Mlstm.nextM (rowF cb h) (rowI li h) (m (ix3 0 0 0)) := by
  pointwise [mNext, cbLast, cbCol, mCell]
  simp only [wLog_at, ofBits_ninf]
  rfl

theorem oldWt_at : oldWt h li cb m (ix2 0 0) = Mlstm.keep (rowF cb h) (rowI li h) (m (ix3 0 0 0)) := by
  pointwise [oldWt, cbLast, cbCol, mCell]
  simp only [mNext_at]
  rfl

theorem kWt_at (s : Fin 128) (d : Fin 256) : kWt h k li cb m (ix2 s d)
    = key k s d * Mlstm.gain (rowF cb h) (rowI li h) (m (ix3 0 0 0)) s := by
  pointwise [kWt, kRows]
  simp only [mNext_at, wLog_at]
  rfl

theorem newC_at (d : Fin 256) (e : Fin 512) : newC h k v li cb c m (ix3 0 d e)
    = Mlstm.nextC (key k) (ent v) (rowF cb h) (rowI li h) (fun d e => c (ix3 0 d e)) (m (ix3 0 0 0)) d e := by
  pointwise [newC, vRows]
  simp only [oldWt_at, kWt_at]
  rfl

theorem newN_at (d : Fin 256) : newN h k li cb n m (ix3 0 0 d)
    = Mlstm.nextN (key k) (rowF cb h) (rowI li h) (fun d => n (ix3 0 0 d)) (m (ix3 0 0 0)) d := by
  pointwise [newN]
  simp only [oldWt_at, kWt_at]
  rfl

theorem newM_at (l : Fin 128) : newM h li cb m (ix3 0 0 l) = Mlstm.nextM (rowF cb h) (rowI li h) (m (ix3 0 0 0)) := by
  pointwise [newM]
  exact mNext_at h li cb m

/-! ## The running sum -/

theorem shiftAdd_at (b : BitVec 32) (w : Nat) (hw : w < 128) (hb : b = BitVec.ofNat 32 w) (x : FVec Ideal S128x128 .f32) (t e : Fin 128) :
    shiftAdd b x (ix2 t e) = x (ix2 t e) + if w ≤ t.val then x (ix2 ⟨t.val - w, by omega⟩ e) else 0 := by
  subst hb
  pointwise [shiftAdd]
  rw [select_sge _ _ t.isLt hw]
  split
  · rename_i hle
    have : (⟨(t.val + 128 - (BitVec.ofNat 32 w).toNat % 128) % 128, Nat.mod_lt _ (by omega)⟩ : Fin 128) = ⟨t.val - w, by omega⟩ := by
      apply Fin.ext
      have hn : (BitVec.ofNat 32 w).toNat = w := by simp; omega
      show (t.val + 128 - (BitVec.ofNat 32 w).toNat % 128) % 128 = t.val - w
      rw [hn]; omega
    rw [this]
  · rfl

/-- The sum of the last `w` rows up to row `t`. -/
def window (f : Mlstm.Row) (w : Nat) (t : Fin 128) : EReal := ∑ s with s.val ≤ t.val ∧ t.val < s.val + w, f s

/-- Adding the rows `w` further up doubles a window of `w` rows. -/
theorem window_double (f : Mlstm.Row) (w : Nat) (hw : 0 < w) (t : Fin 128) :
    window f w t + (if w ≤ t.val then window f w ⟨t.val - w, by omega⟩ else 0) = window f (w + w) t := by
  unfold window
  split
  · rename_i hle
    rw [← Finset.sum_union]
    · refine Finset.sum_congr (Finset.ext fun s => ?_) fun _ _ => rfl
      simp only [Finset.mem_union, Finset.mem_filter, Finset.mem_univ, true_and]
      omega
    · rw [Finset.disjoint_left]
      intro s
      simp only [Finset.mem_filter, Finset.mem_univ, true_and]
      omega
  · rw [add_zero]
    refine Finset.sum_congr (Finset.ext fun s => ?_) fun _ _ => rfl
    simp only [Finset.mem_filter, Finset.mem_univ, true_and]
    omega

/-- One doubling step on a vector of windows. -/
theorem shiftAdd_window (b : BitVec 32) (w : Nat) (h0 : 0 < w) (hw : w < 128) (hb : b = BitVec.ofNat 32 w) (x : FVec Ideal S128x128 .f32)
    (f : Mlstm.Row) (e : Fin 128) (hx : ∀ t, x (ix2 t e) = window f w t) (t : Fin 128) :
    shiftAdd b x (ix2 t e) = window f (w + w) t := by
  rw [shiftAdd_at b w hw hb, hx t, ← window_double f w h0]
  congr 1
  split
  · exact hx _
  · rfl

/-- The running sum is, at row `t`, the sum of the rows up to `t`. -/
theorem runSum_at (x : FVec Ideal S128x128 .f32) (t e : Fin 128) :
    runSum x (ix2 t e) = ∑ s with s.val ≤ t.val, x (ix2 s e) := by
  have h1 (t : Fin 128) : x (ix2 t e) = window (fun s => x (ix2 s e)) 1 t := by
    unfold window
    rw [show (Finset.univ.filter fun s : Fin 128 => s.val ≤ t.val ∧ t.val < s.val + 1) = {t} from Finset.ext fun s => by
      simp only [Finset.mem_filter, Finset.mem_univ, true_and, Finset.mem_singleton, Fin.ext_iff]; omega]
    simp
  have h2 := shiftAdd_window 1#32 1 (by omega) (by omega) rfl _ _ e h1
  have h3 := shiftAdd_window 2#32 2 (by omega) (by omega) rfl _ _ e h2
  have h4 := shiftAdd_window 4#32 4 (by omega) (by omega) rfl _ _ e h3
  have h5 := shiftAdd_window 8#32 8 (by omega) (by omega) rfl _ _ e h4
  have h6 := shiftAdd_window 16#32 16 (by omega) (by omega) rfl _ _ e h5
  have h7 := shiftAdd_window 32#32 32 (by omega) (by omega) rfl _ _ e h6
  have h8 := shiftAdd_window 64#32 64 (by omega) (by omega) rfl _ _ e h7
  refine (h8 t).trans (Finset.sum_congr (Finset.ext fun s => ?_) fun _ _ => rfl)
  simp only [Finset.mem_filter, Finset.mem_univ, true_and]
  omega

/-! ## The gates -/

/-- A gate value, capped. -/
theorem gateCap_at (g : Vec Ideal S1x128x128 .f32) (b : Vec Ideal S1x128 .f32) (t e : Fin 128) :
    gateCap g b (ix2 t e) = Mlstm.cap (g (ix3 0 t e) + b (ix2 0 e)) := by
  have h15 : Ideal.ofBits .f32 0x41700000#32 = ((15 : ℝ) : EReal) := by
    simp [Ideal.ofBits, Ideal.ieee, -EReal.coe_mul]; norm_num
  pointwise [gateCap]
  refine (congrArg (fun z : EReal => Ideal.ofBits .f32 0x41700000#32 * Ideal.tanh ((g (ix3 0 t e) + b (ix2 0 e)) * z))
    (IdealRules.named_const.ideal_named_scalar (κ := Cert.KernelIdeal.κ) (φ := .f32) "inv_cap" 0x3D888889#32 ((15⁻¹ : ℝ) : EReal) rfl)).trans ?_
  rw [Mlstm.cap, h15, Ideal.div_coe (by norm_num), one_div]

/-- The logarithm of a gate's sigmoid. -/
theorem logSig_at (x : FVec Ideal S128x128 .f32) (t e : Fin 128) :
    logSig x (ix2 t e) = Mlstm.logSigmoid (x (ix2 t e)) := by
  have min_zero (y : EReal) : min y 0 = -(max (-y) 0) := by
    rcases le_total y 0 with h | h
    · rw [min_eq_left h, max_eq_left (by simpa using EReal.neg_le_neg_iff.2 h), neg_neg]
    · rw [min_eq_right h, max_eq_right (by simpa using EReal.neg_le_neg_iff.2 h), neg_zero]
  have fin (y : EReal) : ∃ r : ℝ, Ideal.log1p (Ideal.exp (-(max y (-y)))) = r := by
    induction y with
    | bot => exact ⟨Real.log 1, by
        rw [show max (⊥ : EReal) (-⊥) = ⊤ from rfl, show -(⊤ : EReal) = ⊥ from rfl, show Ideal.exp ⊥ = 0 from rfl]
        show Ideal.log (1 + 0) = _
        rw [add_zero]
        exact if_neg (by norm_num)⟩
    | top => exact ⟨Real.log 1, by
        rw [show max (⊤ : EReal) (-⊤) = ⊤ from rfl, show -(⊤ : EReal) = ⊥ from rfl, show Ideal.exp ⊥ = 0 from rfl]
        show Ideal.log (1 + 0) = _
        rw [add_zero]
        exact if_neg (by norm_num)⟩
    | coe r => exact ⟨Real.log (1 + Real.exp (-(max r (-r)))), by
        rw [← EReal.coe_neg, ← EReal.coe_strictMono.monotone.map_max, ← EReal.coe_neg]
        show Ideal.log (1 + ((Real.exp (-(max r (-r))) : ℝ) : EReal)) = _
        rw [← EReal.coe_one, ← EReal.coe_add]
        exact if_neg (by have := Real.exp_pos (-(max r (-r))); linarith)⟩
  pointwise [logSig]
  rw [zero_sub, Ideal.absf_def, min_zero, Mlstm.logSigmoid]
  obtain ⟨r, hr⟩ := fin (x (ix2 t e))
  rw [hr, EReal.neg_add (Or.inr (EReal.coe_ne_top _)) (Or.inr (EReal.coe_ne_bot _))]

end Cert.KernelIdeal.Head

end
-- ==== Proof.HeadIn.lean ====
/-
  The blocks of a grid step, read off the arguments.

  Point `t` of the grid works on batch row `t / 16` and rows `256 (t % 16) …` of the sequence; the four projection windows
  take columns 0, 1024, 2048 and 4096 onward. The gate biases are the two bias arguments, one after the other.
-/
module

public import proofs.«01_k».proof.Proof.Gen.KernelIdeal.Frame
public import Idealize.ShloMosaic.Lib.Pipeline.ValueKit
public import Idealize.ShloMosaic.Lib.Pointwise
public import Idealize.ShloMosaic.Lib.Claim
public import Idealize.ShloMosaic.Lib.Routing.OpsOne

@[expose] public section

set_option maxRecDepth 16384

noncomputable section

open Idealize.ShloMosaic Idealize.ShloMosaic.TcCoe Idealize.SL.Sem

namespace Cert.KernelIdeal.Head

open Cert.KernelIdeal Cert.KernelIdeal.Gen

variable (m : (ℓ : Loc nD τ sig) → Buf (Elt Ideal) ℓ) (c : Dev nD) (t : Fin cfg0.N)

/-- Which blocks point `t` takes. -/
theorem idx : ∀ t : Fin cfg0.N, win0_0.index t = ![t.val / 16, t.val % 16, 0] ∧ win0_1.index t = ![t.val / 16, t.val % 16, 1]
    ∧ win0_2.index t = ![t.val / 16, t.val % 16, 1] ∧ win0_3.index t = ![t.val / 16, t.val % 16, 2]
    ∧ win0_4.index t = ![t.val / 16, t.val % 16, 0] ∧ win0_5.index t = ![0, 0] ∧ win0_6.index t = ![0, 0] :=
  (by decide +kernel : ∀ t : Fin grid0.N, _)

theorem pt_lt : t.val < 64 := lt_of_lt_of_eq t.isLt (show cfg0.N = 64 from N_0)

/-- The batch row of a point, and a row of its blocks as a row of the sequence. -/
abbrev batch : Fin 4 := ⟨t.val / 16, by have := pt_lt t; omega⟩
abbrev seqRow (r : Fin 256) : Fin 4096 := ⟨256 * (t.val % 16) + r.val, by omega⟩

theorem q_at (r : Fin 256) (d : Fin 1024) : (iblk m c 0 t : Vec Ideal S1x256x1024 .f32) (ix3 0 r d)
    = (m ((c : Thread nD τ).loc main_arg0) : Vec Ideal S4x4096x14336 .f32) (ix3 (batch t) (seqRow t r) ⟨d.val, by omega⟩) := by
  have h := pt_lt t
  blk_ext! [iblk, V, idx t]

theorem k_at (r : Fin 256) (d : Fin 1024) : (iblk m c 1 t : Vec Ideal S1x256x1024 .f32) (ix3 0 r d)
    = (m ((c : Thread nD τ).loc main_arg0) : Vec Ideal S4x4096x14336 .f32) (ix3 (batch t) (seqRow t r) ⟨1024 + d.val, by omega⟩) := by
  have h := pt_lt t
  blk_ext! [iblk, V, idx t]

theorem v_at (r : Fin 256) (d : Fin 2048) : (iblk m c 2 t : Vec Ideal S1x256x2048 .f32) (ix3 0 r d)
    = (m ((c : Thread nD τ).loc main_arg0) : Vec Ideal S4x4096x14336 .f32) (ix3 (batch t) (seqRow t r) ⟨2048 + d.val, by omega⟩) := by
  have h := pt_lt t
  blk_ext! [iblk, V, idx t]

theorem o_at (r : Fin 256) (d : Fin 2048) : (iblk m c 3 t : Vec Ideal S1x256x2048 .f32) (ix3 0 r d)
    = (m ((c : Thread nD τ).loc main_arg0) : Vec Ideal S4x4096x14336 .f32) (ix3 (batch t) (seqRow t r) ⟨4096 + d.val, by omega⟩) := by
  have h := pt_lt t
  blk_ext! [iblk, V, idx t]

theorem g_at (r : Fin 256) (d : Fin 128) : (iblk m c 4 t : Vec Ideal S1x256x128 .f32) (ix3 0 r d)
    = (m ((c : Thread nD τ).loc main_arg1) : Vec Ideal S4x4096x128 .f32) (ix3 (batch t) (seqRow t r) d) := by
  have h := pt_lt t
  blk_ext! [iblk, V, idx t]

theorem ng_at (e : Fin 2048) : (iblk m c 6 t : Vec Ideal S1x2048 .f32) (ix2 0 e)
    = (m ((c : Thread nD τ).loc main_arg4) : Vec Ideal S2048 .f32) (ix1 e) := by
  have h := pt_lt t
  blk_ext! [iblk, V, idx t]

/-- Update `k` of the row written at a pair of start words lands at column `k` further on in the start row. -/
theorem lands_row (i : IVec S2 32) (k : Fin 8) (x : Fin 1) (y : Fin 128) :
    scatter_S1x128_S2_S8_0_0_01_0.resultIdx? (ix1 k) i = some (ix2 x y)
      ↔ (i (ix1 (0 : Fin 2))).toInt = x.val ∧ (i (ix1 (1 : Fin 2))).toInt + (k.val : Int) = y.val := by
  have hw0 : scatter_S1x128_S2_S8_0_0_01_0.window (ix1 k) 0 = 0 := by
    unfold ScatterDims.window
    rw [dif_neg fun h => (of_decide_eq_true (List.mem_filter.1 h).2) (by decide)]
  have hw1 : scatter_S1x128_S2_S8_0_0_01_0.window (ix1 k) 1 = k.val := by
    unfold ScatterDims.window
    rw [dif_pos (by decide)]
    exact congrArg (fun t => ((ix1 k : S8.Idx) t).val) (Subsingleton.elim (α := Fin 1) _ 0)
  have s0 : scatter_S1x128_S2_S8_0_0_01_0.start (ix1 k) i 0 = (i (ix1 (0 : Fin 2))).toInt :=
    Routing.start_pair (R := 1) (C := 128) scatter_S1x128_S2_S8_0_0_01_0 rfl rfl i (ix1 k) 0
  have s1 : scatter_S1x128_S2_S8_0_0_01_0.start (ix1 k) i 1 = (i (ix1 (1 : Fin 2))).toInt :=
    Routing.start_pair (R := 1) (C := 128) scatter_S1x128_S2_S8_0_0_01_0 rfl rfl i (ix1 k) 1
  refine (Routing.resultIdx?_ix2 (R := 1) (C := 128) scatter_S1x128_S2_S8_0_0_01_0 (ix1 k) i x y).trans ?_
  rw [s0, s1, hw0, hw1]
  omega

/-- The eight gate biases, read from the padded row the host prepares. -/
theorem b_at (e : Fin 8) : (iblk m c 5 t : Vec Ideal S1x128 .f32) (ix2 0 ⟨e.val, by omega⟩)
    = if h : e.val < 4 then (m ((c : Thread nD τ).loc main_arg2) : Vec Ideal S4 .f32) (ix1 ⟨e.val, h⟩)
      else (m ((c : Thread nD τ).loc main_arg3) : Vec Ideal S4 .f32) (ix1 ⟨e.val - 4, by omega⟩) := by
  have e1 : (iblk m c 5 t : Vec Ideal S1x128 .f32) (ix2 0 ⟨e.val, by omega⟩) = (V m c main_v5 : Vec Ideal S1x128 .f32) (ix2 0 ⟨e.val, by omega⟩) := by
    blk_ext [iblk, idx t]
  rw [e1]
  entry_read
  have z0 : (concatenate S2 0 [⟨S1, broadcastInDim S1 ![] bcast_S_S1 (constantI S_ 32 0#32)⟩,
      ⟨S1, broadcastInDim S1 ![] bcast_S_S1 (constantI S_ 32 0#32)⟩] concatenates_S1_S1_S2_d0 : IVec S2 32) = fun _ => 0#32 := by
    funext i
    rw [ValueIdx.eq_ix1 i]
    pointwise []
    split <;> rfl
  rw [z0]
  refine (Routing.scatter_set_hit scatter_S1x128_S2_S8_0_0_01_0 _ _ _ _ _ (fun k hk => ?_) (ix1 e) ((lands_row _ e 0 ⟨e.val, by omega⟩).2 ⟨rfl, ?_⟩)).trans
    (b := concatenate S8 0 [⟨S4, m (c, Proc.tc.devRef main_arg2)⟩, ⟨S4, m (c, Proc.tc.devRef main_arg3)⟩] concatenates_S4_S4_S8_d0 (ix1 e)) ?_
  · have hk' := (lands_row _ (k 0) 0 ⟨e.val, by omega⟩).1 ((congrArg (fun u => scatter_S1x128_S2_S8_0_0_01_0.resultIdx? u _) (ValueIdx.eq_ix1 k).symm).trans hk)
    have hke : k 0 = e := Fin.ext (by have := hk'.2; change (0 : Int) + _ = _ at this; simpa using this)
    rw [ValueIdx.eq_ix1 k, hke]
    rfl
  · show (0 : Int) + _ = _
    simp
  · pointwise []

end Cert.KernelIdeal.Head

end
-- ==== Proof.HeadBlk.lean ====
/-
  What one grid step of the mLSTM kernel works on.

  A step covers two chunks of 128 rows. `Blk` is the step's input blocks; `State` is what the kernel carries for each
  head (matrix, normaliser, running maximum); `Blk.next X j S` is the state after chunk `j` and `Blk.out X j S` the rows
  stored for it. `listC`, `listN`, `listM`, `listO` are the stores of these values, and `b0`, `b1`, `b2` the states a step
  passes through, as its loads read them.
-/
module

public import proofs.«01_k».proof.Proof.HeadOps
public import Idealize.ShloMosaic.Lib.Pipeline.Value

@[expose] public section

set_option maxRecDepth 16384

noncomputable section

open Idealize.ShloMosaic Idealize.ShloMosaic.TcCoe Idealize.SL.Sem

namespace Cert.KernelIdeal.Head

open Cert.KernelIdeal Cert.KernelIdeal.Gen

variable {F : FTy → Type} [FloatOps F] [Named F]

/-- The input blocks of one grid step: queries, keys, values, output gates, gate columns, gate biases, gain. -/
structure Blk (F : FTy → Type) where
  q : Vec F S1x256x1024 .f32
  k : Vec F S1x256x1024 .f32
  v : Vec F S1x256x2048 .f32
  o : Vec F S1x256x2048 .f32
  g : Vec F S1x256x128 .f32
  b : Vec F S1x128 .f32
  ng : Vec F S1x2048 .f32

theorem inbQ (j : Fin 2) (h : Fin 4) : ∀ a, (![0, 128 * j.val, 256 * h.val] : Fin 3 → Nat) a + S1x128x256.size a ≤ S1x256x1024.size a := by
  revert j h; decide
theorem inbV (j : Fin 2) (h : Fin 4) : ∀ a, (![0, 128 * j.val, 512 * h.val] : Fin 3 → Nat) a + S1x128x512.size a ≤ S1x256x2048.size a := by
  revert j h; decide
theorem inbG (j : Fin 2) : ∀ a, (![0, 128 * j.val, 0] : Fin 3 → Nat) a + S1x128x128.size a ≤ S1x256x128.size a := by
  revert j; decide
theorem inbB : ∀ a, (![0, 0] : Fin 2 → Nat) a + S1x128.size a ≤ S1x128.size a := by decide
theorem inbNg (h : Fin 4) : ∀ a, (![0, 512 * h.val] : Fin 2 → Nat) a + S1x512.size a ≤ S1x2048.size a := by revert h; decide
theorem inbC (h : Fin 4) : ∀ a, (![h.val, 0, 0] : Fin 3 → Nat) a + S1x256x512.size a ≤ S4x256x512.size a := by revert h; decide
theorem inbN (h : Fin 4) : ∀ a, (![h.val, 0, 0] : Fin 3 → Nat) a + S1x1x256.size a ≤ S4x1x256.size a := by revert h; decide
theorem inbM (h : Fin 4) : ∀ a, (![h.val, 0, 0] : Fin 3 → Nat) a + S1x1x128.size a ≤ S4x1x128.size a := by revert h; decide

/-- Where head `h` of chunk `j` lies in the blocks, and where head `h` lies in the scratch buffers. -/
abbrev rQ (j : Fin 2) (h : Fin 4) : Rect S1x256x1024 := Rect.unit ![0, 128 * j.val, 256 * h.val] S1x128x256.size (inbQ j h)
abbrev rV (j : Fin 2) (h : Fin 4) : Rect S1x256x2048 := Rect.unit ![0, 128 * j.val, 512 * h.val] S1x128x512.size (inbV j h)
abbrev rG (j : Fin 2) : Rect S1x256x128 := Rect.unit ![0, 128 * j.val, 0] S1x128x128.size (inbG j)
abbrev rB : Rect S1x128 := Rect.unit ![0, 0] S1x128.size inbB
abbrev rNg (h : Fin 4) : Rect S1x2048 := Rect.unit ![0, 512 * h.val] S1x512.size (inbNg h)
abbrev rC (h : Fin 4) : Rect S4x256x512 := Rect.unit ![h.val, 0, 0] S1x256x512.size (inbC h)
abbrev rN (h : Fin 4) : Rect S4x1x256 := Rect.unit ![h.val, 0, 0] S1x1x256.size (inbN h)
abbrev rM (h : Fin 4) : Rect S4x1x128 := Rect.unit ![h.val, 0, 0] S1x1x128.size (inbM h)

/-- The capped gates of chunk `j`. -/
def Blk.li (X : Blk F) (j : Fin 2) : FVec F S128x128 .f32 := gateCap (View.ld X.g (rG j)) (View.ld X.b rB)
/-- The accumulated log forget gates of chunk `j`. -/
def Blk.cb (X : Blk F) (j : Fin 2) : FVec F S128x128 .f32 := gateSum (View.ld X.g (rG j)) (View.ld X.b rB)

/-- The carried state of the four heads. -/
structure State (F : FTy → Type) where
  c : Fin 4 → Vec F S1x256x512 .f32
  n : Fin 4 → Vec F S1x1x256 .f32
  m : Fin 4 → Vec F S1x1x128 .f32

/-- The state after chunk `j`. -/
def Blk.next (X : Blk F) (j : Fin 2) (S : State F) : State F where
  c h := newC h (View.ld X.k (rQ j h)) (View.ld X.v (rV j h)) (X.li j) (X.cb j) (S.c h) (S.m h)
  n h := newN h (View.ld X.k (rQ j h)) (X.li j) (X.cb j) (S.n h) (S.m h)
  m h := newM h (X.li j) (X.cb j) (S.m h)

/-- What head `h` stores for chunk `j`. -/
def Blk.out (X : Blk F) (j : Fin 2) (S : State F) (h : Fin 4) : FVec F S1x128x512 .bf16 :=
  headOut h (View.ld X.q (rQ j h)) (View.ld X.k (rQ j h)) (View.ld X.v (rV j h)) (View.ld X.o (rV j h)) (View.ld X.ng (rNg h))
    (X.li j) (X.cb j) (S.c h) (S.n h) (S.m h)

/-- The four heads' stores of a scratch buffer, the last store first. -/
def listC (w : Fin 4 → Vec F S1x256x512 .f32) (L : List (View.Piece (Elt F) S4x256x512 .f32)) : List (View.Piece (Elt F) S4x256x512 .f32) :=
  ⟨rC 3, w 3⟩ :: ⟨rC 2, w 2⟩ :: ⟨rC 1, w 1⟩ :: ⟨rC 0, w 0⟩ :: L
def listN (w : Fin 4 → Vec F S1x1x256 .f32) (L : List (View.Piece (Elt F) S4x1x256 .f32)) : List (View.Piece (Elt F) S4x1x256 .f32) :=
  ⟨rN 3, w 3⟩ :: ⟨rN 2, w 2⟩ :: ⟨rN 1, w 1⟩ :: ⟨rN 0, w 0⟩ :: L
def listM (w : Fin 4 → Vec F S1x1x128 .f32) (L : List (View.Piece (Elt F) S4x1x128 .f32)) : List (View.Piece (Elt F) S4x1x128 .f32) :=
  ⟨rM 3, w 3⟩ :: ⟨rM 2, w 2⟩ :: ⟨rM 1, w 1⟩ :: ⟨rM 0, w 0⟩ :: L
/-- The four heads' stores of chunk `j`'s output rows. -/
def listO (j : Fin 2) (w : Fin 4 → FVec F S1x128x512 .bf16) (L : List (View.Piece (Elt F) S1x256x2048 .bf16)) : List (View.Piece (Elt F) S1x256x2048 .bf16) :=
  ⟨rV j 3, w 3⟩ :: ⟨rV j 2, w 2⟩ :: ⟨rV j 1, w 1⟩ :: ⟨rV j 0, w 0⟩ :: L

/-! ## The buffers of a step -/

variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x128 .f32) (harg12 : arg12.IsWhole)
    (x0 : Vec F S1x256x1024 .f32) (x1 : Vec F S1x256x1024 .f32) (x2 : Vec F S1x256x2048 .f32) (x3 : Vec F S1x256x2048 .f32) (x4 : Vec F S1x256x128 .f32) (x5 : Vec F S1x128 .f32) (x6 : Vec F S1x2048 .f32) (xs0 : Vec F S4x256x512 .f32) (xs1 : Vec F S4x1x256 .f32) (xs2 : Vec F S4x1x128 .f32)

/-- The step's blocks, as read from its buffers. -/
abbrev blkOf : Blk F :=
  ⟨arg2.view.read (Elt F) (harg2.unread x0), arg3.view.read (Elt F) (harg3.unread x1), arg4.view.read (Elt F) (harg4.unread x2),
   arg5.view.read (Elt F) (harg5.unread x3), arg6.view.read (Elt F) (harg6.unread x4), arg7.view.read (Elt F) (harg7.unread x5),
   arg8.view.read (Elt F) (harg8.unread x6)⟩

/-- The heads' state, as read from scratch buffers. -/
abbrev stOf (c : S4x256x512.Idx → Elt F .f32) (n : S4x1x256.Idx → Elt F .f32) (m : S4x1x128.Idx → Elt F .f32) : State F :=
  ⟨fun h => View.ld c (rC h), fun h => View.ld n (rN h), fun h => View.ld m (rM h)⟩

/-- The state read back from scratch buffers after the stores `LC`, `LN`, `LM`. -/
abbrev reload (LC : List (View.Piece (Elt F) S4x256x512 .f32)) (LN : List (View.Piece (Elt F) S4x1x256 .f32))
    (LM : List (View.Piece (Elt F) S4x1x128 .f32)) : State F :=
  ⟨fun h => arg10.view.readCov LC (rC h).toLoadRect, fun h => arg11.view.readCov LN (rN h).toLoadRect,
   fun h => arg12.view.readCov LM (rM h).toLoadRect⟩

/-- The state a step starts from when it does not start a batch row, -/
abbrev b0 : State F := stOf (arg10.view.read (Elt F) (harg10.unread xs0)) (arg11.view.read (Elt F) (harg11.unread xs1)) (arg12.view.read (Elt F) (harg12.unread xs2))
/-- the state after its first chunk, -/
abbrev b1 : State F := (blkOf arg2 harg2 arg3 harg3 arg4 harg4 arg5 harg5 arg6 harg6 arg7 harg7 arg8 harg8 x0 x1 x2 x3 x4 x5 x6).next 0 (b0 arg10 harg10 arg11 harg11 arg12 harg12 xs0 xs1 xs2)
/-- and that state as the second chunk's loads read it back. -/
abbrev b2 : State F := reload arg10 arg11 arg12 (listC (b1 arg2 harg2 arg3 harg3 arg4 harg4 arg5 harg5 arg6 harg6 arg7 harg7 arg8 harg8 arg10 harg10 arg11 harg11 arg12 harg12 x0 x1 x2 x3 x4 x5 x6 xs0 xs1 xs2).c []) (listN (b1 arg2 harg2 arg3 harg3 arg4 harg4 arg5 harg5 arg6 harg6 arg7 harg7 arg8 harg8 arg10 harg10 arg11 harg11 arg12 harg12 x0 x1 x2 x3 x4 x5 x6 xs0 xs1 xs2).n []) (listM (b1 arg2 harg2 arg3 harg3 arg4 harg4 arg5 harg5 arg6 harg6 arg7 harg7 arg8 harg8 arg10 harg10 arg11 harg11 arg12 harg12 x0 x1 x2 x3 x4 x5 x6 xs0 xs1 xs2).m [])

/-- The reset's stores: zero over each whole scratch buffer. -/
def zC : List (View.Piece (Elt F) S4x256x512 .f32) := [⟨Rect.unit ![0, 0, 0] S4x256x512.size (by decide), fill S4x256x512 0x00000000#32⟩]
def zN : List (View.Piece (Elt F) S4x1x256 .f32) := [⟨Rect.unit ![0, 0, 0] S4x1x256.size (by decide), fill S4x1x256 0x00000000#32⟩]
def zM : List (View.Piece (Elt F) S4x1x128 .f32) := [⟨Rect.unit ![0, 0, 0] S4x1x128.size (by decide), fill S4x1x128 0x00000000#32⟩]

/-- The same three states for a step that starts a batch row: it reads back the zeros it has just stored. -/
abbrev a0 : State F := reload arg10 arg11 arg12 zC zN zM
abbrev a1 : State F := (blkOf arg2 harg2 arg3 harg3 arg4 harg4 arg5 harg5 arg6 harg6 arg7 harg7 arg8 harg8 x0 x1 x2 x3 x4 x5 x6).next 0 (a0 arg10 arg11 arg12)
abbrev a2 : State F := reload arg10 arg11 arg12 (listC (a1 arg2 harg2 arg3 harg3 arg4 harg4 arg5 harg5 arg6 harg6 arg7 harg7 arg8 harg8 arg10 arg11 arg12 x0 x1 x2 x3 x4 x5 x6).c zC) (listN (a1 arg2 harg2 arg3 harg3 arg4 harg4 arg5 harg5 arg6 harg6 arg7 harg7 arg8 harg8 arg10 arg11 arg12 x0 x1 x2 x3 x4 x5 x6).n zN) (listM (a1 arg2 harg2 arg3 harg3 arg4 harg4 arg5 harg5 arg6 harg6 arg7 harg7 arg8 harg8 arg10 arg11 arg12 x0 x1 x2 x3 x4 x5 x6).m zM)

end Cert.KernelIdeal.Head

end
-- ==== Proof.HeadRunA.lean ====
/-
  The stores of a grid step that starts a batch row, from the zero state: the generated run's lists are those of `HeadBlk.lean`.
-/
module

public import proofs.«01_k».proof.Proof.HeadBlk
public import proofs.«01_k».proof.Proof.Gen.KernelIdeal.Frame
public import Idealize.ShloMosaic.Lib.Tactic

@[expose] public section

set_option maxRecDepth 16384

noncomputable section

open Idealize.ShloMosaic Idealize.ShloMosaic.TcCoe Idealize.SL.Sem

namespace Cert.KernelIdeal.Head

open Cert.KernelIdeal Cert.KernelIdeal.Gen

variable {F : FTy → Type} [FloatOps F] [Named F]

variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x128 .f32) (harg12 : arg12.IsWhole)
    (x0 : Vec F S1x256x1024 .f32) (x1 : Vec F S1x256x1024 .f32) (x2 : Vec F S1x256x2048 .f32) (x3 : Vec F S1x256x2048 .f32) (x4 : Vec F S1x256x128 .f32) (x5 : Vec F S1x128 .f32) (x6 : Vec F S1x2048 .f32)

variable (hc0 : cond0_0 i)

set_option maxHeartbeats 4000000 in
/-- The stores of the running maxima: after each chunk, head by head. -/
theorem runA_m : (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.2.1
    = listM ((blkOf arg2 harg2 arg3 harg3 arg4 harg4 arg5 harg5 arg6 harg6 arg7 harg7 arg8 harg8 x0 x1 x2 x3 x4 x5 x6).next 1 (a2 arg2 harg2 arg3 harg3 arg4 harg4 arg5 harg5 arg6 harg6 arg7 harg7 arg8 harg8 arg10 arg11 arg12 x0 x1 x2 x3 x4 x5 x6)).m (listM (a1 arg2 harg2 arg3 harg3 arg4 harg4 arg5 harg5 arg6 harg6 arg7 harg7 arg8 harg8 arg10 arg11 arg12 x0 x1 x2 x3 x4 x5 x6).m zM) := by
  rfl
set_option maxHeartbeats 4000000 in
/-- The stores of the normalisers. -/
theorem runA_n : (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.1
    = listN ((blkOf arg2 harg2 arg3 harg3 arg4 harg4 arg5 harg5 arg6 harg6 arg7 harg7 arg8 harg8 x0 x1 x2 x3 x4 x5 x6).next 1 (a2 arg2 harg2 arg3 harg3 arg4 harg4 arg5 harg5 arg6 harg6 arg7 harg7 arg8 harg8 arg10 arg11 arg12 x0 x1 x2 x3 x4 x5 x6)).n (listN (a1 arg2 harg2 arg3 harg3 arg4 harg4 arg5 harg5 arg6 harg6 arg7 harg7 arg8 harg8 arg10 arg11 arg12 x0 x1 x2 x3 x4 x5 x6).n zN) := by
  rfl
set_option maxHeartbeats 4000000 in
/-- The stores of the matrix states. -/
theorem runA_c : (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.1
    = listC ((blkOf arg2 harg2 arg3 harg3 arg4 harg4 arg5 harg5 arg6 harg6 arg7 harg7 arg8 harg8 x0 x1 x2 x3 x4 x5 x6).next 1 (a2 arg2 harg2 arg3 harg3 arg4 harg4 arg5 harg5 arg6 harg6 arg7 harg7 arg8 harg8 arg10 arg11 arg12 x0 x1 x2 x3 x4 x5 x6)).c (listC (a1 arg2 harg2 arg3 harg3 arg4 harg4 arg5 harg5 arg6 harg6 arg7 harg7 arg8 harg8 arg10 arg11 arg12 x0 x1 x2 x3 x4 x5 x6).c zC) := by
  rfl
set_option maxHeartbeats 4000000 in
/-- The stores of the output rows. -/
theorem runA_o : (kernelRun0_A c i arg2 harg2 arg3 harg3 arg4 harg4 arg5 harg5 arg6 harg6 arg7 harg7 arg8 harg8 arg9 harg9 arg10 harg10 arg11 harg11 arg12 harg12 hc0 x0 x1 x2 x3 x4 x5 x6).1
    = listO 1 ((blkOf arg2 harg2 arg3 harg3 arg4 harg4 arg5 harg5 arg6 harg6 arg7 harg7 arg8 harg8 x0 x1 x2 x3 x4 x5 x6).out 1 (a2 arg2 harg2 arg3 harg3 arg4 harg4 arg5 harg5 arg6 harg6 arg7 harg7 arg8 harg8 arg10 arg11 arg12 x0 x1 x2 x3 x4 x5 x6)) (listO 0 ((blkOf arg2 harg2 arg3 harg3 arg4 harg4 arg5 harg5 arg6 harg6 arg7 harg7 arg8 harg8 x0 x1 x2 x3 x4 x5 x6).out 0 (a0 arg10 arg11 arg12)) []) := by
  rfl

end Cert.KernelIdeal.Head

end
-- ==== Proof.HeadRunB.lean ====
/-
  The stores of a grid step that continues a batch row: the generated run's lists are those of `HeadBlk.lean`.
-/
module

public import proofs.«01_k».proof.Proof.HeadBlk
public import proofs.«01_k».proof.Proof.Gen.KernelIdeal.Frame
public import Idealize.ShloMosaic.Lib.Tactic

@[expose] public section

set_option maxRecDepth 16384

noncomputable section

open Idealize.ShloMosaic Idealize.ShloMosaic.TcCoe Idealize.SL.Sem

namespace Cert.KernelIdeal.Head

open Cert.KernelIdeal Cert.KernelIdeal.Gen

variable {F : FTy → Type} [FloatOps F] [Named F]

variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x128 .f32) (harg12 : arg12.IsWhole)
    (x0 : Vec F S1x256x1024 .f32) (x1 : Vec F S1x256x1024 .f32) (x2 : Vec F S1x256x2048 .f32) (x3 : Vec F S1x256x2048 .f32) (x4 : Vec F S1x256x128 .f32) (x5 : Vec F S1x128 .f32) (x6 : Vec F S1x2048 .f32) (xs0 : Vec F S4x256x512 .f32) (xs1 : Vec F S4x1x256 .f32) (xs2 : Vec F S4x1x128 .f32)

variable (hc0 : ¬cond0_0 i)

set_option maxHeartbeats 4000000 in
/-- The stores of the running maxima: after each chunk, head by head. -/
theorem runB_m : (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.2.2.1
    = listM ((blkOf arg2 harg2 arg3 harg3 arg4 harg4 arg5 harg5 arg6 harg6 arg7 harg7 arg8 harg8 x0 x1 x2 x3 x4 x5 x6).next 1 (b2 arg2 harg2 arg3 harg3 arg4 harg4 arg5 harg5 arg6 harg6 arg7 harg7 arg8 harg8 arg10 harg10 arg11 harg11 arg12 harg12 x0 x1 x2 x3 x4 x5 x6 xs0 xs1 xs2)).m (listM (b1 arg2 harg2 arg3 harg3 arg4 harg4 arg5 harg5 arg6 harg6 arg7 harg7 arg8 harg8 arg10 harg10 arg11 harg11 arg12 harg12 x0 x1 x2 x3 x4 x5 x6 xs0 xs1 xs2).m []) := by
  rfl
set_option maxHeartbeats 4000000 in
/-- The stores of the normalisers. -/
theorem runB_n : (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.2.1
    = listN ((blkOf arg2 harg2 arg3 harg3 arg4 harg4 arg5 harg5 arg6 harg6 arg7 harg7 arg8 harg8 x0 x1 x2 x3 x4 x5 x6).next 1 (b2 arg2 harg2 arg3 harg3 arg4 harg4 arg5 harg5 arg6 harg6 arg7 harg7 arg8 harg8 arg10 harg10 arg11 harg11 arg12 harg12 x0 x1 x2 x3 x4 x5 x6 xs0 xs1 xs2)).n (listN (b1 arg2 harg2 arg3 harg3 arg4 harg4 arg5 harg5 arg6 harg6 arg7 harg7 arg8 harg8 arg10 harg10 arg11 harg11 arg12 harg12 x0 x1 x2 x3 x4 x5 x6 xs0 xs1 xs2).n []) := by
  rfl
set_option maxHeartbeats 4000000 in
/-- The stores of the matrix states. -/
theorem runB_c : (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).2.1
    = listC ((blkOf arg2 harg2 arg3 harg3 arg4 harg4 arg5 harg5 arg6 harg6 arg7 harg7 arg8 harg8 x0 x1 x2 x3 x4 x5 x6).next 1 (b2 arg2 harg2 arg3 harg3 arg4 harg4 arg5 harg5 arg6 harg6 arg7 harg7 arg8 harg8 arg10 harg10 arg11 harg11 arg12 harg12 x0 x1 x2 x3 x4 x5 x6 xs0 xs1 xs2)).c (listC (b1 arg2 harg2 arg3 harg3 arg4 harg4 arg5 harg5 arg6 harg6 arg7 harg7 arg8 harg8 arg10 harg10 arg11 harg11 arg12 harg12 x0 x1 x2 x3 x4 x5 x6 xs0 xs1 xs2).c []) := by
  rfl
set_option maxHeartbeats 4000000 in
/-- The stores of the output rows. -/
theorem runB_o : (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2).1
    = listO 1 ((blkOf arg2 harg2 arg3 harg3 arg4 harg4 arg5 harg5 arg6 harg6 arg7 harg7 arg8 harg8 x0 x1 x2 x3 x4 x5 x6).out 1 (b2 arg2 harg2 arg3 harg3 arg4 harg4 arg5 harg5 arg6 harg6 arg7 harg7 arg8 harg8 arg10 harg10 arg11 harg11 arg12 harg12 x0 x1 x2 x3 x4 x5 x6 xs0 xs1 xs2)) (listO 0 ((blkOf arg2 harg2 arg3 harg3 arg4 harg4 arg5 harg5 arg6 harg6 arg7 harg7 arg8 harg8 x0 x1 x2 x3 x4 x5 x6).out 0 (b0 arg10 harg10 arg11 harg11 arg12 harg12 xs0 xs1 xs2)) []) := by
  rfl

end Cert.KernelIdeal.Head

end
-- ==== Proof.HeadStep.lean ====
/-
  A grid step as a whole: from the state it finds to the state it leaves and the rows it writes.

  A step runs two chunks; the second reads back the state the first stored. So a step takes a state `S` to
  `X.next 1 (X.next 0 S)` and writes `X.out 0 S` and `X.out 1 (X.next 0 S)`, `X` being the step's blocks.
-/
module

public import proofs.«01_k».proof.Proof.HeadRunA
public import proofs.«01_k».proof.Proof.HeadRunB
public import Idealize.ShloMosaic.Lib.Pipeline.Value
public import Idealize.ShloMosaic.Lib.Pipeline.FrameBody

@[expose] public section

set_option maxRecDepth 16384

noncomputable section

open Idealize.ShloMosaic Idealize.ShloMosaic.TcCoe Idealize.SL.Sem

namespace Cert.KernelIdeal.Head

open Cert.KernelIdeal Cert.KernelIdeal.Gen

variable {F : FTy → Type} [FloatOps F] [Named F]

/-- Reading where one of the later stores lies elsewhere skips it. -/
theorem canon_skip {s : Shape} {e : EltTy} (r r' : Rect s) (w : r'.shape.Idx → Elt F e) (L : List (View.Piece (Elt F) s e))
    (x : r.shape.Idx) (h : r.emb x ∉ r'.set) : View.canon (⟨r', w⟩ :: L) (r.emb x) = View.canon L (r.emb x) :=
  View.canon_cons_of_not_mem _ _ h

/-- A head's place in a scratch buffer has the head's number as its first coordinate. -/
theorem emb_head {n0 n1 n2 m1 m2 : Nat} (h : Fin 4) (inb : ∀ a, (![h.val, 0, 0] : Fin 3 → Nat) a + (![1, n1, n2] : Fin 3 → Nat) a ≤ (⟨3, ![n0, m1, m2]⟩ : Shape).size a)
    (x : (Rect.unit (s := ⟨3, ![n0, m1, m2]⟩) ![h.val, 0, 0] ![1, n1, n2] inb).shape.Idx) :
    (((Rect.unit (s := ⟨3, ![n0, m1, m2]⟩) ![h.val, 0, 0] ![1, n1, n2] inb).emb x) 0).val = h.val := by
  have h0 : (x 0).val < 1 := (x 0).isLt
  show h.val + 1 * (x 0).val = h.val
  omega

/-- Another head's place does not meet it. -/
theorem not_mem_head {n0 n1 n2 m1 m2 : Nat} (h : Fin 4) (inb : ∀ a, (![h.val, 0, 0] : Fin 3 → Nat) a + (![1, n1, n2] : Fin 3 → Nat) a ≤ (⟨3, ![n0, m1, m2]⟩ : Shape).size a)
    (y : (⟨3, ![n0, m1, m2]⟩ : Shape).Idx) (hy : (y 0).val ≠ h.val) :
    y ∉ (Rect.unit (s := ⟨3, ![n0, m1, m2]⟩) ![h.val, 0, 0] ![1, n1, n2] inb).set := by
  rw [Rect.mem_set_unit]
  intro hm
  have h0 := hm 0
  change h.val ≤ (y 0).val ∧ (y 0).val < h.val + 1 at h0
  omega

/-- After the four heads' stores, head `h`'s place holds head `h`'s store. -/
theorem canon_listC (w : Fin 4 → Vec F S1x256x512 .f32) (L : List (View.Piece (Elt F) S4x256x512 .f32)) (h : Fin 4) (x : S1x256x512.Idx) :
    View.canon (listC w L) ((rC h).emb x) = w h x := by
  unfold listC
  have e : (((rC h).emb x) 0).val = h.val := emb_head h (inbC h) x
  have skip (h' : Fin 4) (hne : h.val ≠ h'.val) (u : Vec F S1x256x512 .f32) (K : List (View.Piece (Elt F) S4x256x512 .f32)) :
      View.canon (⟨rC h', u⟩ :: K) ((rC h).emb x) = View.canon K ((rC h).emb x) :=
    canon_skip (rC h) (rC h') u K x (not_mem_head h' (inbC h') _ (by rw [e]; exact hne))
  have hit (u : Vec F S1x256x512 .f32) (K : List (View.Piece (Elt F) S4x256x512 .f32)) : View.canon (⟨rC h, u⟩ :: K) ((rC h).emb x) = u x :=
    View.canon_cons_emb (rC h) u K x
  have hh : h = 3 ∨ h = 2 ∨ h = 1 ∨ h = 0 := by omega
  rcases hh with rfl | rfl | rfl | rfl
  · exact hit _ _
  · rw [skip 3 (by decide)]; exact hit _ _
  · rw [skip 3 (by decide), skip 2 (by decide)]; exact hit _ _
  · rw [skip 3 (by decide), skip 2 (by decide), skip 1 (by decide)]; exact hit _ _

/-- So a load of head `h`'s place reads it, -/
theorem readCov_listC (a : Memref sig .tc .vmem S4x256x512 .f32) (w : Fin 4 → Vec F S1x256x512 .f32) (L : List (View.Piece (Elt F) S4x256x512 .f32)) (h : Fin 4) :
    a.view.readCov (listC w L) (rC h).toLoadRect = w h := by
  rw [View.readCov_eq_canon']
  exact funext fun x => canon_listC w L h x

/-- and a load after the reset reads zero. -/
theorem readCov_zC (a : Memref sig .tc .vmem S4x256x512 .f32) (h : Fin 4) : a.view.readCov (zC (F := F)) (rC h).toLoadRect = fill S1x256x512 0x00000000#32 := by
  rw [View.readCov_eq_canon', zC, View.canon_unit_zero (by decide)]
  rfl

/-- After the four heads' stores, head `h`'s place holds head `h`'s store. -/
theorem canon_listN (w : Fin 4 → Vec F S1x1x256 .f32) (L : List (View.Piece (Elt F) S4x1x256 .f32)) (h : Fin 4) (x : S1x1x256.Idx) :
    View.canon (listN w L) ((rN h).emb x) = w h x := by
  unfold listN
  have e : (((rN h).emb x) 0).val = h.val := emb_head h (inbN h) x
  have skip (h' : Fin 4) (hne : h.val ≠ h'.val) (u : Vec F S1x1x256 .f32) (K : List (View.Piece (Elt F) S4x1x256 .f32)) :
      View.canon (⟨rN h', u⟩ :: K) ((rN h).emb x) = View.canon K ((rN h).emb x) :=
    canon_skip (rN h) (rN h') u K x (not_mem_head h' (inbN h') _ (by rw [e]; exact hne))
  have hit (u : Vec F S1x1x256 .f32) (K : List (View.Piece (Elt F) S4x1x256 .f32)) : View.canon (⟨rN h, u⟩ :: K) ((rN h).emb x) = u x :=
    View.canon_cons_emb (rN h) u K x
  have hh : h = 3 ∨ h = 2 ∨ h = 1 ∨ h = 0 := by omega
  rcases hh with rfl | rfl | rfl | rfl
  · exact hit _ _
  · rw [skip 3 (by decide)]; exact hit _ _
  · rw [skip 3 (by decide), skip 2 (by decide)]; exact hit _ _
  · rw [skip 3 (by decide), skip 2 (by decide), skip 1 (by decide)]; exact hit _ _

/-- So a load of head `h`'s place reads it, -/
theorem readCov_listN (a : Memref sig .tc .vmem S4x1x256 .f32) (w : Fin 4 → Vec F S1x1x256 .f32) (L : List (View.Piece (Elt F) S4x1x256 .f32)) (h : Fin 4) :
    a.view.readCov (listN w L) (rN h).toLoadRect = w h := by
  rw [View.readCov_eq_canon']
  exact funext fun x => canon_listN w L h x

/-- and a load after the reset reads zero. -/
theorem readCov_zN (a : Memref sig .tc .vmem S4x1x256 .f32) (h : Fin 4) : a.view.readCov (zN (F := F)) (rN h).toLoadRect = fill S1x1x256 0x00000000#32 := by
  rw [View.readCov_eq_canon', zN, View.canon_unit_zero (by decide)]
  rfl

/-- After the four heads' stores, head `h`'s place holds head `h`'s store. -/
theorem canon_listM (w : Fin 4 → Vec F S1x1x128 .f32) (L : List (View.Piece (Elt F) S4x1x128 .f32)) (h : Fin 4) (x : S1x1x128.Idx) :
    View.canon (listM w L) ((rM h).emb x) = w h x := by
  unfold listM
  have e : (((rM h).emb x) 0).val = h.val := emb_head h (inbM h) x
  have skip (h' : Fin 4) (hne : h.val ≠ h'.val) (u : Vec F S1x1x128 .f32) (K : List (View.Piece (Elt F) S4x1x128 .f32)) :
      View.canon (⟨rM h', u⟩ :: K) ((rM h).emb x) = View.canon K ((rM h).emb x) :=
    canon_skip (rM h) (rM h') u K x (not_mem_head h' (inbM h') _ (by rw [e]; exact hne))
  have hit (u : Vec F S1x1x128 .f32) (K : List (View.Piece (Elt F) S4x1x128 .f32)) : View.canon (⟨rM h, u⟩ :: K) ((rM h).emb x) = u x :=
    View.canon_cons_emb (rM h) u K x
  have hh : h = 3 ∨ h = 2 ∨ h = 1 ∨ h = 0 := by omega
  rcases hh with rfl | rfl | rfl | rfl
  · exact hit _ _
  · rw [skip 3 (by decide)]; exact hit _ _
  · rw [skip 3 (by decide), skip 2 (by decide)]; exact hit _ _
  · rw [skip 3 (by decide), skip 2 (by decide), skip 1 (by decide)]; exact hit _ _

/-- So a load of head `h`'s place reads it, -/
theorem readCov_listM (a : Memref sig .tc .vmem S4x1x128 .f32) (w : Fin 4 → Vec F S1x1x128 .f32) (L : List (View.Piece (Elt F) S4x1x128 .f32)) (h : Fin 4) :
    a.view.readCov (listM w L) (rM h).toLoadRect = w h := by
  rw [View.readCov_eq_canon']
  exact funext fun x => canon_listM w L h x

/-- and a load after the reset reads zero. -/
theorem readCov_zM (a : Memref sig .tc .vmem S4x1x128 .f32) (h : Fin 4) : a.view.readCov (zM (F := F)) (rM h).toLoadRect = fill S1x1x128 0x00000000#32 := by
  rw [View.readCov_eq_canon', zM, View.canon_unit_zero (by decide)]
  rfl

/-- The state a batch row starts from. -/
def State.zero : State F := ⟨fun _ => fill S1x256x512 0x00000000#32, fun _ => fill S1x1x256 0x00000000#32, fun _ => fill S1x1x128 0x00000000#32⟩

/-- The state read back after four stores per buffer is the state stored, -/
theorem reload_list (a : Memref sig .tc .vmem S4x256x512 .f32) (b : Memref sig .tc .vmem S4x1x256 .f32) (d : Memref sig .tc .vmem S4x1x128 .f32)
    (S : State F) (LC : List (View.Piece (Elt F) S4x256x512 .f32)) (LN : List (View.Piece (Elt F) S4x1x256 .f32)) (LM : List (View.Piece (Elt F) S4x1x128 .f32)) :
    reload a b d (listC S.c LC) (listN S.n LN) (listM S.m LM) = S := by
  unfold reload
  simp only [readCov_listC, readCov_listN, readCov_listM]

/-- and after the reset it is the zero state. -/
theorem reload_zero (a : Memref sig .tc .vmem S4x256x512 .f32) (b : Memref sig .tc .vmem S4x1x256 .f32) (d : Memref sig .tc .vmem S4x1x128 .f32) :
    reload (F := F) a b d zC zN zM = State.zero := by
  unfold reload State.zero
  simp only [readCov_zC, readCov_zN, readCov_zM]

set_option maxHeartbeats 2000000 in
/-- Where row `t`, column `e` of head `h` of chunk `j` lies in a step's output block. -/
theorem canon_listO (w0 w1 : Fin 4 → FVec F S1x128x512 .bf16) (j : Fin 2) (h : Fin 4) (x : S1x128x512.Idx) :
    View.canon (listO 1 w1 (listO 0 w0 [])) ((rV j h).emb x) = (if j = 1 then w1 else w0) h x := by
  have e1 : (((rV j h).emb x) 1).val = 128 * j.val + (x 1).val := by show 128 * j.val + 1 * (x 1).val = _; omega
  have e2 : (((rV j h).emb x) 2).val = 512 * h.val + (x 2).val := by show 512 * h.val + 1 * (x 2).val = _; omega
  have l1 : (x 1).val < 128 := (x 1).isLt
  have l2 : (x 2).val < 512 := (x 2).isLt
  have far (j' : Fin 2) (h' : Fin 4) (hne : j ≠ j' ∨ h ≠ h') : (rV j h).emb x ∉ (rV j' h').set := by
    rw [Rect.mem_set_unit]
    intro hm
    have a1 := hm 1
    have a2 := hm 2
    rw [e1] at a1
    rw [e2] at a2
    change 128 * j'.val ≤ 128 * j.val + (x 1).val ∧ 128 * j.val + (x 1).val < 128 * j'.val + 128 at a1
    change 512 * h'.val ≤ 512 * h.val + (x 2).val ∧ 512 * h.val + (x 2).val < 512 * h'.val + 512 at a2
    rcases hne with hne | hne
    · exact hne (Fin.ext (by omega))
    · exact hne (Fin.ext (by omega))
  have skip (j' : Fin 2) (h' : Fin 4) (hne : j ≠ j' ∨ h ≠ h') (u : FVec F S1x128x512 .bf16) (K : List (View.Piece (Elt F) S1x256x2048 .bf16)) :
      View.canon (⟨rV j' h', u⟩ :: K) ((rV j h).emb x) = View.canon K ((rV j h).emb x) := by
    refine canon_skip (s := S1x256x2048) (e := .bf16) (rV j h) (rV j' h') u K x ?_
    exact far j' h' hne
  unfold listO
  have hit (u : FVec F S1x128x512 .bf16) (K : List (View.Piece (Elt F) S1x256x2048 .bf16)) : View.canon (⟨rV j h, u⟩ :: K) ((rV j h).emb x) = u x :=
    View.canon_cons_emb (rV j h) u K x
  have hj : j = 1 ∨ j = 0 := by omega
  have hh : h = 3 ∨ h = 2 ∨ h = 1 ∨ h = 0 := by omega
  rcases hj with rfl | rfl <;> rcases hh with rfl | rfl | rfl | rfl
  · exact hit _ _
  · rw [skip 1 3 (by decide)]; exact hit _ _
  · rw [skip 1 3 (by decide), skip 1 2 (by decide)]; exact hit _ _
  · rw [skip 1 3 (by decide), skip 1 2 (by decide), skip 1 1 (by decide)]; exact hit _ _
  · rw [skip 1 3 (by decide), skip 1 2 (by decide), skip 1 1 (by decide), skip 1 0 (by decide)]; exact hit _ _
  · rw [skip 1 3 (by decide), skip 1 2 (by decide), skip 1 1 (by decide), skip 1 0 (by decide), skip 0 3 (by decide)]; exact hit _ _
  · rw [skip 1 3 (by decide), skip 1 2 (by decide), skip 1 1 (by decide), skip 1 0 (by decide), skip 0 3 (by decide), skip 0 2 (by decide)]; exact hit _ _
  · rw [skip 1 3 (by decide), skip 1 2 (by decide), skip 1 1 (by decide), skip 1 0 (by decide), skip 0 3 (by decide), skip 0 2 (by decide), skip 0 1 (by decide)]; exact hit _ _

variable (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S1x256x128 .f32) (harg6 : arg6.IsWhole) (arg7 : Memref sig .tc .vmem S1x128 .f32) (harg7 : arg7.IsWhole) (arg8 : Memref sig .tc .vmem S1x2048 .f32) (harg8 : arg8.IsWhole) (arg9 : Memref sig .tc .vmem S1x256x2048 .bf16) (harg9 : arg9.IsWhole) (arg10 : Memref sig .tc .vmem S4x256x512 .f32) (harg10 : arg10.IsWhole) (arg11 : Memref sig .tc .vmem S4x1x256 .f32) (harg11 : arg11.IsWhole) (arg12 : Memref sig .tc .vmem S4x1x128 .f32) (harg12 : arg12.IsWhole)
    (x0 : Vec F S1x256x1024 .f32) (x1 : Vec F S1x256x1024 .f32) (x2 : Vec F S1x256x2048 .f32) (x3 : Vec F S1x256x2048 .f32) (x4 : Vec F S1x256x128 .f32) (x5 : Vec F S1x128 .f32) (x6 : Vec F S1x2048 .f32) (xs0 : Vec F S4x256x512 .f32) (xs1 : Vec F S4x1x256 .f32) (xs2 : Vec F S4x1x128 .f32)

/-- The blocks read back are the blocks. -/
theorem blkOf_eq : blkOf arg2 harg2 arg3 harg3 arg4 harg4 arg5 harg5 arg6 harg6 arg7 harg7 arg8 harg8 x0 x1 x2 x3 x4 x5 x6 = ⟨x0, x1, x2, x3, x4, x5, x6⟩ := by
  unfold blkOf
  simp only [Memref.IsWhole.read_unread]

theorem a0_eq : a0 (F := F) arg10 arg11 arg12 = State.zero := by
  exact reload_zero arg10 arg11 arg12

theorem a2_eq : a2 arg2 harg2 arg3 harg3 arg4 harg4 arg5 harg5 arg6 harg6 arg7 harg7 arg8 harg8 arg10 arg11 arg12 x0 x1 x2 x3 x4 x5 x6 = Blk.next ⟨x0, x1, x2, x3, x4, x5, x6⟩ 0 State.zero := by
  refine (reload_list arg10 arg11 arg12 (a1 arg2 harg2 arg3 harg3 arg4 harg4 arg5 harg5 arg6 harg6 arg7 harg7 arg8 harg8 arg10 arg11 arg12 x0 x1 x2 x3 x4 x5 x6) _ _ _).trans ?_
  unfold a1
  rw [a0_eq, blkOf_eq]

section
variable (hc0 : cond0_0 i)

/-- The matrix states the step leaves. -/
theorem stepA_c (h : Fin 4) : View.ld (sout0_A_0 c i arg2 harg2 arg3 harg3 arg4 harg4 arg5 harg5 arg6 harg6 arg7 harg7 arg8 harg8 arg9 harg9 arg10 harg10 arg11 harg11 arg12 harg12 hc0 x0 x1 x2 x3 x4 x5 x6) (rC h)
    = (Blk.next ⟨x0, x1, x2, x3, x4, x5, x6⟩ 1 (Blk.next ⟨x0, x1, x2, x3, x4, x5, x6⟩ 0 State.zero)).c h := by
  rw [sout0_A_0, View.read_writes_junk_eq_canon, runA_c, a2_eq, blkOf_eq]
  exact funext fun x => canon_listC _ _ h x

/-- The normalisers it leaves. -/
theorem stepA_n (h : Fin 4) : View.ld (sout0_A_1 c i arg2 harg2 arg3 harg3 arg4 harg4 arg5 harg5 arg6 harg6 arg7 harg7 arg8 harg8 arg9 harg9 arg10 harg10 arg11 harg11 arg12 harg12 hc0 x0 x1 x2 x3 x4 x5 x6) (rN h)
    = (Blk.next ⟨x0, x1, x2, x3, x4, x5, x6⟩ 1 (Blk.next ⟨x0, x1, x2, x3, x4, x5, x6⟩ 0 State.zero)).n h := by
  rw [sout0_A_1, View.read_writes_junk_eq_canon, runA_n, a2_eq, blkOf_eq]
  exact funext fun x => canon_listN _ _ h x

/-- The running maxima it leaves. -/
theorem stepA_m (h : Fin 4) : View.ld (sout0_A_2 c i arg2 harg2 arg3 harg3 arg4 harg4 arg5 harg5 arg6 harg6 arg7 harg7 arg8 harg8 arg9 harg9 arg10 harg10 arg11 harg11 arg12 harg12 hc0 x0 x1 x2 x3 x4 x5 x6) (rM h)
    = (Blk.next ⟨x0, x1, x2, x3, x4, x5, x6⟩ 1 (Blk.next ⟨x0, x1, x2, x3, x4, x5, x6⟩ 0 State.zero)).m h := by
  rw [sout0_A_2, View.read_writes_junk_eq_canon, runA_m, a2_eq, blkOf_eq]
  exact funext fun x => canon_listM _ _ h x

/-- The state it leaves. -/
theorem stepA_state : stOf (sout0_A_0 c i arg2 harg2 arg3 harg3 arg4 harg4 arg5 harg5 arg6 harg6 arg7 harg7 arg8 harg8 arg9 harg9 arg10 harg10 arg11 harg11 arg12 harg12 hc0 x0 x1 x2 x3 x4 x5 x6) (sout0_A_1 c i arg2 harg2 arg3 harg3 arg4 harg4 arg5 harg5 arg6 harg6 arg7 harg7 arg8 harg8 arg9 harg9 arg10 harg10 arg11 harg11 arg12 harg12 hc0 x0 x1 x2 x3 x4 x5 x6) (sout0_A_2 c i arg2 harg2 arg3 harg3 arg4 harg4 arg5 harg5 arg6 harg6 arg7 harg7 arg8 harg8 arg9 harg9 arg10 harg10 arg11 harg11 arg12 harg12 hc0 x0 x1 x2 x3 x4 x5 x6)
    = Blk.next ⟨x0, x1, x2, x3, x4, x5, x6⟩ 1 (Blk.next ⟨x0, x1, x2, x3, x4, x5, x6⟩ 0 State.zero) := by
  unfold stOf
  simp only [stepA_c, stepA_n, stepA_m]

/-- The rows it writes. -/
theorem stepA_out (j : Fin 2) (h : Fin 4) (x : S1x128x512.Idx) : (out0_A_7 c i arg2 harg2 arg3 harg3 arg4 harg4 arg5 harg5 arg6 harg6 arg7 harg7 arg8 harg8 arg9 harg9 arg10 harg10 arg11 harg11 arg12 harg12 hc0 x0 x1 x2 x3 x4 x5 x6) ((rV j h).emb x)
    = Blk.out ⟨x0, x1, x2, x3, x4, x5, x6⟩ j (if j = 1 then Blk.next ⟨x0, x1, x2, x3, x4, x5, x6⟩ 0 State.zero else State.zero) h x := by
  rw [out0_A_7, View.read_writes_junk_eq_canon, runA_o, a2_eq, a0_eq, blkOf_eq, canon_listO]
  match j with
  | ⟨0, _⟩ => rfl
  | ⟨1, _⟩ => rfl

end

theorem b0_eq : b0 (F := F) arg10 harg10 arg11 harg11 arg12 harg12 xs0 xs1 xs2 = (stOf xs0 xs1 xs2) := by
  unfold b0; simp only [Memref.IsWhole.read_unread]

theorem b2_eq : b2 arg2 harg2 arg3 harg3 arg4 harg4 arg5 harg5 arg6 harg6 arg7 harg7 arg8 harg8 arg10 harg10 arg11 harg11 arg12 harg12 x0 x1 x2 x3 x4 x5 x6 xs0 xs1 xs2 = Blk.next ⟨x0, x1, x2, x3, x4, x5, x6⟩ 0 (stOf xs0 xs1 xs2) := by
  refine (reload_list arg10 arg11 arg12 (b1 arg2 harg2 arg3 harg3 arg4 harg4 arg5 harg5 arg6 harg6 arg7 harg7 arg8 harg8 arg10 harg10 arg11 harg11 arg12 harg12 x0 x1 x2 x3 x4 x5 x6 xs0 xs1 xs2) _ _ _).trans ?_
  unfold b1
  rw [b0_eq, blkOf_eq]

section
variable (hc0 : ¬cond0_0 i)

/-- The matrix states the step leaves. -/
theorem stepB_c (h : Fin 4) : View.ld (sout0_B_0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2) (rC h)
    = (Blk.next ⟨x0, x1, x2, x3, x4, x5, x6⟩ 1 (Blk.next ⟨x0, x1, x2, x3, x4, x5, x6⟩ 0 (stOf xs0 xs1 xs2))).c h := by
  rw [sout0_B_0, View.read_writes_junk_eq_canon, runB_c, b2_eq, blkOf_eq]
  exact funext fun x => canon_listC _ _ h x

/-- The normalisers it leaves. -/
theorem stepB_n (h : Fin 4) : View.ld (sout0_B_1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2) (rN h)
    = (Blk.next ⟨x0, x1, x2, x3, x4, x5, x6⟩ 1 (Blk.next ⟨x0, x1, x2, x3, x4, x5, x6⟩ 0 (stOf xs0 xs1 xs2))).n h := by
  rw [sout0_B_1, View.read_writes_junk_eq_canon, runB_n, b2_eq, blkOf_eq]
  exact funext fun x => canon_listN _ _ h x

/-- The running maxima it leaves. -/
theorem stepB_m (h : Fin 4) : View.ld (sout0_B_2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2) (rM h)
    = (Blk.next ⟨x0, x1, x2, x3, x4, x5, x6⟩ 1 (Blk.next ⟨x0, x1, x2, x3, x4, x5, x6⟩ 0 (stOf xs0 xs1 xs2))).m h := by
  rw [sout0_B_2, View.read_writes_junk_eq_canon, runB_m, b2_eq, blkOf_eq]
  exact funext fun x => canon_listM _ _ h x

/-- The state it leaves. -/
theorem stepB_state : stOf (sout0_B_0 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2) (sout0_B_1 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2) (sout0_B_2 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2)
    = Blk.next ⟨x0, x1, x2, x3, x4, x5, x6⟩ 1 (Blk.next ⟨x0, x1, x2, x3, x4, x5, x6⟩ 0 (stOf xs0 xs1 xs2)) := by
  unfold stOf
  simp only [stepB_c, stepB_n, stepB_m]

/-- The rows it writes. -/
theorem stepB_out (j : Fin 2) (h : Fin 4) (x : S1x128x512.Idx) : (out0_B_7 c i arg2 harg2 arg3 harg3 arg4 harg4 arg5 harg5 arg6 harg6 arg7 harg7 arg8 harg8 arg9 harg9 arg10 harg10 arg11 harg11 arg12 harg12 hc0 x0 x1 x2 x3 x4 x5 x6 xs0 xs1 xs2) ((rV j h).emb x)
    = Blk.out ⟨x0, x1, x2, x3, x4, x5, x6⟩ j (if j = 1 then Blk.next ⟨x0, x1, x2, x3, x4, x5, x6⟩ 0 (stOf xs0 xs1 xs2) else (stOf xs0 xs1 xs2)) h x := by
  rw [out0_B_7, View.read_writes_junk_eq_canon, runB_o, b2_eq, b0_eq, blkOf_eq, canon_listO]
  match j with
  | ⟨0, _⟩ => rfl
  | ⟨1, _⟩ => rfl

end

end Cert.KernelIdeal.Head

end
-- ==== Proof.HeadSeq.lean ====
/-
  The kernel's grid runs the recurrence of Seq.

  `next_at` and `out_at` read one chunk's step entry by entry; `chunk_eq` says which rows of the sequence it works on;
  `sweep` follows the carried state over the points of a batch row, and `result` reads the output array.
-/
module

public import proofs.«01_k».proof.Proof.Seq
public import proofs.«01_k».proof.Proof.HeadAt
public import proofs.«01_k».proof.Proof.HeadIn
public import proofs.«01_k».proof.Proof.HeadStep
public import proofs.«01_k».proof.Proof.Gen.KernelIdeal.Value

@[expose] public section

set_option maxRecDepth 16384

noncomputable section

open Idealize.ShloMosaic Idealize.ShloMosaic.TcCoe Idealize.SL.Sem

namespace Cert.KernelIdeal.Head

open Cert.KernelIdeal Cert.KernelIdeal.Gen

/-- Chunk `j` of head `h`, as a step's blocks hold it. -/
def Blk.chunk (X : Blk Ideal) (j : Fin 2) (h : Fin 4) : Mlstm.Chunk :=
  ⟨ent (View.ld X.q (rQ j h)), key (View.ld X.k (rQ j h)), ent (View.ld X.v (rV j h)), rowF (X.cb j) h, rowI (X.li j) h⟩

/-- Head `h`'s state, read off the carried buffers. -/
def State.head (S : State Ideal) (h : Fin 4) : Mlstm.St :=
  ⟨fun d e => S.c h (ix3 0 d e), fun d => S.n h (ix3 0 0 d), S.m h (ix3 0 0 0)⟩

/-- A chunk's step, entry by entry, -/
theorem next_at (X : Blk Ideal) (j : Fin 2) (S : State Ideal) (h : Fin 4) : (X.next j S).head h = (S.head h).next (X.chunk j h) := by
  refine Mlstm.St.ext ?_ ?_ ?_
  · exact funext fun d => funext fun e => newC_at h _ _ _ _ _ _ d e
  · exact funext fun d => newN_at h _ _ _ _ _ d
  · exact newM_at h _ _ _ 0

/-- and what it writes. -/
theorem out_at (X : Blk Ideal) (j : Fin 2) (S : State Ideal) (h : Fin 4) (t : Fin 128) (e : Fin 512) : X.out j S h (ix3 0 t e)
    = Mlstm.unit (fun e => (S.head h).row (X.chunk j h) t e) e * View.ld X.ng (rNg h) (ix2 0 e)
      * Mlstm.sigmoid (View.ld X.o (rV j h) (ix3 0 t e)) :=
  headOut_at h _ _ _ _ _ _ _ _ _ _ t e

/-- The zero state is the recurrence's. -/
theorem zero_head (h : Fin 4) : State.zero.head h = Mlstm.St.zero := by
  refine Mlstm.St.ext ?_ ?_ ?_
  · exact funext fun d => funext fun e => by show Ideal.ofBits .f32 0x00000000#32 = 0; exact Ideal.ofBits_zero _
  · exact funext fun d => by show Ideal.ofBits .f32 0x00000000#32 = 0; exact Ideal.ofBits_zero _
  · show Ideal.ofBits .f32 0x00000000#32 = 0; exact Ideal.ofBits_zero _

variable (m : (ℓ : Loc nD τ sig) → Buf (Elt Ideal) ℓ) (c : Dev nD) (t : Fin cfg0.N)

/-- The blocks of point `t`. -/
abbrev blkAt : Blk Ideal := ⟨iblk m c 0 t, iblk m c 1 t, iblk m c 2 t, iblk m c 3 t, iblk m c 4 t, iblk m c 5 t, iblk m c 6 t⟩

/-- The inputs of batch row `b`. -/
abbrev args (b : Fin 4) : Mlstm.Args :=
  Mlstm.argsOf (m ((c : Thread nD τ).loc main_arg0)) (m ((c : Thread nD τ).loc main_arg1)) (m ((c : Thread nD τ).loc main_arg2))
    (m ((c : Thread nD τ).loc main_arg3)) (m ((c : Thread nD τ).loc main_arg4)) b

/-- Row `r` of chunk `j` of a step's blocks. -/
abbrev inBlk (j : Fin 2) (r : Fin 128) : Fin 256 := ⟨128 * j.val + r.val, by omega⟩

theorem seqRow_eq (j : Fin 2) (r : Fin 128) : seqRow t (inBlk j r) = Mlstm.at' (2 * (t.val % 16) + j.val) r := by
  apply Fin.ext
  show 256 * (t.val % 16) + (128 * j.val + r.val) = (128 * (2 * (t.val % 16) + j.val) + r.val) % 4096
  omega

theorem li_at (j : Fin 2) (h : Fin 4) (r : Fin 128) : (blkAt m c t).li j (ix2 r (cI h)) = (args m c (batch t)).li h (Mlstm.at' (2 * (t.val % 16) + j.val) r) := by
  refine (gateCap_at _ _ r (cI h)).trans ?_
  have hb := b_at m c t ⟨h.val, by omega⟩
  rw [dif_pos h.isLt] at hb
  have hg := g_at m c t (inBlk j r) (cI h)
  rw [seqRow_eq] at hg
  refine congrArg Mlstm.cap (congrArg₂ (HAdd.hAdd : EReal → EReal → EReal) (Eq.trans ?_ hg) (Eq.trans ?_ hb))
  · exact congrArg (iblk m c 4 t : Vec Ideal S1x256x128 .f32) (funext fun a => Fin.ext (by
      match a with
      | ⟨0, _⟩ => rfl
      | ⟨1, _⟩ => show 128 * j.val + 1 * r.val = 128 * j.val + r.val; omega
      | ⟨2, _⟩ => show 0 + 1 * h.val = h.val; omega))
  · exact congrArg (iblk m c 5 t : Vec Ideal S1x128 .f32) (funext fun a => Fin.ext (by
      match a with
      | ⟨0, _⟩ => rfl
      | ⟨1, _⟩ => show 0 + 1 * h.val = h.val; omega))

theorem lf_at (j : Fin 2) (h : Fin 4) (r : Fin 128) : logSig (gateCap (View.ld (blkAt m c t).g (rG j)) (View.ld (blkAt m c t).b rB)) (ix2 r (cF h))
    = (args m c (batch t)).lf h (Mlstm.at' (2 * (t.val % 16) + j.val) r) := by
  rw [logSig_at, gateCap_at]
  have hb := b_at m c t ⟨4 + h.val, by omega⟩
  rw [dif_neg (by show ¬4 + h.val < 4; omega)] at hb
  have hg := g_at m c t (inBlk j r) (cF h)
  rw [seqRow_eq] at hg
  refine congrArg Mlstm.logSigmoid (congrArg Mlstm.cap (congrArg₂ (HAdd.hAdd : EReal → EReal → EReal) (Eq.trans ?_ hg) (Eq.trans ?_ (hb.trans ?_))))
  · exact congrArg (iblk m c 4 t : Vec Ideal S1x256x128 .f32) (funext fun a => Fin.ext (by
      match a with
      | ⟨0, _⟩ => rfl
      | ⟨1, _⟩ => show 128 * j.val + 1 * r.val = 128 * j.val + r.val; omega
      | ⟨2, _⟩ => show 0 + 1 * (4 + h.val) = 4 + h.val; omega))
  · exact congrArg (iblk m c 5 t : Vec Ideal S1x128 .f32) (funext fun a => Fin.ext (by
      match a with
      | ⟨0, _⟩ => rfl
      | ⟨1, _⟩ => show 0 + 1 * (4 + h.val) = 4 + h.val; omega))
  · exact congrArg (fun e => (m ((c : Thread nD τ).loc main_arg3) : Vec Ideal S4 .f32) (ix1 e)) (Fin.ext (by show 4 + h.val - 4 = h.val; omega))

/-- A load of a head's columns of a chunk's rows. -/
theorem ld_q (X : Vec Ideal S1x256x1024 .f32) (j : Fin 2) (h : Fin 4) (r : Fin 128) (d : Fin 256) :
    View.ld X (rQ j h) (ix3 0 r d) = X (ix3 0 (inBlk j r) ⟨256 * h.val + d.val, by omega⟩) :=
  congrArg X (funext fun a => Fin.ext (by
    match a with
    | ⟨0, _⟩ => rfl
    | ⟨1, _⟩ => show 128 * j.val + 1 * r.val = 128 * j.val + r.val; omega
    | ⟨2, _⟩ => show 256 * h.val + 1 * d.val = 256 * h.val + d.val; omega))
theorem ld_v (X : Vec Ideal S1x256x2048 .f32) (j : Fin 2) (h : Fin 4) (r : Fin 128) (d : Fin 512) :
    View.ld X (rV j h) (ix3 0 r d) = X (ix3 0 (inBlk j r) ⟨512 * h.val + d.val, by omega⟩) :=
  congrArg X (funext fun a => Fin.ext (by
    match a with
    | ⟨0, _⟩ => rfl
    | ⟨1, _⟩ => show 128 * j.val + 1 * r.val = 128 * j.val + r.val; omega
    | ⟨2, _⟩ => show 512 * h.val + 1 * d.val = 512 * h.val + d.val; omega))

/-- Chunk `j` of point `t` is chunk `2 (t % 16) + j` of its batch row. -/
theorem chunk_eq (j : Fin 2) (h : Fin 4) : (blkAt m c t).chunk j h = (args m c (batch t)).chunk h (2 * (t.val % 16) + j.val) := by
  refine Mlstm.Chunk.ext ?_ ?_ ?_ ?_ ?_
  · refine funext fun r => funext fun d => (ld_q _ j h r d).trans ((q_at m c t _ _).trans ?_)
    rw [seqRow_eq]
    rfl
  · refine funext fun r => funext fun d => congrArg (fun z : EReal => z * Ideal.ofBits .f32 0x3D800000#32) ((ld_q _ j h r d).trans ((k_at m c t _ _).trans ?_))
    rw [seqRow_eq]
    exact congrArg (fun e => (m ((c : Thread nD τ).loc main_arg0) : Vec Ideal S4x4096x14336 .f32) (ix3 _ _ e)) (Fin.ext (by
      show 1024 + (256 * h.val + d.val) = 1024 + 256 * h.val + d.val; omega))
  · refine funext fun r => funext fun d => (ld_v _ j h r d).trans ((v_at m c t _ _).trans ?_)
    rw [seqRow_eq]
    exact congrArg (fun e => (m ((c : Thread nD τ).loc main_arg0) : Vec Ideal S4x4096x14336 .f32) (ix3 _ _ e)) (Fin.ext (by
      show 2048 + (512 * h.val + d.val) = 2048 + 512 * h.val + d.val; omega))
  · refine funext fun r => (runSum_at _ r (cF h)).trans (Finset.sum_congr rfl fun s _ => lf_at m c t j h s)
  · exact funext fun r => li_at m c t j h r

/-- The state after point `n`'s two chunks, given the state before them; and the rows it writes. -/
def Good (n : ℕ) (hn : n < cfg0.N) (acc : Vec Ideal S1x256x2048 .bf16 × Vec Ideal S4x256x512 .f32 × Vec Ideal S4x1x256 .f32 × Vec Ideal S4x1x128 .f32) : Prop :=
  (∀ h, (stOf acc.2.1 acc.2.2.1 acc.2.2.2).head h = Mlstm.seqSt ((args m c (batch ⟨n, hn⟩)).chunk h) (2 * (n % 16) + 2))
  ∧ ∀ (j : Fin 2) (h : Fin 4) (r : Fin 128) (e : Fin 512), acc.1 ((rV j h).emb (ix3 0 r e))
      = (args m c (batch ⟨n, hn⟩)).headOut h (2 * (n % 16) + j.val) r e

/-- What a step writes, once the state it starts from is the recurrence's. -/
theorem out_eq (S : State Ideal) (hS : ∀ h, S.head h = Mlstm.seqSt ((args m c (batch t)).chunk h) (2 * (t.val % 16)))
    (j : Fin 2) (h : Fin 4) (r : Fin 128) (e : Fin 512) :
    (blkAt m c t).out j (if j = 1 then (blkAt m c t).next 0 S else S) h (ix3 0 r e) = (args m c (batch t)).headOut h (2 * (t.val % 16) + j.val) r e := by
  have hst : ((if j = 1 then (blkAt m c t).next 0 S else S).head h) = Mlstm.seqSt ((args m c (batch t)).chunk h) (2 * (t.val % 16) + j.val) := by
    have hj : j = 1 ∨ j = 0 := by omega
    rcases hj with rfl | rfl
    · rw [if_pos rfl, next_at, hS, chunk_eq]; rfl
    · rw [if_neg (by decide), hS]; rfl
  rw [out_at, hst, chunk_eq]
  have hng : View.ld (blkAt m c t).ng (rNg h) (ix2 0 e) = (args m c (batch t)).ng ⟨512 * h.val + e.val, by omega⟩ := by
    refine Eq.trans (congrArg (iblk m c 6 t : Vec Ideal S1x2048 .f32) (funext fun a => Fin.ext ?_)) (ng_at m c t ⟨512 * h.val + e.val, by omega⟩)
    match a with
    | ⟨0, _⟩ => rfl
    | ⟨1, _⟩ => show 512 * h.val + 1 * e.val = 512 * h.val + e.val; omega
  have ho : View.ld (blkAt m c t).o (rV j h) (ix3 0 r e) = (args m c (batch t)).x (Mlstm.at' (2 * (t.val % 16) + j.val) r) ⟨4096 + 512 * h.val + e.val, by omega⟩ := by
    refine (ld_v _ j h r e).trans ((o_at m c t _ _).trans ?_)
    rw [seqRow_eq]
    exact congrArg (fun e => (m ((c : Thread nD τ).loc main_arg0) : Vec Ideal S4x4096x14336 .f32) (ix3 _ _ e)) (Fin.ext (by
      show 4096 + (512 * h.val + e.val) = 4096 + 512 * h.val + e.val; omega))
  rw [hng, ho]
  rfl

/-- What a step leaves, likewise. -/
theorem state_eq (S : State Ideal) (hS : ∀ h, S.head h = Mlstm.seqSt ((args m c (batch t)).chunk h) (2 * (t.val % 16))) (h : Fin 4) :
    ((blkAt m c t).next 1 ((blkAt m c t).next 0 S)).head h = Mlstm.seqSt ((args m c (batch t)).chunk h) (2 * (t.val % 16) + 2) := by
  rw [next_at, next_at, hS, chunk_eq, chunk_eq]
  rfl

/-- A step is good when it goes from the recurrence's state to its own next one and writes its own rows. -/
theorem good_of (o : Vec Ideal S1x256x2048 .bf16) (s0 : Vec Ideal S4x256x512 .f32) (s1 : Vec Ideal S4x1x256 .f32) (s2 : Vec Ideal S4x1x128 .f32)
    (S : State Ideal) (hS : ∀ h, S.head h = Mlstm.seqSt ((args m c (batch t)).chunk h) (2 * (t.val % 16)))
    (hs : stOf s0 s1 s2 = (blkAt m c t).next 1 ((blkAt m c t).next 0 S))
    (ho : ∀ (j : Fin 2) (h : Fin 4) (x : S1x128x512.Idx), o ((rV j h).emb x) = (blkAt m c t).out j (if j = 1 then (blkAt m c t).next 0 S else S) h x) :
    Good m c t.val t.isLt (o, s0, s1, s2) :=
  ⟨fun h => (congrArg (fun S : State Ideal => S.head h) hs).trans (state_eq m c t S hS h),
    fun j h r e => (ho j h (ix3 0 r e)).trans (out_eq m c t S hS j h r e)⟩

/-- A step that starts a batch row. -/
theorem good_A (acc) (h0 : t.val % 16 = 0) : Good m c t.val t.isLt (Value.stAt0 m c t.val t.isLt acc) := by
  rw [Value.stAt0_A m c t acc h0]
  exact good_of m c t _ _ _ _ State.zero (fun h => by rw [h0, zero_head]; rfl)
    (stepA_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((hcond0_0 t).mpr h0))
    (stepA_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) ((hcond0_0 t).mpr h0))

/-- A step that goes on with one. -/
theorem good_B (acc) (h0 : ¬t.val % 16 = 0)
    (hS : ∀ h, (stOf acc.2.1 acc.2.2.1 acc.2.2.2 : State Ideal).head h = Mlstm.seqSt ((args m c (batch t)).chunk h) (2 * (t.val % 16))) :
    Good m c t.val t.isLt (Value.stAt0 m c t.val t.isLt acc) := by
  rw [Value.stAt0_B m c t acc h0]
  exact good_of m c t _ _ _ _ (stOf acc.2.1 acc.2.2.1 acc.2.2.2) hS
    (stepB_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) acc.2.1 acc.2.2.1 acc.2.2.2 (fun h => h0 ((hcond0_0 t).mp h)))
    (stepB_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) acc.2.1 acc.2.2.1 acc.2.2.2 (fun h => h0 ((hcond0_0 t).mp h)))

/-- Every point. -/
theorem sweep : ∀ (n : ℕ) (hn : n < cfg0.N), Good m c n hn (outsAt0 m c n hn)
  | 0, hn => by rw [Value.outsAt0_zero]; exact good_A m c ⟨0, hn⟩ _ rfl
  | n + 1, hn => by
    rw [Value.outsAt0_succ]
    by_cases h0 : (n + 1) % 16 = 0
    · exact good_A m c ⟨n + 1, hn⟩ _ h0
    · refine good_B m c ⟨n + 1, hn⟩ _ h0 fun h => ?_
      have ih := (sweep n (Nat.lt_of_succ_lt hn)).1 h
      have e1 : batch ⟨n, Nat.lt_of_succ_lt hn⟩ = batch ⟨n + 1, hn⟩ := Fin.ext (by show n / 16 = (n + 1) / 16; omega)
      have e2 : 2 * (n % 16) + 2 = 2 * ((n + 1) % 16) := by omega
      rw [e1, e2] at ih
      exact ih

/-- The output array: entry `(b, s, e)` is the head's output of its batch row. -/
theorem result (b : Fin 4) (s : Fin 4096) (e : Fin 2048) : (Value.G7 m c : Vec Ideal S4x4096x2048 .bf16) (ix3 b s e)
    = (args m c b).headOut ⟨e.val / 512, by omega⟩ (s.val / 128) ⟨s.val % 128, Nat.mod_lt _ (by decide)⟩ ⟨e.val % 512, Nat.mod_lt _ (by decide)⟩ := by
  have hp : Value.pt7Of (ix3 b s e) = 16 * b.val + s.val / 256 := by
    show 16 * (b.val / 1 - 0) + 1 * (s.val / 256 - 0) + 1 * (e.val / 2048 - 0) = _
    omega
  have hlt : Value.pt7Of (ix3 b s e) < cfg0.N := by rw [hp, show cfg0.N = 64 from N_0]; omega
  have g := (sweep m c _ hlt).2 ⟨s.val / 128 % 2, by omega⟩ ⟨e.val / 512, by omega⟩ ⟨s.val % 128, by omega⟩ ⟨e.val % 512, by omega⟩
  unfold Value.G7
  rw [dif_pos hlt, ← Value.outsAt0_sweep m c _ hlt]
  have hb : batch ⟨Value.pt7Of (ix3 b s e), hlt⟩ = b := Fin.ext (by show Value.pt7Of (ix3 b s e) / 16 = b.val; rw [hp]; omega)
  have hr : 2 * (Value.pt7Of (ix3 b s e) % 16) + s.val / 128 % 2 = s.val / 128 := by rw [hp]; omega
  rw [hb, hr] at g
  refine Eq.trans (congrArg (outsAt0 m c _ hlt).1 (funext fun a => Fin.ext ?_)) g
  match a with
  | ⟨0, _⟩ => show b.val % 1 = 0; omega
  | ⟨1, _⟩ => show s.val % 256 = 128 * (s.val / 128 % 2) + 1 * (s.val % 128); omega
  | ⟨2, _⟩ => show e.val % 2048 = 512 * (e.val / 512) + 1 * (e.val % 512); omega

end Cert.KernelIdeal.Head

end
-- ==== Proof.RefAt.lean ====
/-
  One trip of the reference's scan, read entry by entry at the extended reals.

  The carried buffers are the chunked operands, the counter and the running state; each value of the trip is, at batch
  `b` and head `h`, the formula of `ChunkSpec.lean` of the entries of chunk `r`, the counter's value.
-/
module

public import proofs.«01_k».proof.Proof.Gen.ReferenceIdeal.Run
public import proofs.«01_k».proof.Proof.Scalars
public import Idealize.ShloMosaic.Lib.Pointwise
public import Idealize.ShloMosaic.Lib.WordCmp
public import Idealize.ShloMosaic.Lib.DynamicIndex

@[expose] public section

set_option maxRecDepth 16384

noncomputable section

open Idealize.ShloMosaic Idealize.ShloMosaic.TcCoe

namespace Cert.ReferenceIdeal.Head

open Cert.ReferenceIdeal Cert.ReferenceIdeal.Gen Cert.ReferenceIdeal.Value

/-- The pattern of minus infinity is minus infinity. -/
theorem ofBits_ninf : Ideal.ofBits .f32 0xFF800000#32 = ⊥ := by
  simp [Ideal.ofBits, Ideal.ieee]

/-- A rank-five slice's starts at counter `r`, as naturals. -/
theorem starts5 {r : Nat} (hr : r < 32) (a : Fin 5) :
    ((![constantI S_ 32 (BitVec.ofNat 32 r), constantI S_ 32 0#32, constantI S_ 32 0#32, constantI S_ 32 0#32, constantI S_ 32 0#32]
      : Fin 5 → (⟨S_, .i32⟩ : BufTy).Contents (Elt Ideal)) a (Shape.Idx.first h_S_)).toInt = ((![r, 0, 0, 0, 0] : Fin 5 → Nat) a : Int) := by
  match a with
  | ⟨0, _⟩ => exact toInt_ofNat_of_lt (by omega)
  | ⟨1, _⟩ => rfl
  | ⟨2, _⟩ => rfl
  | ⟨3, _⟩ => rfl
  | ⟨4, _⟩ => rfl

/-- A rank-four slice's starts at counter `r`, as naturals. -/
theorem starts4 {r : Nat} (hr : r < 32) (a : Fin 4) :
    ((![constantI S_ 32 (BitVec.ofNat 32 r), constantI S_ 32 0#32, constantI S_ 32 0#32, constantI S_ 32 0#32]
      : Fin 4 → (⟨S_, .i32⟩ : BufTy).Contents (Elt Ideal)) a (Shape.Idx.first h_S_)).toInt = ((![r, 0, 0, 0] : Fin 4 → Nat) a : Int) := by
  match a with
  | ⟨0, _⟩ => exact toInt_ofNat_of_lt (by omega)
  | ⟨1, _⟩ => rfl
  | ⟨2, _⟩ => rfl
  | ⟨3, _⟩ => rfl

theorem slices_qk {r : Nat} (hr : r < 32) : S32x4x128x4x256.Slices ![r, 0, 0, 0, 0] S1x4x128x4x256 :=
  ⟨rfl, fun a => by match a with | ⟨0, _⟩ => (show r + 1 ≤ 32; omega) | ⟨1, _⟩ => exact le_rfl | ⟨2, _⟩ => exact le_rfl | ⟨3, _⟩ => exact le_rfl | ⟨4, _⟩ => exact le_rfl⟩
theorem slices_v {r : Nat} (hr : r < 32) : S32x4x128x4x512.Slices ![r, 0, 0, 0, 0] S1x4x128x4x512 :=
  ⟨rfl, fun a => by match a with | ⟨0, _⟩ => (show r + 1 ≤ 32; omega) | ⟨1, _⟩ => exact le_rfl | ⟨2, _⟩ => exact le_rfl | ⟨3, _⟩ => exact le_rfl | ⟨4, _⟩ => exact le_rfl⟩
theorem slices_g {r : Nat} (hr : r < 32) : S32x4x128x4.Slices ![r, 0, 0, 0] S1x4x128x4 :=
  ⟨rfl, fun a => by match a with | ⟨0, _⟩ => (show r + 1 ≤ 32; omega) | ⟨1, _⟩ => exact le_rfl | ⟨2, _⟩ => exact le_rfl | ⟨3, _⟩ => exact le_rfl⟩

/-- A chunk of a rank-five operand. -/
theorem pick5 {n : Nat} {r : Nat} (hr : r < 32) (x : (⟨5, ![32, 4, 128, 4, n]⟩ : Shape).Idx → EReal)
    (h : (⟨5, ![32, 4, 128, 4, n]⟩ : Shape).Slices ![r, 0, 0, 0, 0] ⟨5, ![1, 4, 128, 4, n]⟩) (b : Fin 4) (t : Fin 128) (k : Fin 4) (d : Fin n) :
    extractStridedSlice ⟨5, ![1, 4, 128, 4, n]⟩ ![r, 0, 0, 0, 0] x h (ix5 0 b t k d) = x (ix5 ⟨r, hr⟩ b t k d) :=
  congrArg x (funext fun a => Fin.ext (by
    match a with
    | ⟨0, _⟩ => exact Nat.add_zero r
    | ⟨1, _⟩ => exact Nat.zero_add _
    | ⟨2, _⟩ => exact Nat.zero_add _
    | ⟨3, _⟩ => exact Nat.zero_add _
    | ⟨4, _⟩ => exact Nat.zero_add _))

/-- A chunk written into a rank-five stack, read back. -/
theorem put5 {n : Nat} {r : Nat} (hr : r < 32) (x : (⟨5, ![32, 4, 128, 4, n]⟩ : Shape).Idx → EReal) (u : (⟨5, ![1, 4, 128, 4, n]⟩ : Shape).Idx → EReal)
    (h : (⟨5, ![32, 4, 128, 4, n]⟩ : Shape).Slices ![r, 0, 0, 0, 0] ⟨5, ![1, 4, 128, 4, n]⟩) (b : Fin 4) (t : Fin 128) (k : Fin 4) (d : Fin n) :
    updateSlice x u ![r, 0, 0, 0, 0] h (ix5 ⟨r, hr⟩ b t k d) = u (ix5 0 b t k d) := by
  unfold updateSlice
  refine (dif_pos fun a => ?_).trans (congrArg u (funext fun a => Fin.ext ?_))
  · match a with
    | ⟨0, _⟩ => exact ⟨Nat.le_refl r, Nat.lt_succ_self r⟩
    | ⟨1, _⟩ => exact ⟨Nat.zero_le _, by show b.val < 0 + 4; omega⟩
    | ⟨2, _⟩ => exact ⟨Nat.zero_le _, by show t.val < 0 + 128; omega⟩
    | ⟨3, _⟩ => exact ⟨Nat.zero_le _, by show k.val < 0 + 4; omega⟩
    | ⟨4, _⟩ => exact ⟨Nat.zero_le _, by show d.val < 0 + n; omega⟩
  · match a with
    | ⟨0, _⟩ => exact Nat.sub_self r
    | ⟨1, _⟩ => rfl
    | ⟨2, _⟩ => rfl
    | ⟨3, _⟩ => rfl
    | ⟨4, _⟩ => rfl

/-- The other chunks of the stack are kept. -/
theorem put5_other {n : Nat} {r : Nat} (x : (⟨5, ![32, 4, 128, 4, n]⟩ : Shape).Idx → EReal) (u : (⟨5, ![1, 4, 128, 4, n]⟩ : Shape).Idx → EReal)
    (h : (⟨5, ![32, 4, 128, 4, n]⟩ : Shape).Slices ![r, 0, 0, 0, 0] ⟨5, ![1, 4, 128, 4, n]⟩) (r' : Fin 32) (hne : r'.val ≠ r) (b : Fin 4)
    (t : Fin 128) (k : Fin 4) (d : Fin n) : updateSlice x u ![r, 0, 0, 0, 0] h (ix5 r' b t k d) = x (ix5 r' b t k d) := by
  unfold updateSlice
  refine dif_neg fun hin => ?_
  have h0 := hin ⟨0, Nat.zero_lt_succ 4⟩
  change r ≤ r'.val ∧ r'.val < r + 1 at h0
  omega

/-- The greatest over the source rows. -/
theorem maxRows_at (x : FVec Ideal S4x128x128x4 .f32) (b : Fin 4) (t : Fin 128) (h : Fin 4) :
    Host.reduce FloatOps.maximumf x (constant S_ .f32 0xFF800000#32) reducesTo_S4x128x128x4_S4x128x4_d2 h_S_ (ix3 b t h)
      = Finset.univ.fold max ⊥ fun s => x (ix4 b t s h) := by
  rw [← ofBits_ninf]
  pointwise []

/-- The greatest over the rows. -/
theorem maxCol_at (x : FVec Ideal S4x128x4 .f32) (b : Fin 4) (h : Fin 4) :
    Host.reduce FloatOps.maximumf x (constant S_ .f32 0xFF800000#32) reducesTo_S4x128x4_S4x4_d1 h_S_ (ix2 b h)
      = Finset.univ.fold max ⊥ fun s => x (ix3 b s h) := by
  rw [← ofBits_ninf]
  pointwise []

variable (V : Valuation τ sig (Elt Ideal)) {r : Nat} (hr : r < 32)
  (hc : V (Proc.devRef .tc main_v43_6) = constantI S_ 32 (BitVec.ofNat 32 r))

include hc in
theorem q_at (b : Fin 4) (t : Fin 128) (h : Fin 4) (d : Fin 256) :
    res_main_while0b_v69 V (ix4 b t h d) = V (Proc.devRef .tc main_v43_0) (ix5 ⟨r, hr⟩ b t h d) := by
  rw [res_main_while0b_v69, hc, WordCmp.dynamicSlice_eq_extract _ _ _ _ ![r, 0, 0, 0, 0] (slices_qk hr) (starts5 hr)]
  pointwise []

include hc in
theorem k_at (b : Fin 4) (t : Fin 128) (h : Fin 4) (d : Fin 256) :
    res_main_while0b_v70 V (ix4 b t h d) = V (Proc.devRef .tc main_v43_1) (ix5 ⟨r, hr⟩ b t h d) := by
  rw [res_main_while0b_v70, hc, WordCmp.dynamicSlice_eq_extract _ _ _ _ ![r, 0, 0, 0, 0] (slices_qk hr) (starts5 hr)]
  pointwise []

include hc in
theorem v_at (b : Fin 4) (t : Fin 128) (h : Fin 4) (d : Fin 512) :
    res_main_while0b_v71 V (ix4 b t h d) = V (Proc.devRef .tc main_v43_2) (ix5 ⟨r, hr⟩ b t h d) := by
  rw [res_main_while0b_v71, hc, WordCmp.dynamicSlice_eq_extract _ _ _ _ ![r, 0, 0, 0, 0] (slices_v hr) (starts5 hr)]
  pointwise []

include hc in
theorem li_at (b : Fin 4) (t : Fin 128) (h : Fin 4) :
    res_main_while0b_v72 V (ix3 b t h) = V (Proc.devRef .tc main_v43_3) (ix4 ⟨r, hr⟩ b t h) := by
  rw [res_main_while0b_v72, hc, WordCmp.dynamicSlice_eq_extract _ _ _ _ ![r, 0, 0, 0] (slices_g hr) (starts4 hr)]
  pointwise []

/-- A sum over the positions of a window of one column. -/
theorem sum_column (g : Fin (⟨3, ![1, 128, 1]⟩ : Shape).numel → EReal) :
    ∑ n, g n = ∑ w : Fin 128, g ((⟨3, ![1, 128, 1]⟩ : Shape).rowMajor (ix3 0 w 0)) := by
  rw [← Equiv.sum_comp (⟨3, ![1, 128, 1]⟩ : Shape).rowMajor]
  refine (Function.Bijective.sum_comp (e := fun w : Fin 128 => (ix3 0 w 0 : (⟨3, ![1, 128, 1]⟩ : Shape).Idx)) ⟨fun a b e => congrFun e 1, fun i => ⟨i 1, ?_⟩⟩
    fun i => g ((⟨3, ![1, 128, 1]⟩ : Shape).rowMajor i)).symm
  funext a
  match a with
  | ⟨0, _⟩ => exact Subsingleton.elim (α := Fin 1) _ _
  | ⟨1, _⟩ => rfl
  | ⟨2, _⟩ => exact Subsingleton.elim (α := Fin 1) _ _

/-- A left fold of additions is the sum. -/
theorem foldl_add {M : Nat} (g : Fin M → EReal) (z : EReal) :
    (List.finRange M).foldl (fun r n => r + g n) z = z + ∑ n, g n := by
  rw [← List.sum_ofFn, List.ofFn_eq_map]
  induction List.finRange M generalizing z with
  | nil => simp
  | cons a l ih => rw [List.foldl_cons, ih, List.map_cons, List.sum_cons, add_assoc]

/-- The rows a window of 128 rows ending at row `t` meets are those up to `t`. -/
theorem window_rows (f : Mlstm.Row) (t : Fin 128) :
    ∑ w : Fin 128, (if h : 127 ≤ t.val + w.val then f ⟨t.val + w.val - 127, by omega⟩ else 0) = ∑ s with s.val ≤ t.val, f s := by
  rw [← Finset.sum_filter_add_sum_filter_not Finset.univ (fun w : Fin 128 => 127 ≤ t.val + w.val)]
  rw [Finset.sum_eq_zero (s := Finset.univ.filter fun w : Fin 128 => ¬127 ≤ t.val + w.val) fun w hw =>
    dif_neg (Finset.mem_filter.1 hw).2, add_zero]
  refine Finset.sum_bij' (fun w _ => ⟨t.val + w.val - 127, by omega⟩) (fun s _ => ⟨(s.val + 127 - t.val) % 128, by omega⟩) ?_ ?_ ?_ ?_ ?_
  · intro w hw; simp only [Finset.mem_filter, Finset.mem_univ, true_and] at hw ⊢; omega
  · intro s hs; simp only [Finset.mem_filter, Finset.mem_univ, true_and] at hs ⊢; omega
  · intro w hw; simp only [Finset.mem_filter, Finset.mem_univ, true_and] at hw; apply Fin.ext; simp only []; omega
  · intro s hs; simp only [Finset.mem_filter, Finset.mem_univ, true_and] at hs; apply Fin.ext; simp only []; omega
  · intro w hw; exact dif_pos (Finset.mem_filter.1 hw).2

/-- The accumulated sum down axis one: the sum of the rows up to each row. -/
theorem cumsum_at (x : FVec Ideal S4x128x4 .f32) (b : Fin 4) (t : Fin 128) (h : Fin 4) :
    Host.reduceWindowAdd ![1, 128, 1] ![1, 1, 1] ![0, 127, 0] ![0, 0, 0] x (broadcastInDim S_ ![] bcast_S_S_ (constant S_ .f32 0x00000000#32))
      reduceWindows_S4x128x4_S4x128x4_w1s1p0_0_w128s1p127_0_w1s1p0_0 h_S_ (ix3 b t h) = ∑ s with s.val ≤ t.val, x (ix3 b s h) := by
  have hz : (broadcastInDim S_ ![] bcast_S_S_ (constant (F := Ideal) S_ .f32 0x00000000#32)) (Shape.Idx.first h_S_) = (0 : EReal) := by
    pointwise []
  show Host.reduceWindow (s := S4x128x4) (t := S4x128x4) (u := S_) (fun a b : EReal => a + b) ![1, 128, 1] ![1, 1, 1] ![0, 127, 0] ![0, 0, 0] x
    (broadcastInDim S_ ![] bcast_S_S_ (constant (F := Ideal) S_ .f32 0x00000000#32)) reduceWindows_S4x128x4_S4x128x4_w1s1p0_0_w128s1p127_0_w1s1p0_0 h_S_ (ix3 b t h) = _
  unfold Host.reduceWindow
  simp only [hz]
  refine (foldl_add (M := (⟨3, ![1, 128, 1]⟩ : Shape).numel) _ 0).trans ?_
  rw [zero_add, sum_column, ← window_rows (fun s => x (ix3 b s h)) t]
  refine Finset.sum_congr rfl fun w _ => ?_
  simp only [Equiv.symm_apply_apply]
  by_cases hw : 127 ≤ t.val + w.val
  · rw [dif_pos hw, dif_pos (fun a => by match a with
      | ⟨0, _⟩ => exact ⟨Nat.zero_le _, by show b.val * 1 + 0 - 0 < 4; omega⟩
      | ⟨1, _⟩ => exact ⟨by show 127 ≤ t.val * 1 + w.val; omega, by show t.val * 1 + w.val - 127 < 128; omega⟩
      | ⟨2, _⟩ => exact ⟨Nat.zero_le _, by show h.val * 1 + 0 - 0 < 4; omega⟩)]
    refine congrArg x (funext fun a => Fin.ext ?_)
    match a with
    | ⟨0, _⟩ => show b.val * 1 + 0 - 0 = b.val; omega
    | ⟨1, _⟩ => show t.val * 1 + w.val - 127 = t.val + w.val - 127; omega
    | ⟨2, _⟩ => show h.val * 1 + 0 - 0 = h.val; omega
  · rw [dif_neg hw, dif_neg]
    intro hin
    have h1 := (hin 1).1
    change 127 ≤ t.val * 1 + w.val at h1
    omega
  exact 0

include hc in
/-- The accumulated forget gates. -/
theorem cb_at (b : Fin 4) (t : Fin 128) (h : Fin 4) :
    res_main_while0b_v74 V (ix3 b t h) = ∑ s with s.val ≤ t.val, (show S32x4x128x4.Idx → EReal from V (Proc.devRef .tc main_v43_4)) (ix4 ⟨r, hr⟩ b s h) := by
  rw [res_main_while0b_v74, hc, WordCmp.dynamicSlice_eq_extract _ _ _ _ ![r, 0, 0, 0] (slices_g hr) (starts4 hr)]
  refine (cumsum_at _ b t h).trans (Finset.sum_congr rfl fun s _ => ?_)
  pointwise []

/-! ## The trip's values of the chunk's rows -/

/-- Batch `b`'s rows of head `h`: accumulated forget gates, input gates, queries, keys and values. -/
abbrev rowF (b h : Fin 4) : Mlstm.Row := fun t => res_main_while0b_v74 V (ix3 b t h)
abbrev rowI (b h : Fin 4) : Mlstm.Row := fun t => res_main_while0b_v72 V (ix3 b t h)
abbrev rowQ (b h : Fin 4) : Fin 128 → Fin 256 → EReal := fun t d => res_main_while0b_v69 V (ix4 b t h d)
abbrev rowK (b h : Fin 4) : Fin 128 → Fin 256 → EReal := fun t d => res_main_while0b_v70 V (ix4 b t h d)
abbrev rowV (b h : Fin 4) : Fin 128 → Fin 512 → EReal := fun t e => res_main_while0b_v71 V (ix4 b t h e)
/-- Its carried state. -/
abbrev stC (b h : Fin 4) : Fin 256 → Fin 512 → EReal := fun d e => V (Proc.devRef .tc main_v43_7) (ix4 b h d e)
abbrev stN (b h : Fin 4) : Fin 256 → EReal := fun d => V (Proc.devRef .tc main_v43_8) (ix3 b h d)
abbrev stM (b h : Fin 4) : EReal := V (Proc.devRef .tc main_v43_9) (ix2 b h)

variable (ht : ∀ t s : Fin 128, V (Proc.devRef .tc main_v43_5) (ix2 t s) = BitVec.ofBool (decide (s.val ≤ t.val)))

include ht in
theorem dec_at (b : Fin 4) (t s : Fin 128) (h : Fin 4) :
    res_main_while0b_v84 V (ix4 b t s h) = Mlstm.dec (rowF V b h) (rowI V b h) t s := by
  pointwise [res_main_while0b_v84]
  rw [ht]
  unfold Mlstm.dec
  by_cases hs : s.val ≤ t.val
  · simp [hs, Scalar.select]
  · simp [hs, Scalar.select]
    exact ofBits_ninf

theorem inter_at (b : Fin 4) (t : Fin 128) (h : Fin 4) : res_main_while0b_v87 V (ix3 b t h) = rowF V b h t + stM V b h := by
  pointwise [res_main_while0b_v87]

include ht in
theorem top_at (b : Fin 4) (t : Fin 128) (h : Fin 4) :
    res_main_while0b_v89 V (ix3 b t h) = Mlstm.top (rowF V b h) (rowI V b h) (stM V b h) t := by
  refine (congrArg₂ (max : EReal → EReal → EReal) (inter_at V b t h) (maxRows_at (res_main_while0b_v84 V) b t h)).trans ?_
  simp only [dec_at V ht]
  rfl

include ht in
theorem score_at (b : Fin 4) (t s : Fin 128) (h : Fin 4) :
    res_main_while0b_v96 V (ix4 b t s h) = Mlstm.score (rowQ V b h) (rowK V b h) (rowF V b h) (rowI V b h) (stM V b h) t s := by
  pointwise [res_main_while0b_v96]
  rw [dec_at V ht, top_at V ht]
  unfold Mlstm.score
  refine congrArg (· * _) (Finset.sum_congr rfl fun d _ => mul_comm _ _)

include ht in
theorem carry_at (b : Fin 4) (t : Fin 128) (h : Fin 4) :
    res_main_while0b_v98 V (ix3 b t h) = Mlstm.carry (rowF V b h) (rowI V b h) (stM V b h) t := by
  pointwise [res_main_while0b_v98]
  rw [inter_at, top_at V ht]
  rfl

theorem last_at (b h : Fin 4) : res_main_while0b_v120 V (ix2 b h) = rowF V b h 127 := by
  pointwise [res_main_while0b_v120]

theorem into_at (b : Fin 4) (t : Fin 128) (h : Fin 4) :
    res_main_while0b_v124 V (ix3 b t h) = Mlstm.into (rowF V b h) (rowI V b h) t := by
  pointwise [res_main_while0b_v124]
  rw [last_at]
  rfl

theorem nextM_at (b h : Fin 4) : res_main_while0b_v127 V (ix2 b h) = Mlstm.nextM (rowF V b h) (rowI V b h) (stM V b h) := by
  refine (congrArg₂ (max : EReal → EReal → EReal) (congrArg (fun x : EReal => x + stM V b h) (last_at V b h)) (maxCol_at (res_main_while0b_v124 V) b h)).trans ?_
  simp only [into_at]
  rfl

theorem gain_at (b : Fin 4) (t : Fin 128) (h : Fin 4) :
    res_main_while0b_v131 V (ix3 b t h) = Mlstm.gain (rowF V b h) (rowI V b h) (stM V b h) t := by
  pointwise [res_main_while0b_v131]
  rw [into_at, nextM_at]
  rfl

theorem keep_at (b h : Fin 4) : res_main_while0b_v134 V (ix2 b h) = Mlstm.keep (rowF V b h) (rowI V b h) (stM V b h) := by
  pointwise [res_main_while0b_v134]
  rw [last_at, nextM_at]
  rfl

/-! ## The state and the output after the trip -/

theorem stepC_at (b h : Fin 4) (d : Fin 256) (e : Fin 512) : step_main_v43_7 V (ix4 b h d e)
    = Mlstm.nextC (rowK V b h) (rowV V b h) (rowF V b h) (rowI V b h) (stC V b h) (stM V b h) d e := by
  rw [step_main_v43_7, id_eq]
  pointwise []
  rw [keep_at]
  simp only [gain_at]
  unfold Mlstm.nextC
  refine congrArg (_ + ·) (Finset.sum_congr rfl fun s _ => congrArg (· * _) (mul_comm _ _))

theorem stepN_at (b h : Fin 4) (d : Fin 256) : step_main_v43_8 V (ix3 b h d)
    = Mlstm.nextN (rowK V b h) (rowF V b h) (rowI V b h) (stN V b h) (stM V b h) d := by
  rw [step_main_v43_8, id_eq]
  pointwise []
  rw [keep_at]
  simp only [gain_at]
  unfold Mlstm.nextN
  refine congrArg (_ + ·) (Finset.sum_congr rfl fun s _ => mul_comm _ _)

theorem stepM_at (b h : Fin 4) : step_main_v43_9 V (ix2 b h) = Mlstm.nextM (rowF V b h) (rowI V b h) (stM V b h) :=
  nextM_at V b h

include hc ht in
/-- The trip writes its chunk's rows of the output. -/
theorem stepO_at (b : Fin 4) (t : Fin 128) (h : Fin 4) (e : Fin 512) : step_main_v43_10 V (ix5 ⟨r, hr⟩ b t h e)
    = Mlstm.hid (rowQ V b h) (rowK V b h) (rowV V b h) (rowF V b h) (rowI V b h) (stC V b h) (stN V b h) (stM V b h) t e := by
  rw [step_main_v43_10, id_eq, hc, WordCmp.dynamicUpdateSlice_eq_update _ _ _ _ ![r, 0, 0, 0, 0] (slices_v hr) (starts5 hr)]
  refine (put5 hr _ _ (slices_v hr) b t h e).trans ?_
  pointwise []
  simp only [score_at V ht, carry_at V ht, top_at V ht]
  refine congrArg₂ Ideal.div (congrArg₂ HAdd.hAdd (Finset.sum_congr rfl fun _ _ => mul_comm _ _)
    (congrArg (HMul.hMul _) (Finset.sum_congr rfl fun _ _ => mul_comm _ _))) (congrArg₂ max ?_ rfl)
  refine (congrArg (fun a : EReal => max a (-a)) ?_ :)
  exact congrArg₂ HAdd.hAdd rfl (congrArg (HMul.hMul _) (Finset.sum_congr rfl fun _ _ => mul_comm _ _))

include hr hc in
/-- It leaves the other chunks' rows. -/
theorem stepO_other (r' : Fin 32) (hne : r'.val ≠ r) (b : Fin 4) (t : Fin 128) (h : Fin 4) (e : Fin 512) :
    step_main_v43_10 V (ix5 r' b t h e) = V (Proc.devRef .tc main_v43_10) (ix5 r' b t h e) := by
  rw [step_main_v43_10, id_eq, hc, WordCmp.dynamicUpdateSlice_eq_update _ _ _ _ ![r, 0, 0, 0, 0] (slices_v hr) (starts5 hr)]
  exact put5_other _ _ (slices_v hr) r' hne b t h e

end Cert.ReferenceIdeal.Head

end
-- ==== Proof.RefIn.lean ====
/-
  What the reference's scan starts from, entry by entry: the chunked operands, the two gates, the triangle, and zeros.
-/
module

public import proofs.«01_k».proof.Proof.Gen.ReferenceIdeal.Run
public import proofs.«01_k».proof.Proof.Seq
public import Idealize.ShloMosaic.Lib.Pointwise
public import Idealize.ShloMosaic.Lib.WordCmp
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.ReferenceIdeal.Head

open Cert.ReferenceIdeal Cert.ReferenceIdeal.Gen Cert.ReferenceIdeal.Value

variable (m : (ℓ : Loc nD τ sig) → Buf (Elt Ideal) ℓ) (c : Dev nD)

/-- The inputs of batch row `b`. -/
def args (b : Fin 4) : Mlstm.Args :=
  Mlstm.argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b

/-- Row `t` of chunk `r` as a row of the sequence. -/
theorem at_eq (r : Fin 32) (t : Fin 128) : Mlstm.at' r.val t = ⟨128 * r.val + t.val, by omega⟩ :=
  Fin.ext (Nat.mod_eq_of_lt (by omega))

/-- The extended reals' absolute value is the greater of the two signs. -/
theorem absf_neg (x : EReal) : (FloatOps.absf (show Ideal .f32 from (-x : EReal)) : EReal) = max x (-x) := by
  show max (-x) (- -x) = _
  rw [neg_neg, max_comm]

/-- The queries. -/
theorem entry_q (r : Fin 32) (b : Fin 4) (t : Fin 128) (h : Fin 4) (d : Fin 256) :
    (show S32x4x128x4x256.Idx → EReal from entryContents preI m c (Proc.devRef .tc main_v43_0)) (ix5 r b t h d)
      = (args m c b).x (Mlstm.at' r.val t) ⟨256 * h.val + d.val, by omega⟩ := by
  simp only [entryContents, afterL_cons, afterL_nil]
  after_reads_simp
  simp only [id_eq, TRef.of, TRef.ofBuf, TRef.toBuf, cast_eq]
  rw [at_eq]
  pointwise []
  exact congrArg₂ (args m c b).x (Fin.ext (by dsimp only; omega)) (Fin.ext (by dsimp only; omega))

/-- The keys, scaled. -/
theorem entry_k (r : Fin 32) (b : Fin 4) (t : Fin 128) (h : Fin 4) (d : Fin 256) :
    (show S32x4x128x4x256.Idx → EReal from entryContents preI m c (Proc.devRef .tc main_v43_1)) (ix5 r b t h d)
      = (args m c b).x (Mlstm.at' r.val t) ⟨1024 + 256 * h.val + d.val, by omega⟩ * Ideal.ofBits .f32 0x3D800000#32 := by
  simp only [entryContents, afterL_cons, afterL_nil]
  after_reads_simp
  simp only [id_eq, TRef.of, TRef.ofBuf, TRef.toBuf, cast_eq]
  rw [at_eq]
  pointwise []
  exact congrArg (fun y : EReal => y * Ideal.ofBits .f32 0x3D800000#32)
    (congrArg₂ (args m c b).x (Fin.ext (by dsimp only; omega)) (Fin.ext (by dsimp only; omega)))

/-- The values. -/
theorem entry_v (r : Fin 32) (b : Fin 4) (t : Fin 128) (h : Fin 4) (d : Fin 512) :
    (show S32x4x128x4x512.Idx → EReal from entryContents preI m c (Proc.devRef .tc main_v43_2)) (ix5 r b t h d)
      = (args m c b).x (Mlstm.at' r.val t) ⟨2048 + 512 * h.val + d.val, by omega⟩ := by
  simp only [entryContents, afterL_cons, afterL_nil]
  after_reads_simp
  simp only [id_eq, TRef.of, TRef.ofBuf, TRef.toBuf, cast_eq]
  rw [at_eq]
  pointwise []
  exact congrArg₂ (args m c b).x (Fin.ext (by dsimp only; omega)) (Fin.ext (by dsimp only; omega))

/-- The log input gate. -/
theorem entry_li (r : Fin 32) (b : Fin 4) (t : Fin 128) (h : Fin 4) :
    (show S32x4x128x4.Idx → EReal from entryContents preI m c (Proc.devRef .tc main_v43_3)) (ix4 r b t h)
      = (args m c b).li h (Mlstm.at' r.val t) := by
  simp only [entryContents, afterL_cons, afterL_nil]
  after_reads_simp
  simp only [id_eq, TRef.of, TRef.ofBuf, TRef.toBuf, cast_eq]
  rw [at_eq]
  pointwise []
  exact congrArg (fun y : EReal => Mlstm.cap (y + (args m c b).bi h))
    (congrArg₂ (args m c b).g (Fin.ext (by dsimp only; omega)) (Fin.ext (by dsimp only)))

/-- The log forget gate. -/
theorem entry_lf (r : Fin 32) (b : Fin 4) (t : Fin 128) (h : Fin 4) :
    (show S32x4x128x4.Idx → EReal from entryContents preI m c (Proc.devRef .tc main_v43_4)) (ix4 r b t h)
      = (args m c b).lf h (Mlstm.at' r.val t) := by
  simp only [entryContents, afterL_cons, afterL_nil]
  after_reads_simp
  simp only [id_eq, TRef.of, TRef.ofBuf, TRef.toBuf, cast_eq]
  rw [at_eq]
  pointwise []
  rw [if_neg fun e => e rfl, absf_neg]
  exact congrArg (fun y : EReal => Mlstm.logSigmoid (Mlstm.cap (y + (args m c b).bf h)))
    (congrArg₂ (args m c b).g (Fin.ext (by dsimp only; omega)) rfl)

/-- The triangle. -/
theorem entry_tril (t s : Fin 128) :
    (show S128x128.Idx → BitVec 1 from entryContents preI m c (Proc.devRef .tc main_v43_5)) (ix2 t s) = BitVec.ofBool (decide (s.val ≤ t.val)) := by
  simp only [entryContents, afterL_cons, afterL_nil]
  after_reads_simp
  simp only [id_eq, TRef.of, TRef.ofBuf, TRef.toBuf, cast_eq]
  pointwise []
  have ht := t.isLt
  have hs := s.isLt
  have hb : (BitVec.ofNat 32 s.val).sle (BitVec.ofNat 32 t.val + 0#32) = decide (s.val ≤ t.val) := by
    rw [BitVec.add_zero, BitVec.sle_eq_decide, WordCmp.toInt_ofNat_of_lt (by omega), WordCmp.toInt_ofNat_of_lt (by omega)]
    simp only [Int.ofNat_le]
  by_cases h : s.val ≤ t.val
  · rw [decide_eq_true h] at hb ⊢
    simp only [IntOp.cmpi, IntOp.addi, hb]
    rfl
  · rw [decide_eq_false h] at hb ⊢
    simp only [IntOp.cmpi, IntOp.addi, hb]
    rfl

/-- The state starts at zero. -/
theorem entry_C (b h : Fin 4) (d : Fin 256) (e : Fin 512) : (show S4x4x256x512.Idx → EReal from entryContents preI m c (Proc.devRef .tc main_v43_7)) (ix4 b h d e) = 0 := by
  simp only [entryContents, afterL_cons, afterL_nil]
  after_reads_simp
  simp only [id_eq, TRef.of, TRef.ofBuf, TRef.toBuf, cast_eq]
  pointwise []

/-- The state starts at zero. -/
theorem entry_n (b h : Fin 4) (d : Fin 256) : (show S4x4x256.Idx → EReal from entryContents preI m c (Proc.devRef .tc main_v43_8)) (ix3 b h d) = 0 := by
  simp only [entryContents, afterL_cons, afterL_nil]
  after_reads_simp
  simp only [id_eq, TRef.of, TRef.ofBuf, TRef.toBuf, cast_eq]
  pointwise []

/-- The state starts at zero. -/
theorem entry_m (b h : Fin 4) : (show S4x4.Idx → EReal from entryContents preI m c (Proc.devRef .tc main_v43_9)) (ix2 b h) = 0 := by
  simp only [entryContents, afterL_cons, afterL_nil]
  after_reads_simp
  simp only [id_eq, TRef.of, TRef.ofBuf, TRef.toBuf, cast_eq]
  pointwise []

end Cert.ReferenceIdeal.Head

end
-- ==== Proof.RefSeq.lean ====
/-
  The reference's scan, run: before trip `k` the carried state of each head is the recurrence's own before chunk `k`, and
  the output stack holds the rows of the chunks before it. The result array is then what `Seq.lean` says.
-/
module

public import proofs.«01_k».proof.Proof.RefAt
public import proofs.«01_k».proof.Proof.RefIn

@[expose] public section

set_option maxRecDepth 16384

noncomputable section

open Idealize.ShloMosaic Idealize.ShloMosaic.TcCoe Idealize.SL.Sem Idealize.ShloMosaic.StableHlo

namespace Cert.ReferenceIdeal.Head

open Cert.ReferenceIdeal Cert.ReferenceIdeal.Gen Cert.ReferenceIdeal.Value

variable (m : (ℓ : Loc nD τ sig) → Buf (Elt Ideal) ℓ) (c : Dev nD)

/-- The buffers before trip `k`. -/
abbrev before (k : ℕ) : Valuation τ sig (Elt Ideal) := STEP^[k] (entryContents preI m c)

theorem before_succ (k : ℕ) : before m c (k + 1) = STEP (before m c k) := Function.iterate_succ_apply' _ _ _

/-- A buffer that no trip changes. -/
theorem before_kept (r : Ref sig .tc) (h : ∀ V : Valuation τ sig (Elt Ideal), STEP V (Proc.devRef .tc r) = V (Proc.devRef .tc r)) :
    ∀ k, before m c k (Proc.devRef .tc r) = entryContents preI m c (Proc.devRef .tc r)
  | 0 => rfl
  | k + 1 => by rw [before_succ, h, before_kept r h k]

/-- The counter. -/
theorem counter : ∀ k, before m c k (Proc.devRef .tc main_v43_6) = constantI S_ 32 (BitVec.ofNat 32 k)
  | 0 => ctr_entry m c
  | k + 1 => by
    rw [before_succ, STEP_main_v43_6, step_main_v43_6, id_eq, counter k]
    funext i
    exact (BitVec.ofNat_add k 1).symm

/-- The triangle. -/
theorem tril_at (k : ℕ) (t s : Fin 128) : before m c k (Proc.devRef .tc main_v43_5) (ix2 t s) = BitVec.ofBool (decide (s.val ≤ t.val)) := by
  rw [before_kept m c main_v43_5 STEP_main_v43_5 k]
  exact entry_tril m c t s

/-- The chunk a trip works on. -/
theorem chunk_eq {k : ℕ} (hk : k < 32) (b h : Fin 4) :
    (⟨rowQ (before m c k) b h, rowK (before m c k) b h, rowV (before m c k) b h, rowF (before m c k) b h, rowI (before m c k) b h⟩ : Mlstm.Chunk)
      = (args m c b).chunk h k := by
  apply Mlstm.Chunk.ext
  · funext t d
    refine (q_at (before m c k) hk (counter m c k) b t h d).trans ?_
    rw [before_kept m c main_v43_0 STEP_main_v43_0 k]
    exact entry_q m c ⟨k, hk⟩ b t h d
  · funext t d
    refine (k_at (before m c k) hk (counter m c k) b t h d).trans ?_
    rw [before_kept m c main_v43_1 STEP_main_v43_1 k]
    exact entry_k m c ⟨k, hk⟩ b t h d
  · funext t d
    refine (v_at (before m c k) hk (counter m c k) b t h d).trans ?_
    rw [before_kept m c main_v43_2 STEP_main_v43_2 k]
    exact entry_v m c ⟨k, hk⟩ b t h d
  · funext t
    refine (cb_at (before m c k) hk (counter m c k) b t h).trans ?_
    show _ = ∑ s with s.val ≤ t.val, (args m c b).lf h (Mlstm.at' k s)
    refine Finset.sum_congr rfl fun s _ => ?_
    rw [before_kept m c main_v43_4 STEP_main_v43_4 k]
    exact entry_lf m c ⟨k, hk⟩ b s h
  · funext t
    refine (li_at (before m c k) hk (counter m c k) b t h).trans ?_
    rw [before_kept m c main_v43_3 STEP_main_v43_3 k]
    exact entry_li m c ⟨k, hk⟩ b t h

/-- The carried state of a head. -/
def head (V : Valuation τ sig (Elt Ideal)) (b h : Fin 4) : Mlstm.St := ⟨stC V b h, stN V b h, stM V b h⟩

/-- A trip takes the state to its next. -/
theorem head_step (V : Valuation τ sig (Elt Ideal)) (b h : Fin 4) :
    head (STEP V) b h = (head V b h).next ⟨rowQ V b h, rowK V b h, rowV V b h, rowF V b h, rowI V b h⟩ := by
  apply Mlstm.St.ext
  · funext d e
    show STEP V (Proc.devRef .tc main_v43_7) (ix4 b h d e) = _
    rw [STEP_main_v43_7]
    exact stepC_at V b h d e
  · funext d
    show STEP V (Proc.devRef .tc main_v43_8) (ix3 b h d) = _
    rw [STEP_main_v43_8]
    exact stepN_at V b h d
  · show STEP V (Proc.devRef .tc main_v43_9) (ix2 b h) = _
    rw [STEP_main_v43_9]
    exact stepM_at V b h

/-- Before trip `k` the state is the recurrence's before chunk `k`. -/
theorem head_eq (b h : Fin 4) : ∀ k, k ≤ 32 → head (before m c k) b h = Mlstm.seqSt ((args m c b).chunk h) k
  | 0, _ => Mlstm.St.ext (funext fun d => funext fun e => entry_C m c b h d e) (funext fun d => entry_n m c b h d) (entry_m m c b h)
  | k + 1, hk => by
    rw [before_succ, head_step, head_eq b h k (by omega), chunk_eq m c (by omega)]
    rfl

/-- Before trip `k` the output stack holds the rows of the chunks before `k`. -/
theorem stack_eq (b : Fin 4) (t : Fin 128) (h : Fin 4) (e : Fin 512) (r : Fin 32) : ∀ k, k ≤ 32 → r.val < k →
    (show S32x4x128x4x512.Idx → EReal from before m c k (Proc.devRef .tc main_v43_10)) (ix5 r b t h e) = (args m c b).row h r.val t e
  | 0, _, hr => absurd hr (Nat.not_lt_zero _)
  | k + 1, hk, hr => by
    have hs : before m c (k + 1) (Proc.devRef .tc main_v43_10) = step_main_v43_10 (before m c k) := by rw [before_succ, STEP_main_v43_10]
    rw [hs]
    by_cases e' : r.val = k
    · subst e'
      refine (stepO_at (before m c r.val) r.isLt (counter m c r.val) (tril_at m c r.val) b t h e).trans ?_
      have h1 := head_eq m c b h r.val (by omega)
      have h2 := chunk_eq m c r.isLt b h
      unfold Mlstm.Args.row
      rw [← h1, ← h2]
      rfl
    · refine (stepO_other (before m c k) (by omega) (counter m c k) r e' b t h e).trans ?_
      exact stack_eq b t h e r k (by omega) (by omega)

/-- What the operations after the scan make of an output stack that holds a batch row's rows. -/
theorem out_at (V : Valuation τ sig (Elt Ideal)) (X : Mlstm.Args) (b : Fin 4) (s : Fin 4096) (e : Fin 2048)
    (hrow : ∀ x : Fin 512, V (Proc.devRef .tc main_v43_10) (ix5 ⟨s.val / 128, by omega⟩ b ⟨s.val % 128, Nat.mod_lt _ (by decide)⟩ ⟨e.val / 512, by omega⟩ x)
      = X.row ⟨e.val / 512, by omega⟩ (s.val / 128) ⟨s.val % 128, Nat.mod_lt _ (by decide)⟩ x)
    (hg : V (Proc.devRef .tc main_arg4) (ix1 e) = X.ng e) (hx : V (Proc.devRef .tc main_arg0) (ix3 b s ⟨4096 + e.val, by omega⟩) = X.x s ⟨4096 + e.val, by omega⟩) :
    out_main_v68 V (ix3 b s e)
      = X.headOut ⟨e.val / 512, by omega⟩ (s.val / 128) ⟨s.val % 128, Nat.mod_lt _ (by decide)⟩ ⟨e.val % 512, Nat.mod_lt _ (by decide)⟩ := by
  have hs : Mlstm.at' (s.val / 128) ⟨s.val % 128, Nat.mod_lt _ (by decide)⟩ = s := Fin.ext (by show (128 * (s.val / 128) + s.val % 128) % 4096 = _; omega)
  have he : 512 * (e.val / 512) + e.val % 512 = e.val := by omega
  pointwise [out_main_v68]
  simp only [hrow]
  rw [hg, hx]
  unfold Mlstm.Args.headOut Mlstm.unit Mlstm.sigmoid
  simp only [hs, Nat.add_assoc, he]

/-- The result array: entry `(b, s, e)` is the head's output of its batch row. -/
theorem result (b : Fin 4) (s : Fin 4096) (e : Fin 2048) :
    (show S4x4096x2048.Idx → EReal from out_main_v68 (STEP^[32] (entryContents preI m c))) (ix3 b s e)
      = (args m c b).headOut ⟨e.val / 512, by omega⟩ (s.val / 128) ⟨s.val % 128, Nat.mod_lt _ (by decide)⟩ ⟨e.val % 512, Nat.mod_lt _ (by decide)⟩ := by
  exact out_at _ _ b s e (fun x => stack_eq m c b _ _ x ⟨s.val / 128, by omega⟩ 32 (Nat.le_refl _) (Fin.isLt _))
    (congrFun (iter_main_arg4 m c 32) (ix1 e)) (congrFun (iter_main_arg0 m c 32) (ix3 b s ⟨4096 + e.val, by omega⟩))

end Cert.ReferenceIdeal.Head

end
-- ==== Proof.UpBody.lean ====
/-
  One step of the feed-forward's first call, as a run: given the six input blocks and what the halo buffer holds, what the
  step leaves in the result's block and in the halo buffer.
-/
module

public import proofs.«01_k».proof.Proof.Gen.KernelUpIdeal.Launch
public import proofs.«01_k».proof.Proof.Gen.KernelUpIdeal.Skeleton
public import proofs.«01_k».proof.Proof.Gen.KernelUpIdeal.Points
public import Idealize.ShloMosaic.Lib.Pipeline.FrameBody
public import Idealize.ShloMosaic.Lib.VecWindow
public import Idealize.ShloMosaic.Lib.Tactic

@[expose] public section

set_option maxRecDepth 16384

noncomputable section

namespace Cert.KernelUpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelUpIdeal Cert.KernelUpIdeal.Gen

variable {F : FTy → Type} [FloatOps F]

local notation "𝕄" => MT nD τ sig Unit (Elt F) ℕ (UR sig nD τ) ℕ

/-- The first lane of the block of sums of squares. -/
abbrev lane0 (x1 : Vec F S1024x128 .f32) : Vec F S1024x1 .f32 :=
  View.ld x1 (Rect.unit (s := S1024x128) ![0, 0] S1024x1.size inb_S1024x128_S1024x1_0_0)

/-- The eight rows the step leaves for the next tile of the same columns: the last ones of its gate. -/
abbrev left (x0 : Vec F S1024x4096 .bf16) (x1 : Vec F S1024x128 .f32) (x2 : Vec F S1x4096x512 .bf16) : Vec F S1x8x512 .f32 :=
  k1_pay8 x0 (lane0 x1) x2

/-- The eight rows the step sees before its gate: zeros at a sequence's first tile, else the halo buffer's row of the columns. -/
abbrev seen (i : grid1.Coords) (xs : Vec F S16x8x512 .f32) : Vec F S1x8x512 .f32 :=
  if k1_cond1 i = 1#1 then k1_pay2 (F := F) else View.ld xs (Rect.unit (s := S16x8x512) (k1_off2 i) S1x8x512.size (k1_off2_inb i))

/-- The result's block, from the input blocks and the eight rows before the gate. -/
abbrev outOf (x0 : Vec F S1024x4096 .bf16) (x1 : Vec F S1024x128 .f32) (x2 x3 : Vec F S1x4096x512 .bf16) (x4 : Vec F S1x3x512 .f32)
    (x5 : Vec F S1x1x512 .f32) (h : Vec F S1x8x512 .f32) : Vec F S1024x512 .bf16 :=
  k1_pay1 (k1_pay5 x0 (lane0 x1) x2) (k1_pay6 x0 (lane0 x1) x3) (k1_pay7 h) x4 x5

/-- The two spellings of the halo buffer's row agree. -/
theorem off_eq (i : grid1.Coords) : k1_off1 i = k1_off2 i := rfl

/-- The result's block of equal operands. -/
theorem out_congr {a0 x0 : Vec F S1024x4096 .bf16} {a1 : Vec F S1024x1 .f32} {x1 : Vec F S1024x128 .f32} {a2 x2 a3 x3 : Vec F S1x4096x512 .bf16}
    {a4 x4 : Vec F S1x3x512 .f32} {a5 x5 : Vec F S1x1x512 .f32} {h h' : Vec F S1x8x512 .f32} (e0 : a0 = x0) (e1 : a1 = lane0 x1)
    (e2 : a2 = x2) (e3 : a3 = x3) (e4 : a4 = x4) (e5 : a5 = x5) (eh : h = h') :
    k1_pay1 (k1_pay5 a0 a1 a2) (k1_pay6 a0 a1 a3) (k1_pay7 h) a4 a5 = outOf x0 x1 x2 x3 x4 x5 h' := by
  subst e0 e1 e2 e3 e4 e5 eh; rfl

/-- The halo buffer with the rows left put in, of equal operands. -/
theorem put_congr {a0 x0 : Vec F S1024x4096 .bf16} {a1 : Vec F S1024x1 .f32} {x1 : Vec F S1024x128 .f32} {a2 x2 : Vec F S1x4096x512 .bf16}
    {x x' : Vec F S16x8x512 .f32} (off : Fin 3 → ℕ) (e : x = x') (e0 : a0 = x0) (e1 : a1 = lane0 x1) (e2 : a2 = x2) :
    VecWindow.put x off S1x8x512.size (k1_pay8 a0 a1 a2) = VecWindow.put x' off S1x8x512.size (left x0 x1 x2) := by
  subst e e0 e1 e2; rfl

set_option maxHeartbeats 1000000 in
/-- The step's run. -/
theorem step_run (c : Dev nD) (E : Set ℕ) (i : grid1.Coords)
    (arg2 : Memref sig .tc .vmem S1024x4096 .bf16) (harg2 : arg2.IsWhole) (arg3 : Memref sig .tc .vmem S1024x128 .f32) (harg3 : arg3.IsWhole)
    (arg4 : Memref sig .tc .vmem S1x4096x512 .bf16) (harg4 : arg4.IsWhole) (arg5 : Memref sig .tc .vmem S1x4096x512 .bf16) (harg5 : arg5.IsWhole)
    (arg6 : Memref sig .tc .vmem S1x3x512 .f32) (harg6 : arg6.IsWhole) (arg7 : Memref sig .tc .vmem S1x1x512 .f32) (harg7 : arg7.IsWhole)
    (arg8 : Memref sig .tc .vmem S1024x512 .bf16) (harg8 : arg8.IsWhole) (arg9 : Memref sig .tc .vmem S16x8x512 .f32) (harg9 : arg9.IsWhole)
    (x0 : Vec F S1024x4096 .bf16) (x1 : Vec F S1024x128 .f32) (x2 x3 : Vec F S1x4096x512 .bf16) (x4 : Vec F S1x3x512 .f32)
    (x5 : Vec F S1x1x512 .f32) (xs : Vec F S16x8x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (outOf x0 x1 x2 x3 x4 x5 (seen i xs))
            ∗ owns (c : Thread nD τ) arg9 fullShare (VecWindow.put xs (k1_off2 i) S1x8x512.size (left x0 x1 x2))) -∗ K ⟨⟩))
      ⊢ wp frame (wpE (defs₀ (F := F)) Variants.none c none) E
          (cc1_ffn_up i arg2 harg2 arg3 harg3 arg4 harg4 arg5 harg5 arg6 harg6 arg7 harg7 arg8 harg8 arg9 harg9) K := by
  simp only [cc1_ffn_up_eq_skeleton]; unfold cc1_ffn_up_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0; subst hf1; subst hf2; subst hf3; subst hf4; subst hf5; subst hfs
  by_cases hc : k1_cond1 i = 1#1
  · sl_exec (disch := first | sl_exact hc)
    sl_step
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]
    · iexists _; isplitr
      swap; · iexact H6
      ipureintro
      refine (View.read_writes_full _ _ _ _ _).trans (out_congr (View.readAt_full _ _ _) rfl (View.readAt_full _ _ _)
        (View.readAt_full _ _ _) (View.readAt_full _ _ _) (View.readAt_full _ _ _) ?_)
      refine Eq.trans ?_ (if_pos hc).symm
      exact funext fun y => View.read_writes_cons_unit_of_mem _ _ _ _ _ _ y rfl fun a => by
        show k1_off2 i a + 1 * (y a).val = _
        rw [Nat.one_mul]
    · iexists _; isplitr
      swap; · iexact HS
      ipureintro
      refine (View.read_writes_cons_put _ _ _ _ _ rfl).trans ?_
      rw [show step_run.sl.HS_1 i hc = [⟨Rect.unit (s := S16x8x512) (k1_off1 i) S1x8x512.size (k1_off1_inb i hc), k1_pay2 (F := F)⟩] from rfl,
        View.read_writes_cons_put _ _ _ _ _ (off_eq i)]
      refine (VecWindow.put_put_same _ _ _ _ _).trans ?_
      exact (put_congr _ rfl (View.readAt_full _ _ _) rfl (View.readAt_full _ _ _))
  · sl_exec (disch := first | sl_exact hc)
    sl_step
    iapply Hk
    isplitl [H0]; · iexists f0; isplitr; · ipureintro; rfl
                    iexact H0
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]
    · iexists _; isplitr
      swap; · iexact H6
      ipureintro
      refine (View.read_writes_full _ _ _ _ _).trans (out_congr (View.readAt_full _ _ _) rfl (View.readAt_full _ _ _)
        (View.readAt_full _ _ _) (View.readAt_full _ _ _) (View.readAt_full _ _ _) ?_)
      exact (if_neg hc).symm
    · iexists _; isplitr
      swap; · iexact HS
      ipureintro
      refine (View.read_writes_cons_put _ _ _ _ _ rfl).trans ?_
      exact (put_congr _ rfl (View.readAt_full _ _ _) rfl (View.readAt_full _ _ _))

end Cert.KernelUpIdeal.Up

end
-- ==== Proof.UpData.lean ====
/-
  What the feed-forward's two calls keep true from step to step.

  The first call rewrites each block of rows and sums its squares; its steps do not see each other.  The second carries eight
  rows of the gate per tile of columns, in the halo buffer.  Between two steps that buffer holds, for every one of the last
  sixteen steps, the rows that step left (`Carried`): so a step finds there what the tile of rows before it left, unless it
  begins a sequence, where it puts zeros itself.
-/
module

public import proofs.«01_k».proof.Proof.UpBody
public import Idealize.ShloMosaic.Lib.Pipeline.RegionsLoop

@[expose] public section

set_option maxRecDepth 16384

noncomputable section

namespace Cert.KernelUpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelUpIdeal Cert.KernelUpIdeal.Gen

variable {F : FTy → Type} [FloatOps F]

local notation "𝕄" => MT nD τ sig Unit (Elt F) ℕ (UR sig nD τ) ℕ

-- `V` is what the core's buffers hold when a call begins.
variable (V : (c : Dev nD) → (b : Ref sig .tc) → Buf (Elt F) ((c : Thread nD τ).loc b)) (c : Dev nD)

/-! ## The first call -/

/-- A window's block at a point, in the array the call is given. -/
def blk0 (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 : Dat τ (Elt F) Unit ℕ (UR sig nD τ) ℕ cfg0 c where
  A w := V c (Pipeline.arrRef spec0 w)
  after w t := match w with
    | ⟨0, _⟩ => blk0 V c 0 t
    | ⟨1, _⟩ => (k0_pay2 (blk0 V c 0 t : Vec F S256x4096 .f32) : Vec F S256x4096 .bf16)
    | ⟨2, _⟩ => (k0_pay3 (blk0 V c 0 t : Vec F S256x4096 .f32) : Vec F S256x128 .f32)
  Φ _ := Pipeline.ΦA spec0 c
  q _ := fullShare
  owed _ := 0

theorem given0 (w : Fin cfg0.W) : (dat0 V c).A w = V c (Pipeline.arrRef spec0 w) := by dsimp only [dat0]
theorem after0_0 (t : Fin cfg0.N) : (dat0 V c).after 0 t = blk0 V c 0 t := by dsimp only [dat0]
theorem after0_1 (t : Fin cfg0.N) : (dat0 V c).after 1 t = (k0_pay2 (blk0 V c 0 t : Vec F S256x4096 .f32) : Vec F S256x4096 .bf16) := by dsimp only [dat0]
theorem after0_2 (t : Fin cfg0.N) : (dat0 V c).after 2 t = (k0_pay3 (blk0 V c 0 t : Vec F S256x4096 .f32) : Vec F S256x128 .f32) := by dsimp only [dat0]

theorem before0_0 (t : Fin cfg0.N) (d) : (dat0 V c).before 0 t d = blk0 V c 0 t :=
  ((dat0 V c).before_in_eq_fetched 0 rfl (fun _ => rfl) (fun _ _ _ => rfl)
      (fun t => by rw [after0_0]; unfold Dat.blockOf blk0; rw [given0]) t d).trans
    (by unfold Dat.fetched Dat.blockOf blk0; rw [given0]; rfl)

/-- A step of the first call. -/
theorem cast_run (E : Set ℕ) (i : grid0.Coords) (arg1 : Memref sig .tc .vmem S256x4096 .f32) (harg1 : arg1.IsWhole)
    (arg2 : Memref sig .tc .vmem S256x4096 .bf16) (harg2 : arg2.IsWhole) (arg3 : Memref sig .tc .vmem S256x128 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (k0_pay2 x0) ∗ owns (c : Thread nD τ) arg3 fullShare (k0_pay3 x0)) -∗ K ⟨⟩))
      ⊢ wp frame (wpE (defs₀ (F := F)) Variants.none c none) E (cc0_cast_sumsq i arg1 harg1 arg2 harg2 arg3 harg3) K := by
  simp only [cc0_cast_sumsq_eq_skeleton]; unfold cc0_cast_sumsq_skel
  unfold owns
  iintro ⟨⟨%f0, %h0, H0⟩, ⟨%d1, %f1, -, H1⟩, ⟨%d2, %f2, -, H2⟩, Hk⟩
  subst h0
  sl_exec
  sl_step
  iapply Hk
  isplitl [H0]
  · iexists f0; isplitr; · ipureintro; rfl
    iexact H0
  isplitl [H1]
  · iexists _; isplitr
    swap; · iexact H1
    ipureintro
    refine (View.read_writes_full _ _ _ _ _).trans ?_
    exact congrArg (k0_pay2 (F := F)) (View.readAt_full _ _ _)
  iexists _; isplitr
  swap; · iexact H2
  ipureintro
  refine (View.read_writes_full _ _ _ _ _).trans ?_
  exact congrArg (k0_pay3 (F := F)) (View.readAt_full _ _ _)

theorem row0 (t : Fin cfg0.N) : defs₀ (F := F) .tc cfg0.body (cfg0.bodyArgs t (cfg0.slots t)) = bodyAt0 t := by
  unfold defs₀; rw [Defs.onTc_tc]

/-- The first call's steps keep what `dat0` says. -/
theorem kept0 : BodyObligation (dat0 (F := F) V c) (defs₀ (F := F)) Variants.none () Set.univ := fun t => by
  rw [bigSep_W0, bigSep_W0, row0]
  refine triple_restated (P := iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))))
    (Q := fun _ => iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))) ?_ rfl .rfl fun _ => .rfl
  simp only [before0_0]
  rw [show (dat0 V c).Φ t.succ = (dat0 V c).Φ t.castSucc from rfl,
    show (dat0 V c).owesAt () t.succ = (dat0 V c).owesAt () t.castSucc from rfl, after0_0, after0_1, after0_2]
  iintro ⟨HΦ, Ho, ⟨%d0, H0⟩, ⟨%d1, H1⟩, ⟨%d2, H2⟩⟩
  iapply (cast_run c Set.univ (grid0.coords t) _ _ _ _ _ _ (blk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-! ## The second call -/

/-- A window's block at a point, in the array the call is given. -/
def blk1 (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The eight rows a point leaves. -/
def leftAt (t : Fin cfg1.N) : Vec F S1x8x512 .f32 := left (blk1 V c 0 t) (blk1 V c 1 t) (blk1 V c 2 t)

/-- The point one tile of rows before. -/
abbrev prev (t : Fin cfg1.N) : Fin cfg1.N := ⟨t.val - 16, lt_of_le_of_lt (Nat.sub_le _ _) t.isLt⟩

/-- The eight rows a point finds: zeros where a sequence begins, else what the tile of rows before left. -/
def seenAt (t : Fin cfg1.N) : Vec F S1x8x512 .f32 :=
  if k1_cond1 (grid1.coords t) = 1#1 then k1_pay2 (F := F) else leftAt V c (prev t)

/-- The halo buffer's rows for a point's columns. -/
abbrev rowOf (t : Fin cfg1.N) (d : Vec F S16x8x512 .f32) : Vec F S1x8x512 .f32 :=
  VecWindow.window d (k1_off2 (grid1.coords t)) S1x8x512.size (k1_off2_inb (grid1.coords t))

/-- Before point `n` the halo buffer holds the rows that each of the last sixteen points left. -/
def Carried (n : ℕ) (d : Vec F S16x8x512 .f32) : Prop :=
  ∀ t : Fin cfg1.N, t.val < n → n ≤ t.val + 16 → rowOf t d = leftAt V c t

theorem off_at : ∀ t : Fin cfg1.N, k1_off2 (grid1.coords t) = ![t.val % 16, 0, 0] :=
  (by decide +kernel : ∀ t : Fin grid1.N, _)

theorem begins_at : ∀ t : Fin cfg1.N, k1_cond1 (grid1.coords t) = 1#1 ↔ t.val / 16 % 4 = 0 :=
  (by decide +kernel : ∀ t : Fin grid1.N, _)

/-- Nothing is asked of the halo buffer at the start. -/
theorem carried_zero (d : Vec F S16x8x512 .f32) : Carried V c 0 d := fun _ h => absurd h (Nat.not_lt_zero _)

/-- A point's step keeps it. -/
theorem carried_succ (t : Fin cfg1.N) (d : Vec F S16x8x512 .f32) (h : Carried V c t.val d) :
    Carried V c (t.val + 1) (VecWindow.put d (k1_off2 (grid1.coords t)) S1x8x512.size (leftAt V c t)) := by
  intro u hu hn
  by_cases e : u = t
  · subst e
    exact VecWindow.window_put_same d _ _ (k1_off2_inb (grid1.coords u)) (leftAt V c u)
  · have hne : u.val ≠ t.val := fun h' => e (Fin.ext h')
    refine (VecWindow.window_put_of_disjoint d _ _ _ _ (k1_off2_inb (grid1.coords u)) _ 0 ?_).trans (h u (by omega) (by omega))
    rw [off_at t, off_at u]
    show u.val % 16 + 1 ≤ t.val % 16 ∨ t.val % 16 + 1 ≤ u.val % 16
    omega

theorem window_off (d : Vec F S16x8x512 .f32) (off off' : Fin 3 → ℕ) (h : ∀ a, off a + S1x8x512.size a ≤ S16x8x512.size a)
    (h' : ∀ a, off' a + S1x8x512.size a ≤ S16x8x512.size a) (e : off = off') :
    VecWindow.window d off S1x8x512.size h = VecWindow.window d off' S1x8x512.size h' := by
  subst e; rfl

/-- What a point finds in the halo buffer is `seenAt`. -/
theorem seen_eq (t : Fin cfg1.N) (d : Vec F S16x8x512 .f32) (h : Carried V c t.val d) : seen (grid1.coords t) d = seenAt V c t := by
  unfold seen seenAt
  by_cases hc : k1_cond1 (grid1.coords t) = 1#1
  · rw [if_pos hc, if_pos hc]
  · rw [if_neg hc, if_neg hc]
    have hp : 16 ≤ t.val := by
      have := mt (begins_at t).mpr hc
      omega
    refine Eq.trans ?_ (h (prev t) (by show t.val - 16 < t.val; omega) (by show t.val ≤ t.val - 16 + 16; omega))
    refine window_off d _ _ ?_ ?_ ?_
    rw [off_at t, off_at (prev t), show (prev t).val = t.val - 16 from rfl, show (t.val - 16) % 16 = t.val % 16 by omega]

/-- The result's block after a point. -/
def outAt (t : Fin cfg1.N) : Vec F S1024x512 .bf16 :=
  outOf (blk1 V c 0 t) (blk1 V c 1 t) (blk1 V c 2 t) (blk1 V c 3 t) (blk1 V c 4 t) (blk1 V c 5 t) (seenAt V c t)

/-- The halo buffer, whole. -/
abbrev halo : Memref sig .tc .vmem S16x8x512 .f32 := Memref.whole cc1_scratch0

/-- The first call's buffers, at anything. -/
abbrev others : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- What holds before point `n` beside the windows. -/
def between (n : ℕ) : sProp 𝕄 :=
  iprop(others c ∗ (∃ d, ⌜Carried V c n d⌝ ∗ owns (c : Thread nD τ) halo fullShare d) ∗ ∃ r, prngReg c r)

theorem between_start : (Pipeline.ΦA spec1 c : sProp 𝕄) ⊢ between V c 0 := by
  unfold Pipeline.ΦA between
  rw [scopedRest1_eq]
  simp only [halo, owns_whole]
  iintro ⟨⟨H0, H1, H2, H3, H4, H5, ⟨%d, HS⟩⟩, Hr⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HS]
  · iexists d
    isplitr; · ipureintro; exact carried_zero V c d
    iexact HS
  iexact Hr

theorem between_end (n : ℕ) : between V c n ⊢ (Pipeline.ΦA spec1 c : sProp 𝕄) := by
  unfold Pipeline.ΦA between
  rw [scopedRest1_eq]
  simp only [halo, owns_whole]
  iintro ⟨⟨H0, H1, H2, H3, H4, H5⟩, ⟨%d, -, HS⟩, Hr⟩
  isplitr [Hr]
  · isplitl [H0]; · iexact H0
    isplitl [H1]; · iexact H1
    isplitl [H2]; · iexact H2
    isplitl [H3]; · iexact H3
    isplitl [H4]; · iexact H4
    isplitl [H5]; · iexact H5
    iexists d; iexact HS
  iexact Hr

def dat1 : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => outAt V c t
  Φ t := between V c t.val
  q w := Pipeline.shareOf spec1 w
  owed _ := 0

theorem given1 (w : Fin cfg1.W) : (dat1 V c).A w = V c (Pipeline.arrRef spec1 w) := by dsimp only [dat1]
theorem after1_6 (t : Fin cfg1.N) : (dat1 V c).after 6 t = outAt V c t := by dsimp only [dat1]
theorem after1_0 (t : Fin cfg1.N) : (dat1 V c).after 0 t = blk1 V c 0 t := by dsimp only [dat1]
theorem after1_1 (t : Fin cfg1.N) : (dat1 V c).after 1 t = blk1 V c 1 t := by dsimp only [dat1]
theorem after1_2 (t : Fin cfg1.N) : (dat1 V c).after 2 t = blk1 V c 2 t := by dsimp only [dat1]
theorem after1_3 (t : Fin cfg1.N) : (dat1 V c).after 3 t = blk1 V c 3 t := by dsimp only [dat1]
theorem after1_4 (t : Fin cfg1.N) : (dat1 V c).after 4 t = blk1 V c 4 t := by dsimp only [dat1]
theorem after1_5 (t : Fin cfg1.N) : (dat1 V c).after 5 t = blk1 V c 5 t := by dsimp only [dat1]

theorem before1_0 (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [given1]) t d).trans
    (by unfold Dat.fetched Dat.blockOf blk1; rw [given1]; rfl)
theorem before1_1 (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [given1]) t d).trans
    (by unfold Dat.fetched Dat.blockOf blk1; rw [given1]; rfl)
theorem before1_2 (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [given1]) t d).trans
    (by unfold Dat.fetched Dat.blockOf blk1; rw [given1]; rfl)
theorem before1_3 (t : Fin cfg1.N) (d) : (dat1 V c).before 3 t d = blk1 V c 3 t :=
  ((dat1 V c).before_in_eq_fetched 3 rfl (fun _ => rfl) (fun _ _ _ => rfl)
      (fun t => by rw [after1_3]; unfold Dat.blockOf blk1; rw [given1]) t d).trans
    (by unfold Dat.fetched Dat.blockOf blk1; rw [given1]; rfl)
theorem before1_4 (t : Fin cfg1.N) (d) : (dat1 V c).before 4 t d = blk1 V c 4 t :=
  ((dat1 V c).before_in_eq_fetched 4 rfl (fun _ => rfl) (fun _ _ _ => rfl)
      (fun t => by rw [after1_4]; unfold Dat.blockOf blk1; rw [given1]) t d).trans
    (by unfold Dat.fetched Dat.blockOf blk1; rw [given1]; rfl)
theorem before1_5 (t : Fin cfg1.N) (d) : (dat1 V c).before 5 t d = blk1 V c 5 t :=
  ((dat1 V c).before_in_eq_fetched 5 rfl (fun _ => rfl) (fun _ _ _ => rfl)
      (fun t => by rw [after1_5]; unfold Dat.blockOf blk1; rw [given1]) t d).trans
    (by unfold Dat.fetched Dat.blockOf blk1; rw [given1]; rfl)

theorem row1 (t : Fin cfg1.N) : defs₀ (F := F) .tc cfg1.body (cfg1.bodyArgs t (cfg1.slots t)) = bodyAt1 t := by
  unfold defs₀; rw [Defs.onTc_tc]

/-- The second call's steps keep what `dat1` says. -/
theorem kept1 : BodyObligation (dat1 (F := F) V c) (defs₀ (F := F)) Variants.none () Set.univ := fun t => by
  rw [bigSep_W1, bigSep_W1, row1]
  refine triple_restated (P := iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))))
    (Q := fun _ => iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))) ?_ rfl .rfl fun _ => .rfl
  simp only [before1_0, before1_1, before1_2, before1_3, before1_4, before1_5]
  rw [show (dat1 V c).Φ t.succ = between V c (t.val + 1) from rfl, show (dat1 V c).Φ t.castSucc = between V c t.val from rfl,
    show (dat1 V c).owesAt () t.succ = (dat1 V c).owesAt () t.castSucc from rfl,
    after1_0, after1_1, after1_2, after1_3, after1_4, after1_5, after1_6]
  unfold between
  iintro ⟨⟨Hx, ⟨%d, %hd, HS⟩, Hr⟩, Ho, ⟨%d0, H0⟩, ⟨%d1, H1⟩, ⟨%d2, H2⟩, ⟨%d3, H3⟩, ⟨%d4, H4⟩, ⟨%d5, H5⟩, ⟨%d6, H6⟩⟩
  iapply (step_run c Set.univ (grid1.coords t) _ _ _ _ _ _ _ _ _ _ _ _ _ _ _ _ (blk1 V c 0 t) (blk1 V c 1 t) (blk1 V c 2 t) (blk1 V c 3 t)
    (blk1 V c 4 t) (blk1 V c 5 t) d _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  rw [seen_eq V c t d hd]
  iintro ⟨H0, H1, H2, H3, H4, H5, H6, HS⟩
  isplitl [Hx HS Hr]
  · isplitl [Hx]; · iexact Hx
    isplitl [HS]
    · iexists _
      isplitr; · ipureintro; exact carried_succ V c t d hd
      iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

end Cert.KernelUpIdeal.Up

end
-- ==== Proof.UpRun.lean ====
/-
  The run of the feed-forward's up half: host operations, the rows' rewriting, one more host operation, the projection
  with its convolution and gate.  Every buffer outside the calls' own is followed through the four segments, and the run is put
  together from them: it ends with those buffers at the contents the last segment leaves, and every counter at zero.
-/
module

public import proofs.«01_k».proof.Proof.UpData
public import Idealize.ShloMosaic.Lib.Pipeline.FrameSuffix

@[expose] public section

set_option maxRecDepth 16384

noncomputable section

namespace Cert.KernelUpIdeal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelUpIdeal Cert.KernelUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments' arrays. -/
abbrev args : List (Ref sig .tc) := [main_arg0, main_arg1, main_arg2, main_arg3, main_arg4]

/-! ## The host's operations: what they write -/

/-- The arrays written before the first call. -/
abbrev wrote0 : List (Ref sig .tc) := [main_v0, main_v1, main_v2, main_v3, main_v4]
/-- The array written between the calls. -/
abbrev wrote1 : List (Ref sig .tc) := [main_v6]

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem writes0 : (hostOps0 : List (HloOp τ sig (Elt F))).Forall fun op => op.writes ⊆ (wrote0.map (Proc.devRef (τ := τ) .tc)).toFinset :=
  StableHlo.forall_writes_sub_of_map rfl
theorem writes1 : (hostOps1 : List (HloOp τ sig (Elt F))).Forall fun op => op.writes ⊆ (wrote1.map (Proc.devRef (τ := τ) .tc)).toFinset :=
  StableHlo.forall_writes_sub_of_map rfl
theorem args_kept0 : ∀ a ∈ args, a ∉ wrote0 := ListAll.forall_mem_of_all_decide (by decide +kernel)
theorem args_kept1 : ∀ a ∈ args, a ∉ wrote1 := ListAll.forall_mem_of_all_decide (by decide +kernel)
/-- No argument is a result of either call. -/
theorem args_in0 : ∀ a ∈ args, ∀ w : Fin cfg0.W, Pipeline.arrRef spec0 w = a → (cfg0.win w).isOut = false :=
  ListAll.forall_mem_of_all_decide (by decide +kernel)
theorem args_in1 : ∀ a ∈ args, ∀ w : Fin cfg1.W, Pipeline.arrRef spec1 w = a → (cfg1.win w).isOut = false :=
  ListAll.forall_mem_of_all_decide (by decide +kernel)

/-! ## The buffers at the segments' boundaries -/

/-- At launch. -/
abbrev W0 : Dev nD → Valuation τ sig (Elt F) := fun c b => (s₀ m ρ).mem ((c : Dev nD), b)
/-- Where the first call begins. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- Where the first call ends. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- Where the second call begins. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the end. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b

theorem W1_of (c : Dev nD) (r : Ref sig .tc) (h : r ∉ wrote0) : W1 m ρ c (Proc.devRef .tc r) = W0 m ρ c (Proc.devRef .tc r) :=
  StableHlo.after_of_writes_sub hostOps0 _ writes0 h

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_else (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (given0 (V1 m ρ) c w))
  · exact W2_else m ρ c r fun w e => hw ⟨w, e⟩

theorem W3_of (c : Dev nD) (r : Ref sig .tc) (h : r ∉ wrote1) : W3 m ρ c (Proc.devRef .tc r) = W2 m ρ c (Proc.devRef .tc r) :=
  StableHlo.after_of_writes_sub hostOps1 _ writes1 h

theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (given1 (V3 m ρ) c) w

theorem W4_else (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (given1 (V3 m ρ) c w))
  · exact W4_else m ρ c r fun w e => hw ⟨w, e⟩

/-- An argument holds at the second call's start what it held at launch. -/
theorem W3_args (c : Dev nD) (a : Ref sig .tc) (ha : a ∈ args) : W3 m ρ c (Proc.devRef .tc a) = m ((c : Thread nD τ).loc a) :=
  (W3_of m ρ c a (args_kept1 a ha)).trans ((W2_of m ρ c a (args_in0 a ha)).trans (W1_of m ρ c a (args_kept0 a ha)))

/-- And at the end. -/
theorem W4_args (c : Dev nD) (a : Ref sig .tc) (ha : a ∈ args) : W4 m ρ c (Proc.devRef .tc a) = m ((c : Thread nD τ).loc a) :=
  (W4_of m ρ c a (args_in1 a ha)).trans (W3_args m ρ c a ha)

theorem left0 (c : Dev nD) (w : Fin cfg0.W) : (dat0 (V1 m ρ) c).arrAt w cfg0.N = V2 m ρ c (Pipeline.arrRef spec0 w) :=
  (W2_arr m ρ c w).symm
theorem rest0 (c : Dev nD) : ∀ b, b ∉ Finset.univ.image (Pipeline.arrRef spec0) → V2 m ρ c b = V1 m ρ c b :=
  fun b hb => W2_else m ρ c b fun w e => hb (Finset.mem_image.mpr ⟨w, Finset.mem_univ _, e⟩)
theorem left1 (c : Dev nD) (w : Fin cfg1.W) : (dat1 (V3 m ρ) c).arrAt w cfg1.N = V4 m ρ c (Pipeline.arrRef spec1 w) :=
  (W4_arr m ρ c w).symm
theorem rest1 (c : Dev nD) : ∀ b, b ∉ Finset.univ.image (Pipeline.arrRef spec1) → V4 m ρ c b = V3 m ρ c b :=
  fun b hb => W4_else m ρ c b fun w e => hb (Finset.mem_image.mpr ⟨w, Finset.mem_univ _, e⟩)

/-! ## The segments -/

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none
abbrev L : GSem nD τ sig → Finset Unit := fun _ => ∅
abbrev lv : GSem nD τ sig → Unit → ℕ := fun _ _ => 0

/-- What a thread holds beside the buffers: its generator's register, and that it owes nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a thread holds at the end, beside owing nothing. -/
abbrev Tₙ (c : Dev nD) : sProp 𝕄 := iprop(StableHlo.held (c : Thread nD τ) (Pipeline.ucRefs τ sig) (W4 m ρ c) ∗ ∃ r, prngReg c r)

-- the segment lemmas' implicit arguments are found by unfolding plain definitions in a metavariable's type
set_option backward.isDefEq.respectTransparency.types false in
/-- The first call. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (kept0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hs := Pipeline.arrays_of_unscopedBufs (p := 0) (pcfgs (F := F)) adm (pdats m ρ) launch0.win launch0.arr_whole c
      ((pdats m ρ 0 c).share_full fun _ => rfl) (V1 m ρ c) (given0 (V1 m ρ) c)
    rw [Pipeline.unscopedBufs_held] at hs
    iintro ⟨⟨Hb, Hp, HO⟩, -, -⟩
    ihave H := hs $$ Hb
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hj := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (rest0 m ρ c)
    rw [Pipeline.unscopedBufs_held] at hj
    iintro ⟨Ha, HO, HY, Hz⟩
    imodintro
    isplitl [Ha Hz]
    · iapply hj; isplitl [Ha] <;> iassumption
    isplitl [HY]; · iexact HY
    unfold Pipeline.Dat.owesAt Pipeline.owesWithin
    icases HO with ⟨%W, -, HO⟩; iexists W; iexact HO

-- as above
set_option backward.isDefEq.respectTransparency.types false in
/-- The second call: two of its windows read one array, each with its share of it; its halo buffer is taken in at anything
    and given back at anything. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (kept1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hs := Pipeline.arrays_of_unscopedBufs_shared (p := 1) (pcfgs (F := F)) adm (pdats m ρ) launch₀1.win launch₀1.sharedIn launch₀1.arr_whole c
      (fun _ _ => rfl) (V3 m ρ c) (given1 (V3 m ρ) c)
    rw [Pipeline.unscopedBufs_held] at hs
    iintro ⟨⟨Hb, Hp, HO⟩, -, -⟩
    ihave H := hs $$ Hb
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hz
  hin c := by
    refine BIBase.Entails.trans ?_ (between_start (V3 m ρ) c)
    unfold Pipeline.ΦA
    iintro ⟨Hp, -, Hr⟩
    isplitl [Hr]; · iexact Hr
    iexact Hp
  hout c := by
    rw [Pipeline.ownSems0_none]
    refine (between_end (V3 m ρ) c _).trans ?_
    unfold Pipeline.ΦA
    iintro ⟨Hr, Hp⟩
    isplitl [Hp]; · iexact Hp
    isplitr; · iempintro
    iexact Hr
  hexit c := by
    have hj := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (left1 m ρ c) (rest1 m ρ c)
    rw [Pipeline.unscopedBufs_held] at hj
    iintro ⟨Ha, HO, HY, Hz⟩
    imodintro
    isplitl [Ha Hz HY]
    · isplitl [Ha Hz]
      · iapply hj; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub fresh0 (W0 m ρ)),
    .region (reg0 m ρ),
    .host (hseg hostOps1 hostOps1_sub fresh1 (W2 m ρ)),
    .region (reg1 m ρ) ]

theorem main_run (c : Dev nD) : main (F := F) c = Pipeline.Seg.run (segs m ρ) := (main_chain c).trans (by chain_rfl)

theorem all_scoped : ∀ sm : SemLoc sig, sm.isScoped .tc = true := by decide

/-! ## The run -/

-- the launch's implicit arguments are found by unfolding plain definitions in a metavariable's type
set_option backward.isDefEq.respectTransparency.types false in
/-- Every execution ends with each buffer outside the calls' own at the last boundary's contents, and every counter at zero. -/
theorem ends : θ_run defs (onTc (τ := τ) (main (F := F))) ⟨m, fun _ => 0, ρ⟩
    (fun r => (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h hz => ⟨h, funext fun g => hz g (.inr (all_scoped g.2))⟩)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide)),
     (h.1 c _ (mem_uc main_arg4 (by decide))).trans (W4_args m ρ c main_arg4 (by decide))⟩, h.2⟩) (ends m ρ)

/-- The result is the array the second call leaves, and the arguments are as they were. -/
theorem run : θ_run defs (onTc (τ := τ) (main (F := F))) ⟨m, fun _ => 0, ρ⟩ (fun r => ∀ c : Dev nD,
      r.2.mem ((c.tc : Thread nD τ).loc main_v7) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h.1 c _ (mem_uc main_v7 (by decide))).trans (W4_arr m ρ c 6),
     (h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide)),
     (h.1 c _ (mem_uc main_arg4 (by decide))).trans (W4_args m ρ c main_arg4 (by decide))⟩) (ends m ρ)

end Cert.KernelUpIdeal.Up

end
-- ==== Proof.UpFrames.lean ====
/-
  The frames of the feed-forward's up half: each program ends with its arguments as they began and every counter at zero.
  The compiled program and the idealized one are the same operations, so what is shown of the one at any type of values is the
  other's.
-/
module

public import proofs.«01_k».proof.Defs
public import proofs.«01_k».proof.Proof.UpRun
public import proofs.«01_k».proof.Proof.Gen.KernelUp.Launch
public import proofs.«01_k».proof.Proof.Gen.ReferenceUpIdeal.Run
public import Idealize.ShloMosaic.Adequacy
public import Idealize.ShloMosaic.Init

@[expose] public section

set_option maxRecDepth 16384

noncomputable section

namespace Cert.Proof.Up

open Idealize.ShloMosaic Idealize.ShloMosaic.TcCoe
open Idealize.SL.Sem

/-- The two programs' kernel functions are the same. -/
theorem bodies_eq : Cert.KernelUp.defs₀ (F := Bits) = Cert.KernelUpIdeal.defs₀ (F := Bits) := by
  unfold Cert.KernelUp.defs₀ Cert.KernelUpIdeal.defs₀
  refine congrArg Defs.onTc (funext fun l => ?_)
  match l with
  | 0 => exact funext fun ⟨_, _⟩ => rfl
  | 1 => exact funext fun ⟨_, _⟩ => rfl

/-- The kernel ends with its arguments unchanged and every counter at zero. -/
theorem frame_kernel : Cert.quiescent_KernelUp := fun m ρ _ => by
  unfold Cert.KernelUp.defs
  rw [bodies_eq]
  exact Cert.KernelUpIdeal.Up.frame (F := Bits) m ρ

/-- So does its idealization. -/
theorem frame_ideal : Cert.quiescent_KernelUpIdeal := fun m ρ _ => Cert.KernelUpIdeal.Up.frame (F := Ideal) m ρ

/-- So does the reference, which declares no semaphore. -/
theorem frame_reference : Cert.quiescent_ReferenceUpIdeal := fun m ρ _ =>
  (θ_run Cert.ReferenceUpIdeal.defs _ _).mono (fun r h => ⟨fun c => (h c).2, sem_eq_zero_of_no_sems (by decide) r.2⟩)
    (Cert.ReferenceUpIdeal.Value.run (F := Ideal) m ρ)

end Cert.Proof.Up

end
-- ==== Proof.NormSum.lean ====
/-
  A row normalised by its mean square and multiplied with a column of weights, as a formula, and the other way to compute
  it: weights scaled beforehand, the factor of the row taken out of the sum.
-/
module

public import Idealize.ShloMosaic.Lib.Pointwise

@[expose] public section

noncomputable section

open Idealize.ShloMosaic

namespace Norm

/-- The printed constants: 4096, its reciprocal, and the small number added to the mean square. -/
abbrev width : EReal := Ideal.ofBits .f32 1166016512#32
abbrev perWidth : EReal := Ideal.ofBits .f32 964689920#32
abbrev eps : EReal := Ideal.ofBits .f32 897988541#32

theorem width_eq : width = ((4096 : ℝ) : EReal) := by
  simp [Ideal.ofBits, Ideal.ieee, -EReal.coe_mul]; norm_num

theorem perWidth_eq : perWidth = ((1 / 4096 : ℝ) : EReal) := by
  simp [Ideal.ofBits, Ideal.ieee, -EReal.coe_mul]; norm_num

theorem eps_pos : ∃ e : ℝ, 0 < e ∧ eps = (e : EReal) :=
  ⟨8796093 * 2 ^ (-43 : ℤ), by positivity, by simp [Ideal.ofBits, Ideal.ieee, -EReal.coe_mul]⟩

/-- The sum of the squares of a row. -/
def squares (x : Fin 4096 → EReal) : EReal := ∑ k, x k * x k

/-- The factor of a row: the reciprocal root of its mean square. -/
def factor (x : Fin 4096 → EReal) : EReal := Ideal.rsqrt (Ideal.div (squares x) width + eps)

/-- The normalised row, scaled by `g`, times a column of the weights. -/
def entry (x g w : Fin 4096 → EReal) : EReal := ∑ k, x k * factor x * g k * w k

theorem square_nonneg (a : EReal) : 0 ≤ a * a := by
  rcases le_total 0 a with h | h
  · exact mul_nonneg h h
  · have h' : 0 ≤ -a := EReal.neg_nonneg.mpr h
    have := mul_nonneg h' h'
    rwa [neg_mul_neg] at this

theorem squares_nonneg (x : Fin 4096 → EReal) : 0 ≤ squares x := Finset.sum_nonneg fun k _ => square_nonneg (x k)

/-- The factor written with the reciprocal of the width. -/
theorem factor_eq (x : Fin 4096 → EReal) : factor x = Ideal.rsqrt (squares x * perWidth + eps) := by
  unfold factor
  rw [width_eq, perWidth_eq, Ideal.div_coe (by norm_num)]

/-- The factor of a row is a real number, not negative. -/
theorem factor_real (x : Fin 4096 → EReal) : ∃ q : ℝ, 0 ≤ q ∧ factor x = (q : EReal) := by
  obtain ⟨e, he, e_eq⟩ := eps_pos
  rw [factor_eq, perWidth_eq, e_eq]
  have h0 := squares_nonneg x
  generalize squares x = s at h0
  induction s using EReal.rec with
  | bot => exact absurd h0 (by simp)
  | top =>
    refine ⟨0, le_rfl, ?_⟩
    rw [EReal.top_mul_coe_of_pos (by norm_num), EReal.top_add_coe]
    rfl
  | coe s =>
    have hs : 0 ≤ s := by exact_mod_cast h0
    have hp : 0 < s * (1 / 4096) + e := by positivity
    refine ⟨(Real.sqrt (s * (1 / 4096) + e))⁻¹, by positivity, ?_⟩
    rw [← EReal.coe_mul, ← EReal.coe_add, Ideal.rsqrt_coe, if_neg (not_lt.mpr hp.le), if_neg hp.ne']

/-- A real factor may be taken out of a sum. -/
theorem sum_factor (q : ℝ) (hq : 0 ≤ q) (f : Fin 4096 → EReal) : (∑ k, f k) * (q : EReal) = ∑ k, f k * (q : EReal) := by
  have hq' : (0 : EReal) ≤ q := by exact_mod_cast hq
  exact Finset.induction_on (motive := fun s => (∑ k ∈ s, f k) * (q : EReal) = ∑ k ∈ s, f k * (q : EReal)) Finset.univ (by simp)
    fun a s ha ih => by
      rw [Finset.sum_insert ha, Finset.sum_insert ha, EReal.right_distrib_of_nonneg_of_ne_top hq' (EReal.coe_ne_top q), ih]

/-- Scaling the weights first and the sum last gives the same entry. -/
theorem scaled_last (x g w : Fin 4096 → EReal) :
    (∑ k, x k * (w k * g k)) * Ideal.rsqrt (squares x * perWidth + eps) = entry x g w := by
  rw [← factor_eq]
  unfold entry
  obtain ⟨q, hq, e⟩ := factor_real x
  rw [e, sum_factor q hq]
  refine Finset.sum_congr rfl fun k _ => ?_
  rw [mul_comm (w k) (g k), ← mul_assoc (x k), mul_assoc (x k) (q : EReal), mul_comm (q : EReal), ← mul_assoc (x k), mul_assoc, mul_assoc (x k * g k), mul_comm (w k)]

end Norm

end
-- ==== Proof.UpSpec.lean ====
/-
  The feed-forward's first part as a formula: the two products of the normalised rows, the causal convolution of the first
  over three rows, and the gated activation. Also the law by which the kernel's activation, written with a hyperbolic
  tangent, is the reference's.

  The two activations differ at one place only: at `⊥` the kernel's is `⊥` and the reference's `0`. So the law asks for an
  argument other than `⊥`, and a convolution of real numbers with real weights is one.
-/
module

public import proofs.«01_k».proof.Proof.NormSum
public import proofs.«01_k».proof.Proof.Scalars

@[expose] public section

noncomputable section

open Idealize.ShloMosaic

namespace Ffn

/-- The activation from the half of its argument and a hyperbolic tangent. -/
def swish (z : EReal) : EReal :=
  Ideal.ofBits .f32 0x3F000000#32 * z + Ideal.ofBits .f32 0x3F000000#32 * z * Ideal.tanh (Ideal.ofBits .f32 0x3F000000#32 * z)

/-- A real number times its sigmoid, the two ways. -/
theorem swish_real (z : ℝ) : swish (z : EReal) = (z : EReal) * Mlstm.sigmoid (z : EReal) := by
  rw [← Mlstm.sigmoid_tanh]
  unfold swish
  have ht (y : ℝ) : Ideal.tanh (y : EReal) = (Real.tanh y : EReal) := rfl
  rw [Mlstm.ofBits_half, ← EReal.coe_mul, ht, ← EReal.coe_mul, ← EReal.coe_mul, ← EReal.coe_add, ← EReal.coe_add, ← EReal.coe_mul]
  congr 1
  ring

/-- An extended real that is a real number. -/
def IsReal (a : EReal) : Prop := ∃ r : ℝ, a = (r : EReal)

theorem IsReal.add {a b : EReal} : IsReal a → IsReal b → IsReal (a + b) := fun ⟨r, hr⟩ ⟨s, hs⟩ => ⟨r + s, by rw [hr, hs, EReal.coe_add]⟩
theorem IsReal.mul {a b : EReal} : IsReal a → IsReal b → IsReal (a * b) := fun ⟨r, hr⟩ ⟨s, hs⟩ => ⟨r * s, by rw [hr, hs, EReal.coe_mul]⟩
theorem IsReal.zero : IsReal 0 := ⟨0, by simp⟩

theorem IsReal.sum {n : ℕ} (f : Fin n → EReal) (h : ∀ k, IsReal (f k)) : IsReal (∑ k, f k) :=
  Finset.sum_induction f IsReal (fun _ _ => IsReal.add) IsReal.zero fun k _ => h k

/-- A number below infinity in absolute value is real. -/
theorem isReal_of_abs (a : EReal) (h : max a (-a) < ⊤) : IsReal a := by
  induction a using EReal.rec with
  | bot => simp at h
  | top => simp at h
  | coe r => exact ⟨r, rfl⟩

theorem swish_eq {z : EReal} (h : IsReal z) : swish z = z * Mlstm.sigmoid z := by
  obtain ⟨r, rfl⟩ := h
  exact swish_real r

/-- A member of a row times the row's factor is real, whatever the row: an infinite member makes the factor zero. -/
theorem normed_real (x : Fin 4096 → EReal) (k : Fin 4096) : IsReal (x k * Norm.factor x) := by
  obtain ⟨q, -, hq⟩ := Norm.factor_real x
  by_cases hx : IsReal (x k)
  · exact hx.mul ⟨q, hq⟩
  · have hk : x k * x k = ⊤ := by
      generalize x k = a at hx
      induction a using EReal.rec with
      | bot => rfl
      | top => rfl
      | coe r => exact absurd ⟨r, rfl⟩ hx
    have hs : Norm.squares x = ⊤ := top_unique (hk ▸ Finset.single_le_sum (f := fun k => x k * x k) (fun k _ => Norm.square_nonneg (x k)) (Finset.mem_univ k))
    obtain ⟨e, -, he⟩ := Norm.eps_pos
    have hf : Norm.factor x = 0 := by
      rw [Norm.factor_eq, hs, Norm.perWidth_eq, he, EReal.top_mul_coe_of_pos (by norm_num), EReal.top_add_coe]
      rfl
    rw [hf, mul_zero]
    exact IsReal.zero

/-- An entry of a product is real when the scales and the column are. -/
theorem entry_real (x g w : Fin 4096 → EReal) (hg : ∀ k, IsReal (g k)) (hw : ∀ k, IsReal (w k)) : IsReal (Norm.entry x g w) :=
  IsReal.sum _ fun k => ((normed_real x k).mul (hg k)).mul (hw k)

/-- A column's value `k` rows before row `s`; zero before the sequence begins. -/
def back (f : Fin 4096 → EReal) (k : ℕ) (s : Fin 4096) : EReal := if k ≤ s.val then f ⟨s.val - k, by omega⟩ else 0

theorem back_real (f : Fin 4096 → EReal) (h : ∀ s, IsReal (f s)) (k : ℕ) (s : Fin 4096) : IsReal (back f k s) := by
  unfold back
  split
  · exact h _
  · exact IsReal.zero

/-- The causal convolution of a column at row `s`, the oldest row first. -/
def conv (f : Fin 4096 → EReal) (cw : Fin 3 → EReal) (cb : EReal) (s : Fin 4096) : EReal :=
  back f 2 s * cw 0 + back f 1 s * cw 1 + f s * cw 2 + cb

theorem conv_real (f : Fin 4096 → EReal) (cw : Fin 3 → EReal) (cb : EReal) (s : Fin 4096) (hf : ∀ s, IsReal (f s)) (hw : ∀ k, IsReal (cw k))
    (hb : IsReal cb) : IsReal (conv f cw cb s) :=
  ((((back_real f hf 2 s).mul (hw 0)).add ((back_real f hf 1 s).mul (hw 1))).add ((hf s).mul (hw 2))).add hb

/-- The convolution with the newest row first. -/
theorem conv_eq (f : Fin 4096 → EReal) (cw : Fin 3 → EReal) (cb : EReal) (s : Fin 4096) :
    f s * cw 2 + back f 2 s * cw 0 + back f 1 s * cw 1 + cb = conv f cw cb s := by
  unfold conv
  rw [add_assoc (f s * cw 2), add_comm (f s * cw 2)]

end Ffn

end
-- ==== Proof.UpStep.lean ====
/-
  One step of the feed-forward's first call, entry by entry.

  The step sets eight rows, the last ones of the tile before, in front of its gate; the causal convolution over three rows
  reads the tile and these. `z` below is the convolved gate at an entry, and the step leaves `h + h · tanh h` of its half,
  times the second product.
-/
module

public import proofs.«01_k».proof.Proof.UpSpec
public import proofs.«01_k».proof.Proof.UpBody
public import Idealize.ShloMosaic.Lib.Pointwise
public import Idealize.ShloMosaic.Lib.Claim

@[expose] public section

set_option maxRecDepth 16384

noncomputable section

open Idealize.ShloMosaic Idealize.ShloMosaic.TcCoe

namespace Cert.KernelUpIdeal.Up

open Cert.KernelUpIdeal Cert.KernelUpIdeal.Gen

/-- The gate, or the second product, of a step: a row times a column of the scaled weights, then the row's factor. -/
theorem gate_at (x : Vec Ideal S1024x4096 .bf16) (q : Vec Ideal S1024x128 .f32) (w : Vec Ideal S1x4096x512 .bf16) (r : Fin 1024) (e : Fin 512) :
    k1_pay5 x (lane0 q) w (ix2 r e) = (∑ k : Fin 4096, x (ix2 r k) * w (ix3 0 k e)) * Ideal.rsqrt (q (ix2 r 0) * Norm.perWidth + Norm.eps) := by
  unfold lane0
  rw [View.ld_unit]
  pointwise [k1_pay5, k1_pay3, k1_pay4]

theorem up_eq (x : Vec Ideal S1024x4096 .bf16) (q : Vec Ideal S1024x1 .f32) (w : Vec Ideal S1x4096x512 .bf16) :
    k1_pay6 x q w = k1_pay5 x q w := rfl

/-- The rows left are the last eight of the gate. -/
theorem left_at (x : Vec Ideal S1024x4096 .bf16) (q : Vec Ideal S1024x128 .f32) (w : Vec Ideal S1x4096x512 .bf16) (a : Fin 8) (e : Fin 512) :
    left x q w (ix3 0 a e) = k1_pay5 x (lane0 q) w (ix2 ⟨1016 + a.val, by omega⟩ e) := by
  unfold left
  generalize lane0 q = q
  pointwise [k1_pay8]

theorem zeros_at (a : Fin 8) (e : Fin 512) : (k1_pay2 (F := Ideal)) (ix3 0 a e) = 0 := by
  pointwise [k1_pay2]

/-- The eight rows and the tile, one after the other. -/
abbrev both (g : FVec Ideal S1024x512 .f32) (h : FVec Ideal S8x512 .f32) : FVec Ideal S1032x512 .f32 :=
  concatenate S1032x512 0 [⟨S8x512, h⟩, ⟨S1024x512, g⟩] concatenates_S8x512_S1024x512_S1032x512_d0

/-- The rows `k` before the tile's. -/
abbrev before (k : BitVec 32) (g : FVec Ideal S1024x512 .f32) (h : FVec Ideal S8x512 .f32) : FVec Ideal S1024x512 .f32 :=
  extractStridedSlice S1024x512 ![8, 0] (dynamicRotate 0 k none (both g h) rotates_S1032x512_d0) slices_S1032x512_o8_0_S1024x512

theorem before2 (g : FVec Ideal S1024x512 .f32) (h : FVec Ideal S8x512 .f32) (r : Fin 1024) (e : Fin 512) :
    before 2#32 g h (ix2 r e) = if hr : r.val < 2 then h (ix2 ⟨6 + r.val, by omega⟩ e) else g (ix2 ⟨r.val - 2, by omega⟩ e) := by
  pointwise [before, both]
  by_cases hr : r.val < 2
  · rw [dif_pos hr, dif_pos (by omega)]
    exact congrArg (fun a => h (ix2 a e)) (Fin.ext (by show (8 + r.val + 1032 - 2) % 1032 = 6 + r.val; omega))
  · rw [dif_neg hr, dif_neg (by omega)]
    exact congrArg (fun a => g (ix2 a e)) (Fin.ext (by show (8 + r.val + 1032 - 2) % 1032 - 8 = r.val - 2; omega))

theorem before1 (g : FVec Ideal S1024x512 .f32) (h : FVec Ideal S8x512 .f32) (r : Fin 1024) (e : Fin 512) :
    before 1#32 g h (ix2 r e) = if hr : r.val < 1 then h (ix2 ⟨7 + r.val, by omega⟩ e) else g (ix2 ⟨r.val - 1, by omega⟩ e) := by
  pointwise [before, both]
  by_cases hr : r.val < 1
  · rw [dif_pos hr, dif_pos (by omega)]
    exact congrArg (fun a => h (ix2 a e)) (Fin.ext (by show (8 + r.val + 1032 - 1) % 1032 = 7 + r.val; omega))
  · rw [dif_neg hr, dif_neg (by omega)]
    exact congrArg (fun a => g (ix2 a e)) (Fin.ext (by show (8 + r.val + 1032 - 1) % 1032 - 8 = r.val - 1; omega))

/-- The step's last payload from the tile, the rows two and one before, the convolution's weights and the offset. -/
def last (g u p2 p1 : FVec Ideal S1024x512 .f32) (cw : Vec Ideal S1x3x512 .f32) (cb : Vec Ideal S1x1x512 .f32) : FVec Ideal S1024x512 .bf16 :=
  let taps : FVec Ideal S3x512 .f32 := shapeCast S3x512 cw shapeCasts_S1x3x512_S3x512
  let z : FVec Ideal S1024x512 .f32 := addf (addf (addf
      (mulf g (broadcastTo S1024x512 (extractStridedSlice S1x512 ![2, 0] taps slices_S3x512_o2_0_S1x512) broadcasts_S1x512_S1024x512))
      (mulf p2 (broadcastTo S1024x512 (extractStridedSlice S1x512 ![0, 0] taps slices_S3x512_o0_0_S1x512) broadcasts_S1x512_S1024x512)))
      (mulf p1 (broadcastTo S1024x512 (extractStridedSlice S1x512 ![1, 0] taps slices_S3x512_o1_0_S1x512) broadcasts_S1x512_S1024x512)))
    (broadcastTo S1024x512 (shapeCast S1x512 cb shapeCasts_S1x1x512_S1x512) broadcasts_S1x512_S1024x512)
  let y : FVec Ideal S1024x512 .f32 := mulf (broadcast S1024x512 (Scalar.ofBits .f32 0x3F000000#32)) z
  truncf .bf16 (mulf (addf y (mulf y (tanh y))) u) bitsLt_bf16_f32

theorem last_eq (g u : FVec Ideal S1024x512 .f32) (h : FVec Ideal S8x512 .f32) (cw : Vec Ideal S1x3x512 .f32) (cb : Vec Ideal S1x1x512 .f32) :
    k1_pay1 g u h cw cb = last g u (before 2#32 g h) (before 1#32 g h) cw cb := rfl

theorem last_at (g u p2 p1 : FVec Ideal S1024x512 .f32) (cw : Vec Ideal S1x3x512 .f32) (cb : Vec Ideal S1x1x512 .f32) (r : Fin 1024) (e : Fin 512) :
    last g u p2 p1 cw cb (ix2 r e) = Ffn.swish (g (ix2 r e) * cw (ix3 0 2 e) + p2 (ix2 r e) * cw (ix3 0 0 e) + p1 (ix2 r e) * cw (ix3 0 1 e) + cb (ix3 0 0 e))
      * u (ix2 r e) := by
  pointwise [last, Ffn.swish]

end Cert.KernelUpIdeal.Up

end
-- ==== Proof.InCast.lean ====
/-
  The first call of the even input projection: the rows cast, and the sum of the squares of each.

  Point `t` of its grid works on rows `256 t …`. The casted rows are the rows themselves; the second array holds a row's
  sum of squares in each of its 128 columns.
-/
module

public import proofs.«01_k».proof.Proof.NormSum
public import proofs.«01_k».proof.Proof.Gen.KernelInIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelInIdeal.In

open Cert.KernelInIdeal Cert.KernelInIdeal.Gen

/-- What a step leaves in its two blocks. -/
theorem cast_at (x : Vec Ideal S256x4096 .f32) (r : Fin 256) (k : Fin 4096) : out0_1 x (ix2 r k) = x (ix2 r k) := by
  have e : out0_1 x = k0_pay2 x := by frame_out [out0_1]
  rw [e]
  pointwise [k0_pay2, k0_pay1]

theorem squares_at (x : Vec Ideal S256x4096 .f32) (r : Fin 256) (l : Fin 128) : out0_2 x (ix2 r l) = Norm.squares fun k => x (ix2 r k) := by
  have e : out0_2 x = k0_pay3 x := by frame_out [out0_2]
  rw [e]
  pointwise [k0_pay3, k0_pay1, Norm.squares]

variable (V : (c : Dev nD) → (b : Ref sig .tc) → Buf (Elt Ideal) ((c : Thread nD τ).loc b)) (c : Dev nD) (t : Fin cfg0.N)

theorem idx0 : ∀ t : Fin cfg0.N, win0_0.index t = ![t.val, 0] ∧ win0_1.index t = ![t.val, 0] ∧ win0_2.index t = ![t.val, 0] :=
  (by decide +kernel : ∀ t : Fin grid0.N, _)

theorem pt0_lt : t.val < 64 := lt_of_lt_of_eq t.isLt (show cfg0.N = 64 from N_0)

/-- A row of a point's blocks, in the arrays. -/
abbrev row0 (r : Fin 256) : Fin 16384 := ⟨256 * t.val + r.val, by have := pt0_lt t; omega⟩

/-- The rows the call is given. -/
abbrev rows : (⟨2, ![16384, 4096]⟩ : Shape).Idx → EReal := V c main_v8

theorem rows_at (r : Fin 256) (k : Fin 4096) : (iblk0 V c 0 t : Vec Ideal S256x4096 .f32) (ix2 r k) = rows V c (ix2 (row0 t r) k) := by
  have h := pt0_lt t
  blk_ext [iblk0, idx0 t]

theorem covered0 (r : Fin 16384) : ∃ (t : Fin cfg0.N) (y : Fin 256), row0 t y = r :=
  ⟨⟨r.val / 256, lt_of_lt_of_eq (by omega) (show cfg0.N = 64 from N_0).symm⟩, ⟨r.val % 256, by omega⟩, Fin.ext (Nat.div_add_mod r.val 256)⟩

theorem emb0_1 (y : Fin 256) (k : Fin 4096) : ((cfg0.win 1).blk t).view.emb (ix2 y k : S256x4096.Idx) = (ix2 (row0 t y) k : S16384x4096.Idx) := by
  obtain ⟨-, hi, -⟩ := idx0 t
  funext a
  apply Fin.ext
  match a with
  | ⟨0, _⟩ =>
    show win0_1.index t (0 : Fin 2) * 256 + 1 * y.val = 256 * t.val + y.val
    rw [hi]
    show t.val * 256 + 1 * y.val = 256 * t.val + y.val
    omega
  | ⟨1, _⟩ =>
    show win0_1.index t (1 : Fin 2) * 4096 + 1 * k.val = k.val
    rw [hi]
    show 0 * 4096 + 1 * k.val = k.val
    omega

theorem emb0_2 (y : Fin 256) (l : Fin 128) : ((cfg0.win 2).blk t).view.emb (ix2 y l : S256x128.Idx) = (ix2 (row0 t y) l : S16384x128.Idx) := by
  obtain ⟨-, -, hi⟩ := idx0 t
  funext a
  apply Fin.ext
  match a with
  | ⟨0, _⟩ =>
    show win0_2.index t (0 : Fin 2) * 256 + 1 * y.val = 256 * t.val + y.val
    rw [hi]
    show t.val * 256 + 1 * y.val = 256 * t.val + y.val
    omega
  | ⟨1, _⟩ =>
    show win0_2.index t (1 : Fin 2) * 128 + 1 * l.val = l.val
    rw [hi]
    show 0 * 128 + 1 * l.val = l.val
    omega

/-- The rows' sums of squares, in every column. -/
def sums (i : S16384x128.Idx) : EReal := Norm.squares fun k => rows V c (ix2 (i 0) k)

theorem cast_result : (dat0 V c).arrAt 1 cfg0.N = rows V c := by
  refine (dat0 V c).arrAt_eq_of_cover 1 (rows V c) (fun t _ => ?_) (fun i => ?_)
  · show (cfg0.win 1).cut (grid0.coords t) ((dat0 V c).after 1 t) = _
    rw [after0_1]
    funext y
    obtain ⟨r, k, rfl⟩ : ∃ (r : Fin 256) (k : Fin 4096), y = (ix2 r k : S256x4096.Idx) := ⟨y 0, y 1, ValueIdx.eq_ix2 y⟩
    exact ((cast_at _ r k).trans (rows_at V c t r k)).trans (congrArg (rows V c) (emb0_1 t r k).symm)
  · obtain ⟨r, k, rfl⟩ : ∃ (r : Fin 16384) (k : Fin 4096), i = (ix2 r k : S16384x4096.Idx) := ⟨i 0, i 1, ValueIdx.eq_ix2 i⟩
    obtain ⟨t, y, rfl⟩ := covered0 r
    exact ⟨t, flush0_1 t, emb0_1 t y k ▸ ((cfg0.win 1).blk t).view.emb_mem_set (ix2 y k : S256x4096.Idx)⟩

theorem sums_result : (dat0 V c).arrAt 2 cfg0.N = sums V c := by
  refine (dat0 V c).arrAt_eq_of_cover 2 (sums V c) (fun t _ => ?_) (fun i => ?_)
  · show (cfg0.win 2).cut (grid0.coords t) ((dat0 V c).after 2 t) = _
    rw [after0_2]
    funext y
    obtain ⟨r, l, rfl⟩ : ∃ (r : Fin 256) (l : Fin 128), y = (ix2 r l : S256x128.Idx) := ⟨y 0, y 1, ValueIdx.eq_ix2 y⟩
    exact ((squares_at _ r l).trans (congrArg Norm.squares (funext fun k => rows_at V c t r k))).trans (congrArg (sums V c) (emb0_2 t r l).symm)
  · obtain ⟨r, l, rfl⟩ : ∃ (r : Fin 16384) (l : Fin 128), i = (ix2 r l : S16384x128.Idx) := ⟨i 0, i 1, ValueIdx.eq_ix2 i⟩
    obtain ⟨t, y, rfl⟩ := covered0 r
    exact ⟨t, flush0_2 t, emb0_2 t y l ▸ ((cfg0.win 2).blk t).view.emb_mem_set (ix2 y l : S256x128.Idx)⟩

end Cert.KernelInIdeal.In

end
-- ==== Proof.UpCalls.lean ====
/-
  The two calls of the feed-forward's first part.

  The first takes the rows 256 at a time, as the projections' first calls do. Point `t` of the second works on rows
  `1024 (t / 16) …` and columns `512 (t % 16) …`; a sequence is four tiles of rows, so a point whose tile does not begin a
  sequence finds in the halo buffer the last rows of the tile before.
-/
module

public import proofs.«01_k».proof.Proof.UpStep
public import proofs.«01_k».proof.Proof.UpData
public import proofs.«01_k».proof.Proof.InCast

@[expose] public section

set_option maxRecDepth 16384

noncomputable section

open Idealize.ShloMosaic Idealize.ShloMosaic.TcCoe Idealize.SL.Sem

namespace Cert.KernelUpIdeal.Up

open Cert.KernelUpIdeal Cert.KernelUpIdeal.Gen

/-- What a step of the first call leaves in its two blocks. -/
theorem cast_at (x : Vec Ideal S256x4096 .f32) (r : Fin 256) (k : Fin 4096) : k0_pay2 x (ix2 r k) = x (ix2 r k) := by
  pointwise [k0_pay2, k0_pay1]

theorem squares_at (x : Vec Ideal S256x4096 .f32) (r : Fin 256) (l : Fin 128) : k0_pay3 x (ix2 r l) = Norm.squares fun k => x (ix2 r k) := by
  pointwise [k0_pay3, k0_pay1, Norm.squares]

variable (V : (c : Dev nD) → (b : Ref sig .tc) → Buf (Elt Ideal) ((c : Thread nD τ).loc b)) (c : Dev nD)

section First

variable (t : Fin cfg0.N)

theorem idx0 : ∀ t : Fin cfg0.N, win0_0.index t = ![t.val, 0] ∧ win0_1.index t = ![t.val, 0] ∧ win0_2.index t = ![t.val, 0] :=
  (by decide +kernel : ∀ t : Fin grid0.N, _)

/-- The rows the call is given, and the sums of their squares. -/
abbrev rows : (⟨2, ![16384, 4096]⟩ : Shape).Idx → EReal := V c main_v4
def sums (i : S16384x128.Idx) : EReal := Norm.squares fun k => rows V c (ix2 (i 0) k)

/-- Row `r` of a point's blocks is row `row t r` of the arrays: the same as in the even projection's first call. -/
abbrev row (r : Fin 256) : Fin 16384 := KernelInIdeal.In.row0 t r

theorem rows_at (r : Fin 256) (k : Fin 4096) : (blk0 V c 0 t : Vec Ideal S256x4096 .f32) (ix2 r k) = rows V c (ix2 (row t r) k) := by
  have h := KernelInIdeal.In.pt0_lt t
  blk_ext [blk0, idx0 t]

theorem cast_emb (y : Fin 256) (k : Fin 4096) : ((cfg0.win 1).blk t).view.emb (ix2 y k : S256x4096.Idx) = (ix2 (row t y) k : S16384x4096.Idx) := by
  have hi := (idx0 t).2.1
  refine funext fun a => Fin.ext ?_
  match a with
  | ⟨0, _⟩ =>
    show win0_1.index t (0 : Fin 2) * 256 + 1 * y.val = 256 * t.val + y.val
    rw [hi]; show t.val * 256 + 1 * y.val = 256 * t.val + y.val; omega
  | ⟨1, _⟩ =>
    show win0_1.index t (1 : Fin 2) * 4096 + 1 * k.val = k.val
    rw [hi]; show 0 * 4096 + 1 * k.val = k.val; omega

theorem sums_emb (y : Fin 256) (l : Fin 128) : ((cfg0.win 2).blk t).view.emb (ix2 y l : S256x128.Idx) = (ix2 (row t y) l : S16384x128.Idx) := by
  have hi := (idx0 t).2.2
  refine funext fun a => Fin.ext ?_
  match a with
  | ⟨0, _⟩ =>
    show win0_2.index t (0 : Fin 2) * 256 + 1 * y.val = 256 * t.val + y.val
    rw [hi]; show t.val * 256 + 1 * y.val = 256 * t.val + y.val; omega
  | ⟨1, _⟩ =>
    show win0_2.index t (1 : Fin 2) * 128 + 1 * l.val = l.val
    rw [hi]; show 0 * 128 + 1 * l.val = l.val; omega

/-- What the call writes back at a point, at an entry of its blocks. -/
theorem cast_flushed (r : Fin 256) (k : Fin 4096) : (dat0 V c).flushed 1 t (ix2 r k : S256x4096.Idx) = rows V c (ix2 (row t r) k) := by
  show (dat0 V c).after 1 t (ix2 r k : S256x4096.Idx) = _
  rw [after0_1]
  exact (cast_at _ r k).trans (rows_at V c t r k)

theorem sums_flushed (r : Fin 256) (l : Fin 128) : (dat0 V c).flushed 2 t (ix2 r l : S256x128.Idx) = sums V c (ix2 (row t r) l) := by
  show (dat0 V c).after 2 t (ix2 r l : S256x128.Idx) = _
  rw [after0_2]
  exact (squares_at _ r l).trans (congrArg Norm.squares (funext fun k => rows_at V c t r k))

theorem cast_result : (dat0 V c).arrAt 1 cfg0.N = rows V c := by
  refine (dat0 V c).arrAt_eq_of_cover 1 (rows V c) (fun t _ => funext fun y => ?_) (fun i => ?_)
  · obtain ⟨r, k, rfl⟩ : ∃ (r : Fin 256) (k : Fin 4096), y = (ix2 r k : S256x4096.Idx) := ⟨y 0, y 1, ValueIdx.eq_ix2 y⟩
    exact (cast_flushed V c t r k).trans (congrArg (rows V c) (cast_emb t r k).symm)
  · obtain ⟨r, k, rfl⟩ : ∃ (r : Fin 16384) (k : Fin 4096), i = (ix2 r k : S16384x4096.Idx) := ⟨i 0, i 1, ValueIdx.eq_ix2 i⟩
    obtain ⟨t, y, rfl⟩ := KernelInIdeal.In.covered0 r
    exact ⟨t, flush0_1 t, cast_emb t y k ▸ ((cfg0.win 1).blk t).view.emb_mem_set (ix2 y k : S256x4096.Idx)⟩

theorem sums_result : (dat0 V c).arrAt 2 cfg0.N = sums V c := by
  refine (dat0 V c).arrAt_eq_of_cover 2 (sums V c) (fun t _ => funext fun y => ?_) (fun i => ?_)
  · obtain ⟨r, l, rfl⟩ : ∃ (r : Fin 256) (l : Fin 128), y = (ix2 r l : S256x128.Idx) := ⟨y 0, y 1, ValueIdx.eq_ix2 y⟩
    exact (sums_flushed V c t r l).trans (congrArg (sums V c) (sums_emb t r l).symm)
  · obtain ⟨r, l, rfl⟩ : ∃ (r : Fin 16384) (l : Fin 128), i = (ix2 r l : S16384x128.Idx) := ⟨i 0, i 1, ValueIdx.eq_ix2 i⟩
    obtain ⟨t, y, rfl⟩ := KernelInIdeal.In.covered0 r
    exact ⟨t, flush0_2 t, sums_emb t y l ▸ ((cfg0.win 2).blk t).view.emb_mem_set (ix2 y l : S256x128.Idx)⟩

end First

section Second

variable (t : Fin cfg1.N)

theorem idx1 : ∀ t : Fin cfg1.N, win1_0.index t = ![t.val / 16, 0] ∧ win1_1.index t = ![t.val / 16, 0]
    ∧ win1_2.index t = ![0, 0, t.val % 16] ∧ win1_3.index t = ![0, 0, 16 + t.val % 16] ∧ win1_4.index t = ![0, 0, t.val % 16]
    ∧ win1_5.index t = ![0, 0, t.val % 16] ∧ win1_6.index t = ![t.val / 16, t.val % 16] :=
  (by decide +kernel : ∀ t : Fin grid1.N, _)

theorem pt1_lt : t.val < 256 := lt_of_lt_of_eq t.isLt (show cfg1.N = 256 from N_1)

/-- A row and a column of a point's blocks, in the arrays; the columns of the gate and of the second product lie side by side. -/
abbrev tileRow (r : Fin 1024) : Fin 16384 := ⟨1024 * (t.val / 16) + r.val, by have := pt1_lt t; omega⟩
abbrev tileCol (e : Fin 512) : Fin 8192 := ⟨512 * (t.val % 16) + e.val, by omega⟩
abbrev lo (n : Fin 8192) : Fin 16384 := ⟨n.val, by omega⟩
abbrev hi (n : Fin 8192) : Fin 16384 := ⟨8192 + n.val, by omega⟩

/-- The arrays the call is given: rows, sums of squares, weights, the convolution's weights and offset. -/
abbrev inH : (⟨2, ![16384, 4096]⟩ : Shape).Idx → EReal := V c main_v5_0
abbrev inQ : (⟨2, ![16384, 128]⟩ : Shape).Idx → EReal := V c main_v5_1
abbrev inW : (⟨3, ![4, 4096, 16384]⟩ : Shape).Idx → EReal := V c main_v3
abbrev inC : (⟨3, ![4, 3, 8192]⟩ : Shape).Idx → EReal := V c main_arg3
abbrev inB : (⟨3, ![4, 1, 8192]⟩ : Shape).Idx → EReal := V c main_v6

/-- A row times a column of the weights, with the row's factor. -/
def prod (r : Fin 16384) (n : Fin 16384) : EReal :=
  (∑ k : Fin 4096, inH V c (ix2 r k) * inW V c (ix3 0 k n)) * Ideal.rsqrt (inQ V c (ix2 r 0) * Norm.perWidth + Norm.eps)

/-- The column's value `k` rows before in the same sequence, or zero. -/
def prodBack (k : ℕ) (r : Fin 16384) (n : Fin 16384) : EReal := if k ≤ r.val % 4096 then prod V c ⟨r.val - k, by omega⟩ n else 0

/-- The array the call leaves. -/
def act (i : S16384x8192.Idx) : EReal :=
  Ffn.swish (prod V c (i 0) (lo (i 1)) * inC V c (ix3 0 2 (i 1)) + prodBack V c 2 (i 0) (lo (i 1)) * inC V c (ix3 0 0 (i 1))
      + prodBack V c 1 (i 0) (lo (i 1)) * inC V c (ix3 0 1 (i 1)) + inB V c (ix3 0 0 (i 1)))
    * prod V c (i 0) (hi (i 1))

theorem h_at (r : Fin 1024) (k : Fin 4096) : (blk1 V c 0 t : Vec Ideal S1024x4096 .bf16) (ix2 r k) = inH V c (ix2 (tileRow t r) k) := by
  have hp := pt1_lt t
  blk_ext [blk1, idx1 t]

theorem q_at (r : Fin 1024) : (blk1 V c 1 t : Vec Ideal S1024x128 .f32) (ix2 r 0) = inQ V c (ix2 (tileRow t r) 0) := by
  have hp := pt1_lt t
  blk_ext [blk1, idx1 t]

theorem wg_at (k : Fin 4096) (e : Fin 512) : (blk1 V c 2 t : Vec Ideal S1x4096x512 .bf16) (ix3 0 k e) = inW V c (ix3 0 k (lo (tileCol t e))) := by
  have hp := pt1_lt t
  blk_ext [blk1, idx1 t]

theorem wu_at (k : Fin 4096) (e : Fin 512) : (blk1 V c 3 t : Vec Ideal S1x4096x512 .bf16) (ix3 0 k e) = inW V c (ix3 0 k (hi (tileCol t e))) := by
  have hp := pt1_lt t
  blk_ext [blk1, idx1 t]

theorem c_at (k : Fin 3) (e : Fin 512) : (blk1 V c 4 t : Vec Ideal S1x3x512 .f32) (ix3 0 k e) = inC V c (ix3 0 k (tileCol t e)) := by
  have hp := pt1_lt t
  blk_ext [blk1, idx1 t]

theorem b_at (e : Fin 512) : (blk1 V c 5 t : Vec Ideal S1x1x512 .f32) (ix3 0 0 e) = inB V c (ix3 0 0 (tileCol t e)) := by
  have hp := pt1_lt t
  blk_ext [blk1, idx1 t]

/-- A product of a step, given which column of the weights its block's columns are. -/
theorem prod_at (w : Vec Ideal S1x4096x512 .bf16) (r : Fin 1024) (e : Fin 512) (n : Fin 16384) (hw : ∀ k : Fin 4096, w (ix3 0 k e) = inW V c (ix3 0 k n)) :
    k1_pay5 (blk1 V c 0 t : Vec Ideal S1024x4096 .bf16) (lane0 (blk1 V c 1 t : Vec Ideal S1024x128 .f32)) w (ix2 r e) = prod V c (tileRow t r) n :=
  (gate_at _ _ w r e).trans (congrArg₂ (HMul.hMul : EReal → EReal → EReal)
    (Finset.sum_congr rfl fun k _ => congrArg₂ (HMul.hMul : EReal → EReal → EReal) (h_at V c t r k) (hw k))
    (congrArg (fun z : EReal => Ideal.rsqrt (z * Norm.perWidth + Norm.eps)) (q_at V c t r)))

/-- The gate's tile and the eight rows before it. -/
abbrev tile : FVec Ideal S1024x512 .f32 := k1_pay5 (blk1 V c 0 t : Vec Ideal S1024x4096 .bf16) (lane0 (blk1 V c 1 t : Vec Ideal S1024x128 .f32)) (blk1 V c 2 t : Vec Ideal S1x4096x512 .bf16)
abbrev top : FVec Ideal S8x512 .f32 := k1_pay7 (seenAt V c t)

theorem tile_at (r : Fin 1024) (e : Fin 512) : tile V c t (ix2 r e) = prod V c (tileRow t r) (lo (tileCol t e)) :=
  prod_at V c t _ r e _ fun k => wg_at V c t k e

theorem top_eq (a : Fin 8) (e : Fin 512) : top V c t (ix2 a e) = seenAt V c t (ix3 0 a e) := by
  unfold top
  generalize seenAt V c t = x
  pointwise [k1_pay7]

theorem top_begin (h : t.val / 16 % 4 = 0) (a : Fin 8) (e : Fin 512) : top V c t (ix2 a e) = 0 := by
  rw [top_eq]
  unfold seenAt
  rw [if_pos ((begins_at t).mpr h)]
  exact zeros_at a e

theorem top_later (h : t.val / 16 % 4 ≠ 0) (a : Fin 8) (e : Fin 512) :
    top V c t (ix2 a e) = prod V c ⟨1024 * (t.val / 16) + a.val - 8, by have := pt1_lt t; omega⟩ (lo (tileCol t e)) := by
  have hp := pt1_lt t
  rw [top_eq]
  unfold seenAt
  rw [if_neg (fun hc => h ((begins_at t).mp hc))]
  refine (left_at _ _ _ a e).trans ((tile_at V c (prev t) ⟨1016 + a.val, by omega⟩ e).trans ?_)
  exact congrArg₂ (prod V c) (Fin.ext (by show 1024 * ((t.val - 16) / 16) + (1016 + a.val) = 1024 * (t.val / 16) + a.val - 8; omega))
    (Fin.ext (by show 512 * ((t.val - 16) % 16) + e.val = 512 * (t.val % 16) + e.val; omega))

/-- The rows one or two before the tile's, in the array. -/
theorem back_at (k : ℕ) (hk : k ≤ 2) (x : EReal) (r : Fin 1024) (e : Fin 512)
    (hx : x = if hr : r.val < k then top V c t (ix2 ⟨8 - k + r.val, by omega⟩ e) else tile V c t (ix2 ⟨r.val - k, by omega⟩ e)) :
    x = prodBack V c k (tileRow t r) (lo (tileCol t e)) := by
  have hp := pt1_lt t
  rw [hx]
  unfold prodBack
  by_cases hr : r.val < k
  · rw [dif_pos hr]
    by_cases h : t.val / 16 % 4 = 0
    · rw [top_begin V c t h, if_neg (by show ¬ k ≤ (1024 * (t.val / 16) + r.val) % 4096; omega)]
    · rw [top_later V c t h, if_pos (by show k ≤ (1024 * (t.val / 16) + r.val) % 4096; omega)]
      exact congrArg (fun y => prod V c y _) (Fin.ext (by show 1024 * (t.val / 16) + (8 - k + r.val) - 8 = 1024 * (t.val / 16) + r.val - k; omega))
  · rw [dif_neg hr, tile_at, if_pos (by show k ≤ (1024 * (t.val / 16) + r.val) % 4096; omega)]
    exact congrArg (fun y => prod V c y _) (Fin.ext (by show 1024 * (t.val / 16) + (r.val - k) = 1024 * (t.val / 16) + r.val - k; omega))

theorem act_flushed (r : Fin 1024) (e : Fin 512) : (dat1 V c).flushed 6 t (ix2 r e : S1024x512.Idx) = act V c (ix2 (tileRow t r) (tileCol t e)) := by
  show (dat1 V c).after 6 t (ix2 r e : S1024x512.Idx) = _
  rw [after1_6]
  unfold outAt
  show k1_pay1 (tile V c t) (k1_pay6 _ _ _) (top V c t) _ _ (ix2 r e) = _
  rw [last_eq, up_eq]
  refine (last_at _ _ _ _ _ _ r e).trans ?_
  unfold act
  have u := prod_at V c t (blk1 V c 3 t : Vec Ideal S1x4096x512 .bf16) r e _ fun k => wu_at V c t k e
  have p2 := back_at V c t 2 (by decide) _ r e (before2 (tile V c t) (top V c t) r e)
  have p1 := back_at V c t 1 (by decide) _ r e (before1 (tile V c t) (top V c t) r e)
  exact congrArg₂ (HMul.hMul : EReal → EReal → EReal) (congrArg Ffn.swish (congrArg₂ (HAdd.hAdd : EReal → EReal → EReal)
    (congrArg₂ (HAdd.hAdd : EReal → EReal → EReal) (congrArg₂ (HAdd.hAdd : EReal → EReal → EReal)
      (congrArg₂ (HMul.hMul : EReal → EReal → EReal) (tile_at V c t r e) (c_at V c t 2 e))
      (congrArg₂ (HMul.hMul : EReal → EReal → EReal) p2 (c_at V c t 0 e)))
      (congrArg₂ (HMul.hMul : EReal → EReal → EReal) p1 (c_at V c t 1 e))) (b_at V c t e))) u

theorem act_emb (y : Fin 1024) (e : Fin 512) : ((cfg1.win 6).blk t).view.emb (ix2 y e : S1024x512.Idx) = (ix2 (tileRow t y) (tileCol t e) : S16384x8192.Idx) := by
  have hi := (idx1 t).2.2.2.2.2.2
  refine funext fun a => Fin.ext ?_
  match a with
  | ⟨0, _⟩ =>
    show win1_6.index t (0 : Fin 2) * 1024 + 1 * y.val = 1024 * (t.val / 16) + y.val
    rw [hi]; show t.val / 16 * 1024 + 1 * y.val = 1024 * (t.val / 16) + y.val; omega
  | ⟨1, _⟩ =>
    show win1_6.index t (1 : Fin 2) * 512 + 1 * e.val = 512 * (t.val % 16) + e.val
    rw [hi]; show t.val % 16 * 512 + 1 * e.val = 512 * (t.val % 16) + e.val; omega

theorem covered1 (r : Fin 16384) (n : Fin 8192) : ∃ (t : Fin cfg1.N) (y : Fin 1024) (e : Fin 512), tileRow t y = r ∧ tileCol t e = n := by
  refine ⟨⟨16 * (r.val / 1024) + n.val / 512, lt_of_lt_of_eq (by omega) (show cfg1.N = 256 from N_1).symm⟩, ⟨r.val % 1024, by omega⟩, ⟨n.val % 512, by omega⟩, Fin.ext ?_, Fin.ext ?_⟩
  · show 1024 * ((16 * (r.val / 1024) + n.val / 512) / 16) + r.val % 1024 = r.val; omega
  · show 512 * ((16 * (r.val / 1024) + n.val / 512) % 16) + n.val % 512 = n.val; omega

theorem act_result : (dat1 V c).arrAt 6 cfg1.N = act V c := by
  refine (dat1 V c).arrAt_eq_of_cover 6 (act V c) (fun t _ => funext fun y => ?_) (fun i => ?_)
  · obtain ⟨r, e, rfl⟩ : ∃ (r : Fin 1024) (e : Fin 512), y = (ix2 r e : S1024x512.Idx) := ⟨y 0, y 1, ValueIdx.eq_ix2 y⟩
    exact (act_flushed V c t r e).trans (congrArg (act V c) (act_emb t r e).symm)
  · obtain ⟨r, n, rfl⟩ : ∃ (r : Fin 16384) (n : Fin 8192), i = (ix2 r n : S16384x8192.Idx) := ⟨i 0, i 1, ValueIdx.eq_ix2 i⟩
    obtain ⟨t, y, e, rfl, rfl⟩ := covered1 r n
    exact ⟨t, flush1_6 t, act_emb t y e ▸ ((cfg1.win 6).blk t).view.emb_mem_set (ix2 y e : S1024x512.Idx)⟩

end Second

end Cert.KernelUpIdeal.Up

end
-- ==== Proof.UpOut.lean ====
/-
  The array the feed-forward's first part leaves, entry by entry: the host's preparations, then the two calls.
-/
module

public import proofs.«01_k».proof.Proof.UpCalls
public import proofs.«01_k».proof.Proof.UpRun

@[expose] public section

set_option maxRecDepth 16384

noncomputable section

open Idealize.ShloMosaic Idealize.ShloMosaic.TcCoe Idealize.SL.Sem

namespace Cert.KernelUpIdeal.Up

open Cert.KernelUpIdeal Cert.KernelUpIdeal.Gen

variable (m : (ℓ : Loc nD τ sig) → Buf (Elt Ideal) ℓ) (ρ : Dev nD → PrngReg) (c : Dev nD)

/-- The five arguments: the rows, the norms' scales, the stacked weights, the convolutions' weights and offsets. -/
abbrev argX : (⟨3, ![4, 4096, 4096]⟩ : Shape).Idx → EReal := m ((c : Thread nD τ).loc main_arg0)
abbrev argG : (⟨2, ![4, 4096]⟩ : Shape).Idx → EReal := m ((c : Thread nD τ).loc main_arg1)
abbrev argW : (⟨3, ![4, 4096, 16384]⟩ : Shape).Idx → EReal := m ((c : Thread nD τ).loc main_arg2)
abbrev argC : (⟨3, ![4, 3, 8192]⟩ : Shape).Idx → EReal := m ((c : Thread nD τ).loc main_arg3)
abbrev argB : (⟨2, ![4, 8192]⟩ : Shape).Idx → EReal := m ((c : Thread nD τ).loc main_arg4)

/-- The sequence of a row, and its place in the sequence. -/
abbrev seqOf (r : Fin 16384) : Fin 4 := ⟨r.val / 4096, by omega⟩
abbrev posOf (r : Fin 16384) : Fin 4096 := ⟨r.val % 4096, by omega⟩

/-- The host lays the sequences one after the other. -/
theorem host_rows (r : Fin 16384) (k : Fin 4096) : rows (V1 m ρ) c (ix2 r k) = argX m c (ix3 (seqOf r) (posOf r) k) := by
  show (StableHlo.after hostOps0 (W0 m ρ c) main_v4 : Vec Ideal S16384x4096 .f32) (ix2 r k) = _
  entry_read
  pointwise []

/-- The host scales the weights by the norms' rows; layer 0 is the first. -/
theorem host_scaled (k : Fin 4096) (n : Fin 16384) :
    (V1 m ρ c main_v3 : Vec Ideal S4x4096x16384 .bf16) (ix3 0 k n) = argW m c (ix3 0 k n) * argG m c (ix2 0 k) := by
  show (StableHlo.after hostOps0 (W0 m ρ c) main_v3 : Vec Ideal S4x4096x16384 .bf16) (ix3 0 k n) = _
  entry_read
  pointwise []

/-- What the second call is given: of the first its two arrays, of the host the weights and the offsets, and an argument. -/
theorem given_rows : inH (V3 m ρ) c = rows (V1 m ρ) c :=
  (W3_of m ρ c main_v5_0 (by decide)).trans ((W2_arr m ρ c 1).trans (cast_result (V1 m ρ) c))
theorem given_sums : inQ (V3 m ρ) c = sums (V1 m ρ) c :=
  (W3_of m ρ c main_v5_1 (by decide)).trans ((W2_arr m ρ c 2).trans (sums_result (V1 m ρ) c))
theorem given_weights : inW (V3 m ρ) c = V1 m ρ c main_v3 :=
  (W3_of m ρ c main_v3 (by decide)).trans (W2_of m ρ c main_v3 (by decide))
theorem given_taps : inC (V3 m ρ) c = argC m c := W3_args m ρ c main_arg3 (by decide)
theorem given_offset (n : Fin 8192) : inB (V3 m ρ) c (ix3 0 0 n) = argB m c (ix2 0 n) := by
  have e : inB (V3 m ρ) c (ix3 0 0 n) = (V2 m ρ c main_arg4 : Vec Ideal S4x8192 .f32) (ix2 0 n) := by
    show (StableHlo.after hostOps1 (W2 m ρ c) main_v6 : Vec Ideal S4x1x8192 .f32) (ix3 0 0 n) = _
    entry_read
    pointwise []
  rw [e, show V2 m ρ c main_arg4 = V1 m ρ c main_arg4 from W2_of m ρ c main_arg4 (by decide)]
  exact congrFun (W1_of m ρ c main_arg4 (by decide)) _

/-- A column of the products along a sequence. -/
def column (b : Fin 4) (n : Fin 16384) (s : Fin 4096) : EReal :=
  Norm.entry (fun k => argX m c (ix3 b s k)) (fun k => argG m c (ix2 0 k)) (fun k => argW m c (ix3 0 k n))

theorem prod_eq (r : Fin 16384) (n : Fin 16384) : prod (V3 m ρ) c r n = column m c (seqOf r) n (posOf r) := by
  refine Eq.trans ?_ (Norm.scaled_last _ _ _)
  unfold prod
  rw [given_rows, given_sums, given_weights]
  refine congrArg₂ (HMul.hMul : EReal → EReal → EReal) (Finset.sum_congr rfl fun k _ => ?_) (congrArg (fun f => Ideal.rsqrt (Norm.squares f * Norm.perWidth + Norm.eps)) (funext fun k => host_rows m ρ c r k))
  exact congrArg₂ (HMul.hMul : EReal → EReal → EReal) (host_rows m ρ c r k) (host_scaled m ρ c k n)

theorem prodBack_eq (k : ℕ) (hk : k ≤ 2) (r : Fin 16384) (n : Fin 16384) : prodBack (V3 m ρ) c k r n = Ffn.back (column m c (seqOf r) n) k (posOf r) := by
  unfold prodBack Ffn.back
  by_cases h : k ≤ r.val % 4096
  · rw [if_pos h, if_pos h, prod_eq]
    exact congrArg₂ (fun b s => column m c b n s) (Fin.ext (by show (r.val - k) / 4096 = r.val / 4096; omega)) (Fin.ext (by show (r.val - k) % 4096 = r.val % 4096 - k; omega))
  · rw [if_neg h, if_neg h]

/-- The convolved gate of an entry. -/
def gated (r : Fin 16384) (n : Fin 8192) : EReal :=
  Ffn.conv (column m c (seqOf r) (lo n)) (fun k => argC m c (ix3 0 k n)) (argB m c (ix2 0 n)) (posOf r)

/-- The array the run leaves. -/
def G (i : S16384x8192.Idx) : EReal := Ffn.swish (gated m c (i 0) (i 1)) * column m c (seqOf (i 0)) (hi (i 1)) (posOf (i 0))

theorem result : (dat1 (V3 m ρ) c).arrAt 6 cfg1.N = G m c := by
  rw [act_result]
  funext i
  obtain ⟨r, n, rfl⟩ : ∃ (r : Fin 16384) (n : Fin 8192), i = (ix2 r n : S16384x8192.Idx) := ⟨i 0, i 1, ValueIdx.eq_ix2 i⟩
  show Ffn.swish (prod (V3 m ρ) c r (lo n) * inC (V3 m ρ) c (ix3 0 2 n) + prodBack (V3 m ρ) c 2 r (lo n) * inC (V3 m ρ) c (ix3 0 0 n)
      + prodBack (V3 m ρ) c 1 r (lo n) * inC (V3 m ρ) c (ix3 0 1 n) + inB (V3 m ρ) c (ix3 0 0 n)) * prod (V3 m ρ) c r (hi n)
    = Ffn.swish (gated m c r n) * column m c (seqOf r) (hi n) (posOf r)
  rw [given_taps, given_offset, prod_eq, prod_eq, prodBack_eq m ρ c 2 (by decide), prodBack_eq m ρ c 1 (by decide)]
  exact congrArg (fun z => Ffn.swish z * column m c (seqOf r) (hi n) (posOf r))
    (Ffn.conv_eq (column m c (seqOf r) (lo n)) (fun k => argC m c (ix3 0 k n)) (argB m c (ix2 0 n)) (posOf r))

end Cert.KernelUpIdeal.Up

end
-- ==== Proof.UpRef.lean ====
/-
  The reference of the feed-forward's first part, read entry by entry: all columns of the product, the first half of them
  padded and convolved, the activation, times the second half.
-/
module

public import proofs.«01_k».proof.Proof.UpSpec
public import proofs.«01_k».proof.Proof.Gen.ReferenceUpIdeal.Run
public import Idealize.ShloMosaic.Lib.Pointwise

@[expose] public section

set_option maxRecDepth 16384

noncomputable section

open Idealize.ShloMosaic Idealize.ShloMosaic.TcCoe Idealize.SL.Sem

namespace Cert.ReferenceUpIdeal.Up

open Cert.ReferenceUpIdeal Cert.ReferenceUpIdeal.Gen

/-- The normalised rows times all columns of the weights. -/
def all (x : FVec Ideal S4x4096x4096 .f32) (g : FVec Ideal S4x4096 .f32) (w : FVec Ideal S4x4096x16384 .f32) : FVec Ideal S4x4096x16384 .f32 :=
  Host.dotGeneral dot_S4x4096x4096_S4096x16384_S4x4096x16384_2_0_01_1_n_n none (mulf (mulf x
      (broadcastInDim S4x4096x4096 ![0, 1, 2] bcast_S4x4096x1_S4x4096x4096_0_1_2 (Host.rsqrt (addf
        (Host.divf (broadcastInDim S4x4096x1 ![0, 1] bcast_S4x4096_S4x4096x1_0_1 (Host.reduceAdd (mulf x x) (constant S_ .f32 0x00000000#32) reducesTo_S4x4096x4096_S4x4096_d2 h_S_)) (broadcastInDim S4x4096x1 ![] bcast_S_S4x4096x1 (constant S_ .f32 0x45800000#32)))
        (broadcastInDim S4x4096x1 ![] bcast_S_S4x4096x1 (constant S_ .f32 0x358637BD#32))))))
      (broadcastInDim S4x4096x4096 ![0, 1, 2] bcast_S1x1x4096_S4x4096x4096_0_1_2 (broadcastInDim S1x1x4096 ![2] bcast_S4096_S1x1x4096_2 (shapeCast _ (extractStridedSlice S1x4096 ![0, 0] g slices_S4x4096_S1x4096_0_0) shapeCasts_S1x4096_S4096))))
    (shapeCast _ (extractStridedSlice S1x4096x16384 ![0, 0, 0] w slices_S4x4096x16384_S1x4096x16384_0_0_0) shapeCasts_S1x4096x16384_S4096x16384)

theorem all_at (x : FVec Ideal S4x4096x4096 .f32) (g : FVec Ideal S4x4096 .f32) (w : FVec Ideal S4x4096x16384 .f32) (b : Fin 4) (s : Fin 4096) (n : Fin 16384) :
    all x g w (ix3 b s n) = Norm.entry (fun k => x (ix3 b s k)) (fun k => g (ix2 0 k)) (fun k => w (ix3 0 k n)) := by
  pointwise [all, Norm.entry, Norm.factor, Norm.squares]

/-- The gate with two rows of zeros before each sequence. -/
def padded (p : FVec Ideal S4x4096x16384 .f32) : FVec Ideal S4x4098x8192 .f32 :=
  pad S4x4098x8192 ![0, 2, 0] ![0, 0, 0] ![0, 0, 0] (extractStridedSlice S4x4096x8192 ![0, 0, 0] p slices_S4x4096x16384_S4x4096x8192_0_0_0)
    (sitofp .f32 (constantI S_ 32 0#32)) pads_S4x4096x8192_S4x4098x8192_000_200_000 h_S_

theorem padded_at (p : FVec Ideal S4x4096x16384 .f32) (b : Fin 4) (s : Fin 4098) (n : Fin 8192) :
    padded p (ix3 b s n) = if h : 2 ≤ s.val then p (ix3 b ⟨s.val - 2, by omega⟩ ⟨n.val, by omega⟩) else 0 := by
  pointwise [padded]
  by_cases h : 2 ≤ s.val
  · rw [dif_pos ⟨h, by omega⟩, dif_pos h]
  · rw [dif_neg (fun a => h a.1), dif_neg h]
    show ((((0#32 : BitVec 32).toInt : ℤ) : ℝ) : EReal) = 0
    simp

/-- The convolved gate. -/
def conved (p : FVec Ideal S4x4096x16384 .f32) (cw : FVec Ideal S4x3x8192 .f32) (cb : FVec Ideal S4x8192 .f32) : FVec Ideal S4x4096x8192 .f32 :=
  addf (addf (addf (mulf (extractStridedSlice S4x4096x8192 ![0, 0, 0] (padded p) slices_S4x4098x8192_S4x4096x8192_0_0_0)
        (broadcastInDim S4x4096x8192 ![0, 1, 2] bcast_S1x1x8192_S4x4096x8192_0_1_2 (broadcastInDim S1x1x8192 ![2] bcast_S8192_S1x1x8192_2 (shapeCast _ (extractStridedSlice S1x8192 ![0, 0] (shapeCast _ (extractStridedSlice S1x3x8192 ![0, 0, 0] cw slices_S4x3x8192_S1x3x8192_0_0_0) shapeCasts_S1x3x8192_S3x8192) slices_S3x8192_S1x8192_0_0) shapeCasts_S1x8192_S8192))))
      (mulf (extractStridedSlice S4x4096x8192 ![0, 1, 0] (padded p) slices_S4x4098x8192_S4x4096x8192_0_1_0)
        (broadcastInDim S4x4096x8192 ![0, 1, 2] bcast_S1x1x8192_S4x4096x8192_0_1_2 (broadcastInDim S1x1x8192 ![2] bcast_S8192_S1x1x8192_2 (shapeCast _ (extractStridedSlice S1x8192 ![1, 0] (shapeCast _ (extractStridedSlice S1x3x8192 ![0, 0, 0] cw slices_S4x3x8192_S1x3x8192_0_0_0) shapeCasts_S1x3x8192_S3x8192) slices_S3x8192_S1x8192_1_0) shapeCasts_S1x8192_S8192)))))
      (mulf (extractStridedSlice S4x4096x8192 ![0, 0, 0] p slices_S4x4096x16384_S4x4096x8192_0_0_0)
        (broadcastInDim S4x4096x8192 ![0, 1, 2] bcast_S1x1x8192_S4x4096x8192_0_1_2 (broadcastInDim S1x1x8192 ![2] bcast_S8192_S1x1x8192_2 (shapeCast _ (extractStridedSlice S1x8192 ![2, 0] (shapeCast _ (extractStridedSlice S1x3x8192 ![0, 0, 0] cw slices_S4x3x8192_S1x3x8192_0_0_0) shapeCasts_S1x3x8192_S3x8192) slices_S3x8192_S1x8192_2_0) shapeCasts_S1x8192_S8192)))))
    (broadcastInDim S4x4096x8192 ![0, 1, 2] bcast_S1x1x8192_S4x4096x8192_0_1_2 (broadcastInDim S1x1x8192 ![2] bcast_S8192_S1x1x8192_2 (shapeCast _ (extractStridedSlice S1x8192 ![0, 0] cb slices_S4x8192_S1x8192_0_0) shapeCasts_S1x8192_S8192)))

/-- A column of the products along a sequence. -/
abbrev column (p : FVec Ideal S4x4096x16384 .f32) (b : Fin 4) (n : Fin 16384) (s : Fin 4096) : EReal := p (ix3 b s n)

theorem conved_at (p : FVec Ideal S4x4096x16384 .f32) (cw : FVec Ideal S4x3x8192 .f32) (cb : FVec Ideal S4x8192 .f32) (b : Fin 4) (s : Fin 4096) (n : Fin 8192) :
    conved p cw cb (ix3 b s n) = Ffn.conv (column p b ⟨n.val, by omega⟩) (fun k => cw (ix3 0 k n)) (cb (ix2 0 n)) s := by
  have e2 : padded p (ix3 b ⟨s.val, by omega⟩ n) = Ffn.back (column p b ⟨n.val, by omega⟩) 2 s := by
    rw [padded_at]; unfold Ffn.back
    by_cases h : 2 ≤ s.val
    · rw [dif_pos h, if_pos h]
    · rw [dif_neg h, if_neg h]
  have e1 : padded p (ix3 b ⟨1 + s.val, by omega⟩ n) = Ffn.back (column p b ⟨n.val, by omega⟩) 1 s := by
    rw [padded_at]; unfold Ffn.back
    by_cases h : 1 ≤ s.val
    · rw [dif_pos (by show 2 ≤ 1 + s.val; omega), if_pos h]
      exact congrArg (fun y => p (ix3 b y _)) (Fin.ext (by show 1 + s.val - 2 = s.val - 1; omega))
    · rw [dif_neg (by show ¬ 2 ≤ 1 + s.val; omega), if_neg h]
  unfold Ffn.conv
  rw [← e2, ← e1]
  unfold conved
  generalize padded p = q
  pointwise []

/-- The activation of the convolved gate, times the second half of the columns, the sequences one after the other. -/
def shaped (z : FVec Ideal S4x4096x8192 .f32) (p : FVec Ideal S4x4096x16384 .f32) : FVec Ideal S16384x8192 .bf16 :=
  truncf .bf16 (shapeCast _ (mulf (mulf z (Host.divf (broadcastInDim S4x4096x8192 ![] bcast_S_S4x4096x8192 (constant S_ .f32 0x3F800000#32))
      (addf (broadcastInDim S4x4096x8192 ![] bcast_S_S4x4096x8192 (constant S_ .f32 0x3F800000#32)) (Host.exp (Host.negf z)))))
    (extractStridedSlice S4x4096x8192 ![0, 0, 8192] p slices_S4x4096x16384_S4x4096x8192_0_0_8192)) shapeCasts_S4x4096x8192_S16384x8192) bitsLt_bf16_f32

theorem shaped_at (z : FVec Ideal S4x4096x8192 .f32) (p : FVec Ideal S4x4096x16384 .f32) (r : Fin 16384) (n : Fin 8192) :
    shaped z p (ix2 r n) = z (ix3 ⟨r.val / 4096, by omega⟩ ⟨r.val % 4096, by omega⟩ n) * Mlstm.sigmoid (z (ix3 ⟨r.val / 4096, by omega⟩ ⟨r.val % 4096, by omega⟩ n))
      * p (ix3 ⟨r.val / 4096, by omega⟩ ⟨r.val % 4096, by omega⟩ ⟨8192 + n.val, by omega⟩) := by
  pointwise [shaped, Mlstm.sigmoid]

/-- The reference's result is these, one after the other. -/
theorem result_eq (m : (ℓ : Loc nD τ sig) → Buf (Elt Ideal) ℓ) (c : Dev nD) :
    Value.res_main_v50 m c = shaped (conved (all (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)))
      (all (m ((c.tc : Thread nD τ).loc main_arg0)) (m ((c.tc : Thread nD τ).loc main_arg1)) (m ((c.tc : Thread nD τ).loc main_arg2))) := rfl

end Cert.ReferenceUpIdeal.Up

end
-- ==== Proof.UpEqual.lean ====
/-
  The feed-forward's first part: the kernel's array is the reference's where the weights are real numbers.

  The condition says that layer 0's scales, gate columns, convolution weights and offset lie below infinity in absolute
  value. It makes the convolved gate real, where the two spellings of the activation agree.
-/
module

public import proofs.«01_k».proof.Defs
public import proofs.«01_k».proof.Proof.UpOut
public import proofs.«01_k».proof.Proof.UpRef
public import proofs.«01_k».proof.Proof.UpFrames

@[expose] public section

set_option maxRecDepth 16384

noncomputable section

namespace Cert.Proof.Up

open Idealize.ShloMosaic Idealize.ShloMosaic.TcCoe Idealize.SL.Sem

/-- The condition's operations take operands of the right shapes. -/
instance cond_facts : Cert.Pre_real_weights.Facts where
  slices_S4x4096_S1x4096_0_0 := by decide
  shapeCasts_S1x4096_S4096 := by decide
  bcast_S_S4096 := by decide
  slices_S4x4096x16384_S1x4096x8192_0_0_0 := by decide
  shapeCasts_S1x4096x8192_S4096x8192 := by decide
  bcast_S_S4096x8192 := by decide
  slices_S4x3x8192_S1x3x8192_0_0_0 := by decide
  shapeCasts_S1x3x8192_S3x8192 := by decide
  bcast_S_S3x8192 := by decide
  slices_S4x8192_S1x8192_0_0 := by decide
  shapeCasts_S1x8192_S8192 := by decide
  bcast_S_S8192 := by decide

section Condition

open Cert.Pre_real_weights

variable (x : FVec Ideal S4x4096x4096 .f32) (g : FVec Ideal S4x4096 .f32) (w : FVec Ideal S4x4096x16384 .f32) (cw : FVec Ideal S4x3x8192 .f32) (cb : FVec Ideal S4x8192 .f32)

/-- The pattern of infinity. -/
theorem top_eq : Ideal.ofBits .f32 0x7F800000#32 = (⊤ : EReal) := by
  simp [Ideal.ofBits, Ideal.ieee]

/-- An absolute value below infinity, compared as the condition does. -/
theorem below {a : EReal} (h : BitVec.ofBool (decide (max a (-a) < Ideal.ofBits .f32 0x7F800000#32)) = 1#1) : Ffn.IsReal a := by
  refine Ffn.isReal_of_abs a ?_
  rw [top_eq] at h
  by_contra hn
  rw [decide_eq_false hn] at h
  exact absurd h (by decide)

theorem scales_real (h : (fn x g w cw cb).1 = fun _ => 1#1) (k : Fin 4096) : Ffn.IsReal (g (ix2 0 k)) := by
  have h := congrFun h (ix1 k)
  unfold fn at h
  pointwise [] at h
  exact below h

theorem gate_real (h : (fn x g w cw cb).2.1 = fun _ => 1#1) (k : Fin 4096) (n : Fin 8192) : Ffn.IsReal (w (ix3 0 k ⟨n.val, by omega⟩)) := by
  have h := congrFun h (ix2 k n)
  unfold fn at h
  pointwise [] at h
  exact below h

theorem taps_real (h : (fn x g w cw cb).2.2.1 = fun _ => 1#1) (k : Fin 3) (n : Fin 8192) : Ffn.IsReal (cw (ix3 0 k n)) := by
  have h := congrFun h (ix2 k n)
  unfold fn at h
  pointwise [] at h
  exact below h

theorem offset_real (h : (fn x g w cw cb).2.2.2 = fun _ => 1#1) (n : Fin 8192) : Ffn.IsReal (cb (ix2 0 n)) := by
  have h := congrFun h (ix1 n)
  unfold fn at h
  pointwise [] at h
  exact below h

end Condition

open Cert.KernelUpIdeal.Up in
/-- Under the condition the convolved gate is real. -/
theorem gated_real (m : (ℓ : Loc Cert.KernelUpIdeal.nD Cert.KernelUpIdeal.τ Cert.KernelUpIdeal.sig) → Buf (Elt Ideal) ℓ) (c : Dev Cert.KernelUpIdeal.nD)
    (h : Cert.Pre_KernelUpIdeal_real_weights m) (r : Fin 16384) (n : Fin 8192) : Ffn.IsReal (gated m c r n) :=
  Ffn.conv_real _ _ _ _ (fun s => Ffn.entry_real _ _ _ (fun k => scales_real _ _ _ _ _ (h c).1 k) fun k => gate_real _ _ _ _ _ (h c).2.1 k n)
    (fun k => taps_real _ _ _ _ _ (h c).2.2.1 k n) (offset_real _ _ _ _ _ (h c).2.2.2 n)

/-- Under the condition the reference's result, from the kernel's arguments, is the array the kernel leaves. -/
theorem results_eq (m : (ℓ : Loc Cert.KernelUpIdeal.nD Cert.KernelUpIdeal.τ Cert.KernelUpIdeal.sig) → Buf (Elt Ideal) ℓ)
    (m' : (ℓ : Loc Cert.ReferenceUpIdeal.nD Cert.ReferenceUpIdeal.τ Cert.ReferenceUpIdeal.sig) → Buf (Elt Ideal) ℓ) (c : Dev Cert.KernelUpIdeal.nD)
    (h : Cert.Pre_KernelUpIdeal_real_weights m)
    (h0 : m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0))
    (h1 : m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1))
    (h2 : m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2))
    (h3 : m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3))
    (h4 : m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)) :
    Cert.ReferenceUpIdeal.Value.res_main_v50 m' c = Cert.KernelUpIdeal.Up.G m c := by
  rw [Cert.ReferenceUpIdeal.Up.result_eq, h0, h1, h2, h3, h4]
  funext i
  obtain ⟨r, n, rfl⟩ : ∃ (r : Fin 16384) (n : Fin 8192), i = (ix2 r n : Cert.ReferenceUpIdeal.S16384x8192.Idx) := ⟨i 0, i 1, ValueIdx.eq_ix2 i⟩
  refine (Cert.ReferenceUpIdeal.Up.shaped_at _ _ r n).trans ?_
  rw [Cert.ReferenceUpIdeal.Up.conved_at, Cert.ReferenceUpIdeal.Up.all_at,
    show Cert.ReferenceUpIdeal.Up.column _ _ _ = Cert.KernelUpIdeal.Up.column m c (Cert.KernelUpIdeal.Up.seqOf r) (Cert.KernelUpIdeal.Up.lo n) from
      funext fun s => Cert.ReferenceUpIdeal.Up.all_at _ _ _ _ s _]
  exact congrArg (· * Cert.KernelUpIdeal.Up.column m c (Cert.KernelUpIdeal.Up.seqOf r) (Cert.KernelUpIdeal.Up.hi n) (Cert.KernelUpIdeal.Up.posOf r))
    (Ffn.swish_eq (gated_real m c h r n)).symm

/-- The frames under the condition, which they do not need. -/
theorem frame_ideal_cond : Cert.quiescent_KernelUpIdeal_pre_real_weights := fun m ρ _ => frame_ideal m ρ trivial
theorem frame_reference_cond : Cert.quiescent_ReferenceUpIdeal_pre_real_weights := fun m ρ _ => frame_reference m ρ trivial

/-- The idealized kernel and the reference compute the same array. -/
theorem equal : Cert.algebraic_KernelUpIdeal_ReferenceUpIdeal_pre_real_weights := fun m ρ m' ρ' hcond hagree =>
  ⟨fun c => Cert.KernelUpIdeal.Up.G m c,
    (θ_run Cert.KernelUpIdeal.defs _ _).mono (fun _ h c => ⟨(h c).1.trans (Cert.KernelUpIdeal.Up.result m ρ c), (h c).2⟩)
      (Cert.KernelUpIdeal.Up.run (F := Ideal) m ρ),
    (θ_run Cert.ReferenceUpIdeal.defs _ _).mono (fun _ h c => ⟨(h c).1.trans (results_eq m m' c hcond
        (hagree c).1 (hagree c).2.1 (hagree c).2.2.1 (hagree c).2.2.2.1 (hagree c).2.2.2.2), (h c).2⟩)
      (Cert.ReferenceUpIdeal.Value.run (F := Ideal) m' ρ')⟩

end Cert.Proof.Up

end
-- ==== Proof.DownStep.lean ====
/-
  One grid step of the down projection with its residual.

  A step works on 1024 rows and 1024 columns of the output and on half of the contracted axis, in four strips of 256
  columns. Whatever it starts from (the residual at the first half, what the first half left at the second), every entry
  of the block it leaves is that start plus the step's products (`block_at`).
-/
module

public import proofs.«01_k».proof.Proof.Gen.KernelDownIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelDownIdeal.Down

open Cert.KernelDownIdeal Cert.KernelDownIdeal.Gen

/-- A strip's new columns: the old ones plus the rows times the strip of the weights. -/
def strip (v : Vec Ideal S1024x256 .f32) (a : Vec Ideal S1024x4096 .bf16) (w : Vec Ideal S1x4096x256 .bf16) : FVec Ideal S1024x256 .f32 :=
  have w' : FVec Ideal S4096x256 .bf16 := shapeCast S4096x256 w shapeCasts_S1x4096x256_S4096x256
  have z : FVec Ideal S1024x256 .f32 := constant S1024x256 .f32 0x00000000#32
  have p : FVec Ideal S1024x256 .f32 := matmul (φ₁ := .bf16) dot_S1024x4096_S4096x256_S1024x256_1_0_0_1_n_n none a w' z
  addf v p

theorem strip_at (v : Vec Ideal S1024x256 .f32) (a : Vec Ideal S1024x4096 .bf16) (w : Vec Ideal S1x4096x256 .bf16) (r : Fin 1024) (e : Fin 256) :
    strip v a w (ix2 r e) = v (ix2 r e) + ∑ k : Fin 4096, a (ix2 r k) * w (ix3 0 k e) := by
  pointwise [strip]

theorem pay1_eq : k0_pay1 (F := Ideal) = strip := rfl
theorem pay4_eq : k0_pay4 (F := Ideal) = strip := rfl
theorem pay5_eq : k0_pay5 (F := Ideal) = strip := rfl
theorem pay6_eq : k0_pay6 (F := Ideal) = strip := rfl
theorem pay10_eq : k0_pay10 (F := Ideal) = strip := by
  funext v a w; unfold k0_pay10 strip; rw [shapeCast_self]
theorem pay12_eq : k0_pay12 (F := Ideal) = strip := by
  funext v a w; unfold k0_pay12 strip; rw [shapeCast_self]
theorem pay15_eq : k0_pay15 (F := Ideal) = strip := by
  funext v a w; unfold k0_pay15 strip; rw [shapeCast_self]
theorem pay17_eq : k0_pay17 (F := Ideal) = strip := by
  funext v a w; unfold k0_pay17 strip; rw [shapeCast_self]

/-- An entry of the block a step leaves, the entry it starts from being `acc y`. -/
def entry (acc : Vec Ideal S1024x1024 .f32) (x0 : Vec Ideal S1024x4096 .bf16) (x1 : Vec Ideal S1x4096x1024 .bf16) (y : S1024x1024.Idx) : EReal :=
  acc y + ∑ k : Fin 4096, x0 (ix2 (y 0) k) * x1 (ix3 0 k (y 1))

/-- Columns `o …` of an output block, and of a block of weights. -/
abbrev rO (o : ℕ) (inb : ∀ a, (![0, o] : Fin 2 → Nat) a + S1024x256.size a ≤ S1024x1024.size a) : Rect S1024x1024 :=
  Rect.unit ![0, o] S1024x256.size inb
abbrev rW (o : ℕ) (inb : ∀ a, (![0, 0, o] : Fin 3 → Nat) a + S1x4096x256.size a ≤ S1x4096x1024.size a) : Rect S1x4096x1024 :=
  Rect.unit ![0, 0, o] S1x4096x256.size inb

/-- A strip's entry is the block's. -/
theorem strip_entry (acc : Vec Ideal S1024x1024 .f32) (x0 : Vec Ideal S1024x4096 .bf16) (x1 : Vec Ideal S1x4096x1024 .bf16) (o : ℕ)
    (inb : ∀ a, (![0, o] : Fin 2 → Nat) a + S1024x256.size a ≤ S1024x1024.size a)
    (inb' : ∀ a, (![0, 0, o] : Fin 3 → Nat) a + S1x4096x256.size a ≤ S1x4096x1024.size a) (x : S1024x256.Idx) :
    strip (View.ld acc (rO o inb)) x0 (View.ld x1 (rW o inb')) x = entry acc x0 x1 ((rO o inb).emb x) := by
  obtain ⟨r, e, rfl⟩ : ∃ (r : Fin 1024) (e : Fin 256), x = ix2 r e := ⟨x 0, x 1, ValueIdx.eq_ix2 x⟩
  have ho : o + 256 ≤ 1024 := inb 1
  have hy : (rO o inb).emb (ix2 r e : S1024x256.Idx) = (ix2 r ⟨o + e.val, by omega⟩ : S1024x1024.Idx) := funext fun a => Fin.ext (by
    match a with
    | ⟨0, _⟩ => show 0 + 1 * r.val = r.val; omega
    | ⟨1, _⟩ => show o + 1 * e.val = o + e.val; omega)
  rw [hy]
  refine (strip_at _ _ _ r e).trans (congrArg₂ (HAdd.hAdd : EReal → EReal → EReal) (congrArg acc hy) (Finset.sum_congr rfl fun k _ => ?_))
  refine congrArg (fun z : EReal => x0 (ix2 r k) * z) (congrArg x1 (funext fun a => Fin.ext ?_))
  match a with
  | ⟨0, _⟩ => rfl
  | ⟨1, _⟩ => show 0 + 1 * k.val = k.val; omega
  | ⟨2, _⟩ => show o + 1 * e.val = o + e.val; omega

/-- The stores of a step, the last one first. -/
abbrev stores (acc : Vec Ideal S1024x1024 .f32) (x0 : Vec Ideal S1024x4096 .bf16) (x1 : Vec Ideal S1x4096x1024 .bf16) :
    List (View.Piece (Elt Ideal) S1024x1024 .f32) :=
  [⟨rO 768 inb_S1024x1024_S1024x256_0_768, strip (View.ld acc (rO 768 inb_S1024x1024_S1024x256_0_768)) x0 (View.ld x1 (rW 768 inb_S1x4096x1024_S1x4096x256_0_0_768))⟩,
    ⟨rO 512 inb_S1024x1024_S1024x256_0_512, strip (View.ld acc (rO 512 inb_S1024x1024_S1024x256_0_512)) x0 (View.ld x1 (rW 512 inb_S1x4096x1024_S1x4096x256_0_0_512))⟩,
    ⟨rO 256 inb_S1024x1024_S1024x256_0_256, strip (View.ld acc (rO 256 inb_S1024x1024_S1024x256_0_256)) x0 (View.ld x1 (rW 256 inb_S1x4096x1024_S1x4096x256_0_0_256))⟩,
    ⟨rO 0 inb_S1024x1024_S1024x256_0_0, strip (View.ld acc (rO 0 inb_S1024x1024_S1024x256_0_0)) x0 (View.ld x1 (rW 0 inb_S1x4096x1024_S1x4096x256_0_0_0))⟩]

/-- The four strips of a step are its block. -/
theorem block_at (acc : Vec Ideal S1024x1024 .f32) (x0 : Vec Ideal S1024x4096 .bf16) (x1 : Vec Ideal S1x4096x1024 .bf16) (y : S1024x1024.Idx) :
    View.canon (stores acc x0 x1) y = entry acc x0 x1 y := by
  refine View.canon_apply_of_pieces (entry acc x0 x1) _ (fun p hp x => ?_) y (View.cover_of_tiled (stores acc x0 x1) S1024x256.size rfl y)
  rcases List.mem_cons.1 hp with rfl | hp
  · exact strip_entry acc x0 x1 768 _ _ x
  rcases List.mem_cons.1 hp with rfl | hp
  · exact strip_entry acc x0 x1 512 _ _ x
  rcases List.mem_cons.1 hp with rfl | hp
  · exact strip_entry acc x0 x1 256 _ _ x
  obtain rfl := List.mem_singleton.1 hp
  exact strip_entry acc x0 x1 0 _ _ x

variable (m : (ℓ : Loc nD τ sig) → Buf (Elt Ideal) ℓ) (c : Dev nD) (t : Fin cfg0.N)

/-- A step on the first half starts from the residual, -/
theorem step_first (h0 : t.val % 2 = 0) (y : S1024x1024.Idx) :
    (outsAt0 m c t.val t.isLt).1 y = entry (iblk m c 2 t) (iblk m c 0 t) (iblk m c 1 t) y := by
  rw [outsAt0_A m c t h0 (by omega)]
  frame_out
  rw [pay1_eq, pay4_eq, pay5_eq, pay6_eq]
  exact block_at _ _ _ y

/-- a step on the second half from what the step before left. -/
theorem step_second (h1 : t.val % 2 = 1) (y : S1024x1024.Idx) :
    (outsAt0 m c t.val t.isLt).1 y
      = entry (outsAt0 m c (t.val - 1) (Nat.lt_of_le_of_lt (Nat.sub_le _ _) t.isLt)).1 (iblk m c 0 t) (iblk m c 1 t) y := by
  by_cases h3 : t.val / 2 % 4 = 0
  · rw [outsAt0_B m c t (by omega) h1 h3 (by omega)]
    frame_out
    rw [pay10_eq, pay12_eq, pay15_eq, pay17_eq]
    exact block_at _ _ _ y
  · rw [outsAt0_C m c t (by omega) h1 h3 (by omega)]
    frame_out
    rw [pay10_eq, pay12_eq, pay15_eq, pay17_eq]
    exact block_at _ _ _ y

end Cert.KernelDownIdeal.Down

end
-- ==== Proof.DownSum.lean ====
/-
  The down projection with its residual, as a formula: the residual's entry plus a row times a column of the weights.
  The contracted axis in two halves is the whole axis.
-/
module

public import Idealize.ShloMosaic.Lib.Pointwise
public import Mathlib.Algebra.BigOperators.Fin

@[expose] public section

noncomputable section

open Idealize.ShloMosaic

namespace Down

/-- Entry `(r, n)` of `h + a w`, `w` being layer 0 of the stacked weights. -/
def value (a : (⟨2, ![16384, 8192]⟩ : Shape).Idx → EReal) (w : (⟨3, ![4, 8192, 4096]⟩ : Shape).Idx → EReal)
    (h : (⟨2, ![16384, 4096]⟩ : Shape).Idx → EReal) (r : Fin 16384) (n : Fin 4096) : EReal :=
  h (ix2 r n) + ∑ k : Fin 8192, a (ix2 r k) * w (ix3 0 k n)

/-- The two halves, one after the other. -/
theorem halves (b : EReal) (f : Fin 8192 → EReal) :
    b + ∑ k : Fin 4096, f ⟨k.val, by omega⟩ + ∑ k : Fin 4096, f ⟨4096 + k.val, by omega⟩ = b + ∑ k : Fin 8192, f k := by
  rw [add_assoc]
  exact congrArg (fun z : EReal => b + z) (Fin.sum_univ_add (a := 4096) (b := 4096) f).symm

end Down

end
-- ==== Proof.DownOut.lean ====
/-
  The array the down projection leaves.

  Point `t` of the grid works on rows `1024 (t / 8) …`, columns `1024 (t / 2 % 4) …` and half `t % 2` of the contracted
  axis; a block is written back after its second half (`second_at`), and these blocks cover the array (`result`).
-/
module

public import proofs.«01_k».proof.Proof.DownStep
public import proofs.«01_k».proof.Proof.DownSum
public import proofs.«01_k».proof.Proof.Gen.KernelDownIdeal.Value

@[expose] public section

set_option maxRecDepth 16384

noncomputable section

open Idealize.ShloMosaic Idealize.ShloMosaic.TcCoe Idealize.SL.Sem

namespace Cert.KernelDownIdeal.Down

open Cert.KernelDownIdeal Cert.KernelDownIdeal.Gen

variable (m : (ℓ : Loc nD τ sig) → Buf (Elt Ideal) ℓ) (c : Dev nD) (t : Fin cfg0.N)

/-- Which blocks point `t` takes. -/
theorem idx : ∀ t : Fin cfg0.N, win0_0.index t = ![t.val / 8, t.val % 2] ∧ win0_1.index t = ![0, t.val % 2, t.val / 2 % 4]
    ∧ win0_2.index t = ![t.val / 8, t.val / 2 % 4] ∧ win0_3.index t = ![t.val / 8, t.val / 2 % 4] :=
  (by decide +kernel : ∀ t : Fin grid0.N, _)

theorem pt_lt : t.val < 128 := lt_of_lt_of_eq t.isLt (show cfg0.N = 128 from N_0)

/-- A row, a column and a contracted index of a point's blocks, in the arrays. -/
abbrev row (r : Fin 1024) : Fin 16384 := ⟨1024 * (t.val / 8) + r.val, by have := pt_lt t; omega⟩
abbrev col (e : Fin 1024) : Fin 4096 := ⟨1024 * (t.val / 2 % 4) + e.val, by omega⟩
abbrev mid (k : Fin 4096) : Fin 8192 := ⟨4096 * (t.val % 2) + k.val, by omega⟩

/-- The three arguments. -/
abbrev argA : (⟨2, ![16384, 8192]⟩ : Shape).Idx → EReal := m ((c : Thread nD τ).loc main_arg0)
abbrev argW : (⟨3, ![4, 8192, 4096]⟩ : Shape).Idx → EReal := m ((c : Thread nD τ).loc main_arg1)
abbrev argH : (⟨2, ![16384, 4096]⟩ : Shape).Idx → EReal := m ((c : Thread nD τ).loc main_arg2)

theorem a_at (r : Fin 1024) (k : Fin 4096) : (iblk m c 0 t : Vec Ideal S1024x4096 .bf16) (ix2 r k) = argA m c (ix2 (row t r) (mid t k)) := by
  have h := pt_lt t
  blk_ext! [iblk, V, idx t]

theorem h_at (r : Fin 1024) (e : Fin 1024) : (iblk m c 2 t : Vec Ideal S1024x1024 .f32) (ix2 r e) = argH m c (ix2 (row t r) (col t e)) := by
  have h := pt_lt t
  blk_ext! [iblk, V, idx t]

/-- The weights are cast by the host, which changes no exact value. -/
theorem w_at (k : Fin 4096) (e : Fin 1024) : (iblk m c 1 t : Vec Ideal S1x4096x1024 .bf16) (ix3 0 k e) = argW m c (ix3 0 (mid t k) (col t e)) := by
  have h := pt_lt t
  have e1 : (iblk m c 1 t : Vec Ideal S1x4096x1024 .bf16) (ix3 0 k e) = (V m c main_v0 : Vec Ideal S4x8192x4096 .bf16) (ix3 0 (mid t k) (col t e)) := by
    blk_ext [iblk, idx t]
  rw [e1]
  entry_read
  pointwise []

/-- The products of point `t` at an entry of its block. -/
theorem entry_at (acc : Vec Ideal S1024x1024 .f32) (r e : Fin 1024) : entry acc (iblk m c 0 t) (iblk m c 1 t) (ix2 r e)
    = acc (ix2 r e) + ∑ k : Fin 4096, argA m c (ix2 (row t r) (mid t k)) * argW m c (ix3 0 (mid t k) (col t e)) :=
  congrArg (fun z : EReal => acc (ix2 r e) + z) (Finset.sum_congr rfl fun k _ =>
    congrArg₂ (HMul.hMul : EReal → EReal → EReal) (a_at m c t r k) (w_at m c t k e))

/-- What is written back. -/
theorem second_at (h1 : t.val % 2 = 1) (r e : Fin 1024) :
    (outsAt0 m c t.val t.isLt).1 (ix2 r e) = _root_.Down.value (argA m c) (argW m c) (argH m c) (row t r) (col t e) := by
  have hlt : t.val - 1 < cfg0.N := Nat.lt_of_le_of_lt (Nat.sub_le _ _) t.isLt
  have hp := step_first m c ⟨t.val - 1, hlt⟩ (by show (t.val - 1) % 2 = 0; omega) (ix2 r e)
  rw [entry_at, h_at] at hp
  rw [step_second m c t h1, entry_at]
  refine (congrArg (fun z : EReal => z + _) hp).trans ?_
  have er : row ⟨t.val - 1, hlt⟩ r = row t r := Fin.ext (by show 1024 * ((t.val - 1) / 8) + r.val = 1024 * (t.val / 8) + r.val; omega)
  have ec : col ⟨t.val - 1, hlt⟩ e = col t e := Fin.ext (by show 1024 * ((t.val - 1) / 2 % 4) + e.val = 1024 * (t.val / 2 % 4) + e.val; omega)
  have e0 (k : Fin 4096) : mid ⟨t.val - 1, hlt⟩ k = ⟨k.val, by omega⟩ := Fin.ext (by show 4096 * ((t.val - 1) % 2) + k.val = k.val; omega)
  have e1 (k : Fin 4096) : mid t k = ⟨4096 + k.val, by omega⟩ := Fin.ext (by show 4096 * (t.val % 2) + k.val = 4096 + k.val; omega)
  simp only [er, ec, e0, e1]
  exact _root_.Down.halves _ fun k => argA m c (ix2 (row t r) k) * argW m c (ix3 0 k (col t e))

/-- The point that writes entry `(r, n)` back. -/
theorem covered (r : Fin 16384) (n : Fin 4096) : ∃ (t : Fin cfg0.N) (y e : Fin 1024), t.val % 2 = 1 ∧ row t y = r ∧ col t e = n := by
  refine ⟨⟨8 * (r.val / 1024) + 2 * (n.val / 1024) + 1, lt_of_lt_of_eq (by omega) (show cfg0.N = 128 from N_0).symm⟩, ⟨r.val % 1024, by omega⟩, ⟨n.val % 1024, by omega⟩, ?_, Fin.ext ?_, Fin.ext ?_⟩
  · show (8 * (r.val / 1024) + 2 * (n.val / 1024) + 1) % 2 = 1; omega
  · show 1024 * ((8 * (r.val / 1024) + 2 * (n.val / 1024) + 1) / 8) + r.val % 1024 = r.val; omega
  · show 1024 * ((8 * (r.val / 1024) + 2 * (n.val / 1024) + 1) / 2 % 4) + n.val % 1024 = n.val; omega

/-- Where entry `(y, e)` of the block of point `t` lies. -/
theorem emb_at (y e : Fin 1024) : ((cfg0.win 3).blk t).view.emb (ix2 y e : S1024x1024.Idx) = (ix2 (row t y) (col t e) : S16384x4096.Idx) := by
  obtain ⟨-, -, -, hi⟩ := idx t
  funext a
  apply Fin.ext
  match a with
  | ⟨0, _⟩ =>
    show win0_3.index t (0 : Fin 2) * 1024 + 1 * y.val = 1024 * (t.val / 8) + y.val
    rw [hi]
    show t.val / 8 * 1024 + 1 * y.val = 1024 * (t.val / 8) + y.val
    omega
  | ⟨1, _⟩ =>
    show win0_3.index t (1 : Fin 2) * 1024 + 1 * e.val = 1024 * (t.val / 2 % 4) + e.val
    rw [hi]
    show t.val / 2 % 4 * 1024 + 1 * e.val = 1024 * (t.val / 2 % 4) + e.val
    omega

/-- The array the run leaves. -/
def G (i : S16384x4096.Idx) : EReal := _root_.Down.value (argA m c) (argW m c) (argH m c) (i 0) (i 1)

theorem result : (dats m 0 c).arrAt 3 cfg0.N = G m c := by
  refine (dats m 0 c).arrAt_eq_of_cover 3 (G m c) (fun t hf => ?_) (fun i => ?_)
  · have h1 := (flush0_3 t).mp hf
    rw [Value.flushed3]
    funext y
    obtain ⟨r, e, rfl⟩ : ∃ (r e : Fin 1024), y = (ix2 r e : S1024x1024.Idx) := ⟨y 0, y 1, ValueIdx.eq_ix2 y⟩
    exact (second_at m c t h1 r e).trans (congrArg (G m c) (emb_at t r e).symm)
  · obtain ⟨t, y, e, h1, hr, hn⟩ := covered (i 0) (i 1)
    refine ⟨t, (flush0_3 t).mpr h1, ?_⟩
    have hm := ((cfg0.win 3).blk t).view.emb_mem_set (ix2 y e : S1024x1024.Idx)
    rw [emb_at, hr, hn] at hm
    exact (ValueIdx.eq_ix2 i) ▸ hm

end Cert.KernelDownIdeal.Down

end
-- ==== Proof.DownRef.lean ====
/-
  The reference of the down projection, read entry by entry.
-/
module

public import proofs.«01_k».proof.Proof.DownSum
public import proofs.«01_k».proof.Proof.Gen.ReferenceDownIdeal.Run
public import Idealize.ShloMosaic.Lib.Pointwise

@[expose] public section

set_option maxRecDepth 16384

noncomputable section

open Idealize.ShloMosaic Idealize.ShloMosaic.TcCoe Idealize.SL.Sem

namespace Cert.ReferenceDownIdeal.Down

open Cert.ReferenceDownIdeal

/-- Entry `(r, n)` of the reference's result. -/
theorem result (a : FVec Ideal S16384x8192 .bf16) (w : FVec Ideal S4x8192x4096 .f32) (h : FVec Ideal S16384x4096 .f32) (i : S16384x4096.Idx) :
    addf h (Host.dotGeneral dot_S16384x8192_S8192x4096_S16384x4096_1_0_0_1_n_n none (extf .f32 a Gen.bitsLt_bf16_f32)
        (shapeCast _ (extractStridedSlice S1x8192x4096 ![0, 0, 0] w Gen.slices_S4x8192x4096_S1x8192x4096_0_0_0) Gen.shapeCasts_S1x8192x4096_S8192x4096)) i
      = _root_.Down.value a w h (i 0) (i 1) := by
  obtain ⟨r, n, rfl⟩ : ∃ (r : Fin 16384) (n : Fin 4096), i = ix2 r n := ⟨i 0, i 1, ValueIdx.eq_ix2 i⟩
  pointwise [_root_.Down.value]

end Cert.ReferenceDownIdeal.Down

end
-- ==== Proof.DownEqual.lean ====
/-
  The down projection with its residual: its frames, and the equality of the kernel's array with the reference's.
-/
module

public import proofs.«01_k».proof.Defs
public import proofs.«01_k».proof.Proof.DownOut
public import proofs.«01_k».proof.Proof.DownRef
public import proofs.«01_k».proof.Proof.Gen.KernelDown.Frame
public import proofs.«01_k».proof.Proof.Gen.KernelDownIdeal.Value
public import proofs.«01_k».proof.Proof.Gen.ReferenceDownIdeal.Run
public import Idealize.ShloMosaic.Adequacy
public import Idealize.ShloMosaic.Init

@[expose] public section

noncomputable section

namespace Cert.Proof.Down

open Idealize.ShloMosaic Idealize.ShloMosaic.TcCoe Idealize.SL.Sem

/-- The kernel ends with its arguments unchanged and every counter at zero. -/
theorem frame_kernel : Cert.quiescent_KernelDown := fun m ρ _ => Cert.KernelDown.Gen.frame m ρ

/-- So does its idealization. -/
theorem frame_ideal : Cert.quiescent_KernelDownIdeal := fun m ρ _ => Cert.KernelDownIdeal.Gen.frame m ρ

/-- So does the reference, which declares no semaphore. -/
theorem frame_reference : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

/-- The idealized kernel and the reference compute the same array. -/
theorem equal : Cert.algebraic_KernelDownIdeal_ReferenceDownIdeal := fun m ρ m' ρ' _ hagree =>
  ⟨fun c => Cert.KernelDownIdeal.Down.G m c,
    (θ_run Cert.KernelDownIdeal.defs _ _).mono (fun _ h c => ⟨(h c).1.trans (Cert.KernelDownIdeal.Down.result m c), (h c).2.2.2⟩)
      (Cert.KernelDownIdeal.Value.run_blocks (F := Ideal) m ρ),
    (θ_run Cert.ReferenceDownIdeal.defs _ _).mono (fun _ h c => ⟨(h c).1.trans (by
        rw [(hagree c).1, (hagree c).2.1, (hagree c).2.2]
        exact funext fun i => Cert.ReferenceDownIdeal.Down.result _ _ _ i), (h c).2⟩)
      (Cert.ReferenceDownIdeal.Value.run (F := Ideal) m' ρ')⟩

end Cert.Proof.Down

end
-- ==== Proof.InProduct.lean ====
/-
  The second call of the even input projection: the casted rows times the scaled weights, each row times its factor.

  Point `t` of its grid works on rows `1024 (t / 14) …` and columns `1024 (t % 14) …`, over the whole contracted axis.
-/
module

public import proofs.«01_k».proof.Proof.NormSum
public import proofs.«01_k».proof.Proof.Gen.KernelInIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelInIdeal.In

open Cert.KernelInIdeal Cert.KernelInIdeal.Gen

/-- What a step leaves at an entry of its block. -/
theorem step_at (h : Vec Ideal S1024x4096 .bf16) (q : Vec Ideal S1024x128 .f32) (w : Vec Ideal S1x4096x1024 .bf16) (r e : Fin 1024) :
    out1_3 h q w (ix2 r e) = (∑ k : Fin 4096, h (ix2 r k) * w (ix3 0 k e)) * Ideal.rsqrt (q (ix2 r 0) * Norm.perWidth + Norm.eps) := by
  have e1 : out1_3 h q w = k1_pay1 h w (View.ld q r1_2) := by frame_out [out1_3]
  rw [e1, View.ld_unit]
  pointwise [k1_pay1]

variable (V : (c : Dev nD) → (b : Ref sig .tc) → Buf (Elt Ideal) ((c : Thread nD τ).loc b)) (c : Dev nD) (t : Fin cfg1.N)

theorem idx1 : ∀ t : Fin cfg1.N, win1_0.index t = ![t.val / 14, 0] ∧ win1_1.index t = ![t.val / 14, 0]
    ∧ win1_2.index t = ![0, 0, t.val % 14] ∧ win1_3.index t = ![t.val / 14, t.val % 14] :=
  (by decide +kernel : ∀ t : Fin grid1.N, _)

theorem pt1_lt : t.val < 224 := lt_of_lt_of_eq t.isLt (show cfg1.N = 224 from N_1)

/-- A row and a column of a point's blocks, in the arrays. -/
abbrev row1 (r : Fin 1024) : Fin 16384 := ⟨1024 * (t.val / 14) + r.val, by have := pt1_lt t; omega⟩
abbrev col1 (e : Fin 1024) : Fin 14336 := ⟨1024 * (t.val % 14) + e.val, by omega⟩

/-- The three arrays the call is given. -/
abbrev inH : (⟨2, ![16384, 4096]⟩ : Shape).Idx → EReal := V c main_v9_0
abbrev inQ : (⟨2, ![16384, 128]⟩ : Shape).Idx → EReal := V c main_v9_1
abbrev inW : (⟨3, ![2, 4096, 14336]⟩ : Shape).Idx → EReal := V c main_v7

theorem h_at (r : Fin 1024) (k : Fin 4096) : (iblk1 V c 0 t : Vec Ideal S1024x4096 .bf16) (ix2 r k) = inH V c (ix2 (row1 t r) k) := by
  have h := pt1_lt t
  blk_ext [iblk1, idx1 t]

theorem q_at (r : Fin 1024) (l : Fin 128) : (iblk1 V c 1 t : Vec Ideal S1024x128 .f32) (ix2 r l) = inQ V c (ix2 (row1 t r) l) := by
  have h := pt1_lt t
  blk_ext [iblk1, idx1 t]

theorem w_at (k : Fin 4096) (e : Fin 1024) : (iblk1 V c 2 t : Vec Ideal S1x4096x1024 .bf16) (ix3 0 k e) = inW V c (ix3 0 k (col1 t e)) := by
  have h := pt1_lt t
  blk_ext [iblk1, idx1 t]

theorem covered1 (r : Fin 16384) (n : Fin 14336) : ∃ (t : Fin cfg1.N) (y e : Fin 1024), row1 t y = r ∧ col1 t e = n := by
  refine ⟨⟨14 * (r.val / 1024) + n.val / 1024, lt_of_lt_of_eq (by omega) (show cfg1.N = 224 from N_1).symm⟩, ⟨r.val % 1024, by omega⟩, ⟨n.val % 1024, by omega⟩, Fin.ext ?_, Fin.ext ?_⟩
  · show 1024 * ((14 * (r.val / 1024) + n.val / 1024) / 14) + r.val % 1024 = r.val; omega
  · show 1024 * ((14 * (r.val / 1024) + n.val / 1024) % 14) + n.val % 1024 = n.val; omega

theorem emb1 (y e : Fin 1024) : ((cfg1.win 3).blk t).view.emb (ix2 y e : S1024x1024.Idx) = (ix2 (row1 t y) (col1 t e) : S16384x14336.Idx) := by
  obtain ⟨-, -, -, hi⟩ := idx1 t
  funext a
  apply Fin.ext
  match a with
  | ⟨0, _⟩ =>
    show win1_3.index t (0 : Fin 2) * 1024 + 1 * y.val = 1024 * (t.val / 14) + y.val
    rw [hi]
    show t.val / 14 * 1024 + 1 * y.val = 1024 * (t.val / 14) + y.val
    omega
  | ⟨1, _⟩ =>
    show win1_3.index t (1 : Fin 2) * 1024 + 1 * e.val = 1024 * (t.val % 14) + e.val
    rw [hi]
    show t.val % 14 * 1024 + 1 * e.val = 1024 * (t.val % 14) + e.val
    omega

/-- The array the call leaves. -/
def product (i : S16384x14336.Idx) : EReal :=
  (∑ k : Fin 4096, inH V c (ix2 (i 0) k) * inW V c (ix3 0 k (i 1))) * Ideal.rsqrt (inQ V c (ix2 (i 0) 0) * Norm.perWidth + Norm.eps)

theorem block_at (r e : Fin 1024) : out1_3 (iblk1 V c 0 t) (iblk1 V c 1 t) (iblk1 V c 2 t) (ix2 r e) = product V c (ix2 (row1 t r) (col1 t e)) :=
  (step_at _ _ _ r e).trans (congrArg₂ (HMul.hMul : EReal → EReal → EReal)
    (Finset.sum_congr rfl fun k _ => congrArg₂ (HMul.hMul : EReal → EReal → EReal) (h_at V c t r k) (w_at V c t k e))
    (congrArg (fun z : EReal => Ideal.rsqrt (z * Norm.perWidth + Norm.eps)) (q_at V c t r 0)))

theorem product_result : (dat1 V c).arrAt 3 cfg1.N = product V c := by
  refine (dat1 V c).arrAt_eq_of_cover 3 (product V c) (fun t _ => ?_) (fun i => ?_)
  · show (cfg1.win 3).cut (grid1.coords t) ((dat1 V c).after 3 t) = _
    rw [after1_3]
    funext y
    obtain ⟨r, e, rfl⟩ : ∃ (r e : Fin 1024), y = (ix2 r e : S1024x1024.Idx) := ⟨y 0, y 1, ValueIdx.eq_ix2 y⟩
    exact (block_at V c t r e).trans (congrArg (product V c) (emb1 t r e).symm)
  · obtain ⟨r, n, rfl⟩ : ∃ (r : Fin 16384) (n : Fin 14336), i = (ix2 r n : S16384x14336.Idx) := ⟨i 0, i 1, ValueIdx.eq_ix2 i⟩
    obtain ⟨t, y, e, rfl, rfl⟩ := covered1 r n
    exact ⟨t, flush1_3 t, emb1 t y e ▸ ((cfg1.win 3).blk t).view.emb_mem_set (ix2 y e : S1024x1024.Idx)⟩

end Cert.KernelInIdeal.In

end
-- ==== Proof.InOut.lean ====
/-
  The even input projection's array, entry by entry: the host's preparations, then the two calls.
-/
module

public import proofs.«01_k».proof.Proof.InCast
public import proofs.«01_k».proof.Proof.InProduct

@[expose] public section

set_option maxRecDepth 16384

noncomputable section

open Idealize.ShloMosaic Idealize.ShloMosaic.TcCoe Idealize.SL.Sem

namespace Cert.KernelInIdeal.In

open Cert.KernelInIdeal Cert.KernelInIdeal.Gen

variable (m : (ℓ : Loc nD τ sig) → Buf (Elt Ideal) ℓ) (ρ : Dev nD → PrngReg) (c : Dev nD)

/-- The three arguments: the rows, the norms' scales, the stacked weights. -/
abbrev argX : (⟨3, ![4, 4096, 4096]⟩ : Shape).Idx → EReal := m ((c : Thread nD τ).loc main_arg0)
abbrev argG : (⟨2, ![4, 4096]⟩ : Shape).Idx → EReal := m ((c : Thread nD τ).loc main_arg1)
abbrev argW : (⟨3, ![2, 4096, 14376]⟩ : Shape).Idx → EReal := m ((c : Thread nD τ).loc main_arg2)

/-- The host lays the batches one after the other. -/
theorem host_rows (r : Fin 16384) (k : Fin 4096) : rows (V1 m ρ) c (ix2 r k) = argX m c (ix3 ⟨r.val / 4096, by omega⟩ ⟨r.val % 4096, by omega⟩ k) := by
  show (StableHlo.after hostOps0 (W0 m ρ c) main_v8 : Vec Ideal S16384x4096 .f32) (ix2 r k) = _
  entry_read
  pointwise []

/-- The column of the weights a column of the result is computed from: eight columns in the middle are left out. -/
def pick (n : Fin 14336) : Fin 14376 := ⟨if n.val < 6144 then n.val else n.val + 8, by split <;> omega⟩

/-- The host scales the weights of layer 0 by the norm's. -/
theorem host_weights (k : Fin 4096) (n : Fin 14336) :
    (V1 m ρ c main_v7 : Vec Ideal S2x4096x14336 .bf16) (ix3 0 k n) = argW m c (ix3 0 k (pick n)) * argG m c (ix2 0 k) := by
  show (StableHlo.after hostOps0 (W0 m ρ c) main_v7 : Vec Ideal S2x4096x14336 .bf16) (ix3 0 k n) = _
  entry_read
  pointwise []
  refine congrArg (fun z : EReal => z * argG m c (ix2 0 k)) ?_
  by_cases h : n.val < 6144
  · rw [dif_pos h]
    exact congrArg (fun j => argW m c (ix3 0 k j)) (Fin.ext (if_pos h).symm)
  · rw [dif_neg h]
    exact congrArg (fun j => argW m c (ix3 0 k j)) (Fin.ext ((show 6152 + (n.val - 6144) = n.val + 8 by omega).trans (if_neg h).symm))

/-- What the second call is given: the first call's two arrays, and the weights as the host left them. -/
theorem given_rows : inH (V2 m ρ) c = rows (V1 m ρ) c := (W2_arr m ρ c 1).trans (cast_result (V1 m ρ) c)
theorem given_sums : inQ (V2 m ρ) c = sums (V1 m ρ) c := (W2_arr m ρ c 2).trans (sums_result (V1 m ρ) c)
theorem given_weights : inW (V2 m ρ) c = V1 m ρ c main_v7 := W2_of_ne m ρ c main_v7 (by decide)

/-- The array the run leaves. -/
def G (i : S16384x14336.Idx) : EReal :=
  Norm.entry (fun k => argX m c (ix3 ⟨(i 0).val / 4096, by have := (i 0).isLt; show _ < 4; change (i 0).val < 16384 at this; omega⟩ ⟨(i 0).val % 4096, by show _ < 4096; omega⟩ k))
    (fun k => argG m c (ix2 0 k)) (fun k => argW m c (ix3 0 k (pick (i 1))))

theorem result : (dat1 (V2 m ρ) c).arrAt 3 cfg1.N = G m c := by
  rw [product_result]
  funext i
  obtain ⟨r, n, rfl⟩ : ∃ (r : Fin 16384) (n : Fin 14336), i = (ix2 r n : S16384x14336.Idx) := ⟨i 0, i 1, ValueIdx.eq_ix2 i⟩
  refine Eq.trans ?_ (Norm.scaled_last _ _ _)
  unfold product
  rw [given_rows, given_sums, given_weights]
  refine congrArg₂ (HMul.hMul : EReal → EReal → EReal) (Finset.sum_congr rfl fun k _ => ?_) (congrArg (fun f => Ideal.rsqrt (Norm.squares f * Norm.perWidth + Norm.eps)) (funext fun k => host_rows m ρ c r k))
  exact congrArg₂ (HMul.hMul : EReal → EReal → EReal) (host_rows m ρ c r k) (host_weights m ρ c k n)

end Cert.KernelInIdeal.In

end
-- ==== Proof.InRef.lean ====
/-
  The reference of the even input projection, read entry by entry.
-/
module

public import proofs.«01_k».proof.Proof.NormSum
public import proofs.«01_k».proof.Proof.Gen.ReferenceInIdeal.Run
public import Idealize.ShloMosaic.Lib.Pointwise

@[expose] public section

set_option maxRecDepth 16384

noncomputable section

open Idealize.ShloMosaic Idealize.ShloMosaic.TcCoe Idealize.SL.Sem

namespace Cert.ReferenceInIdeal.In

open Cert.ReferenceInIdeal Cert.ReferenceInIdeal.Gen

variable (x : FVec Ideal S4x4096x4096 .f32) (g : FVec Ideal S4x4096 .f32) (w : FVec Ideal S2x4096x14376 .f32)

/-- The normalised rows times all columns of the weights. -/
def all : FVec Ideal S4x4096x14376 .f32 :=
  Host.dotGeneral dot_S4x4096x4096_S4096x14376_S4x4096x14376_2_0_01_1_n_n none (mulf (mulf x
      (broadcastInDim S4x4096x4096 ![0, 1, 2] bcast_S4x4096x1_S4x4096x4096_0_1_2 (Host.rsqrt (addf
        (Host.divf (broadcastInDim S4x4096x1 ![0, 1] bcast_S4x4096_S4x4096x1_0_1 (Host.reduceAdd (mulf x x) (constant S_ .f32 0x00000000#32) reducesTo_S4x4096x4096_S4x4096_d2 h_S_)) (broadcastInDim S4x4096x1 ![] bcast_S_S4x4096x1 (constant S_ .f32 0x45800000#32)))
        (broadcastInDim S4x4096x1 ![] bcast_S_S4x4096x1 (constant S_ .f32 0x358637BD#32))))))
      (broadcastInDim S4x4096x4096 ![0, 1, 2] bcast_S1x1x4096_S4x4096x4096_0_1_2 (broadcastInDim S1x1x4096 ![2] bcast_S4096_S1x1x4096_2 (shapeCast _ (extractStridedSlice S1x4096 ![0, 0] g slices_S4x4096_S1x4096_0_0) shapeCasts_S1x4096_S4096))))
    (shapeCast _ (extractStridedSlice S1x4096x14376 ![0, 0, 0] w slices_S2x4096x14376_S1x4096x14376_0_0_0) shapeCasts_S1x4096x14376_S4096x14376)

theorem all_at (b : Fin 4) (r : Fin 4096) (n : Fin 14376) :
    all x g w (ix3 b r n) = Norm.entry (fun k => x (ix3 b r k)) (fun k => g (ix2 0 k)) (fun k => w (ix3 0 k n)) := by
  pointwise [all, Norm.entry, Norm.factor, Norm.squares]

/-- Entry `(r, n)` of the reference's result: the columns it keeps, the batches one after the other. -/
theorem result (r : Fin 16384) (n : Fin 14336) :
    (shapeCast S16384x14336 (concatenate S4x4096x14336 2
      [⟨S4x4096x6144, (extractStridedSlice S4x4096x6144 ![0, 0, 0] (all x g w) slices_S4x4096x14376_S4x4096x6144_0_0_0)⟩,
      ⟨S4x4096x8192, (extractStridedSlice S4x4096x8192 ![0, 0, 6152] (all x g w) slices_S4x4096x14376_S4x4096x8192_0_0_6152)⟩] concatenates_S4x4096x6144_S4x4096x8192_S4x4096x14336_d2) shapeCasts_S4x4096x14336_S16384x14336 : FVec Ideal S16384x14336 .f32) (ix2 r n)
      = Norm.entry (fun k => x (ix3 ⟨r.val / 4096, by omega⟩ ⟨r.val % 4096, by omega⟩ k)) (fun k => g (ix2 0 k))
          (fun k => w (ix3 0 k ⟨if n.val < 6144 then n.val else n.val + 8, by split <;> omega⟩)) := by
  pointwise []
  simp only [all_at]
  by_cases h : n.val < 6144
  · simp only [if_pos h, dif_pos h]
  · have e : 6152 + (n.val - 6144) = n.val + 8 := by omega
    simp only [if_neg h, dif_neg h, e]

end Cert.ReferenceInIdeal.In

end
-- ==== Proof.InRun.lean ====
/-
  The run of the even input projection: its two calls one after the other, and what the result's buffer holds at the end.
-/
module

public import proofs.«01_k».proof.Proof.Gen.KernelInIdeal.Frame

@[expose] public section

set_option maxRecDepth 16384

noncomputable section

namespace Cert.KernelInIdeal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelInIdeal Cert.KernelInIdeal.Gen

variable {F : FTy → Type} [FloatOps F]

variable (m : (ℓ : Loc nD τ sig) → Buf (Elt F) ℓ) (ρ : Dev nD → PrngReg)

-- the launch's implicit arguments are found by unfolding plain definitions in a metavariable's type
set_option backward.isDefEq.respectTransparency.types false in
/-- Every execution ends with each buffer outside the calls' own at the contents the last boundary names. -/
theorem ends : θ_run defs (onTc (τ := τ) (main (F := F))) ⟨m, fun _ => 0, ρ⟩
    (fun r => ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The result is the array the second call leaves, and the arguments are as they were. -/
theorem run : θ_run defs (onTc (τ := τ) (main (F := F))) ⟨m, fun _ => 0, ρ⟩ (fun r => ∀ c : Dev nD,
      r.2.mem ((c.tc : Thread nD τ).loc main_v10) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v10 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (ends m ρ)

end Cert.KernelInIdeal.In

end
-- ==== Proof.InEqual.lean ====
/-
  The even input projection: its frames, and the equality of the kernel's array with the reference's.
-/
module

public import proofs.«01_k».proof.Defs
public import proofs.«01_k».proof.Proof.InOut
public import proofs.«01_k».proof.Proof.InRef
public import proofs.«01_k».proof.Proof.InRun
public import proofs.«01_k».proof.Proof.Gen.KernelIn.Frame
public import Idealize.ShloMosaic.Adequacy
public import Idealize.ShloMosaic.Init

@[expose] public section

noncomputable section

namespace Cert.Proof.In

open Idealize.ShloMosaic Idealize.ShloMosaic.TcCoe Idealize.SL.Sem

/-- The kernel ends with its arguments unchanged and every counter at zero. -/
theorem frame_kernel : Cert.quiescent_KernelIn := fun m ρ _ => Cert.KernelIn.Gen.frame m ρ

/-- So does its idealization. -/
theorem frame_ideal : Cert.quiescent_KernelInIdeal := fun m ρ _ => Cert.KernelInIdeal.Gen.frame m ρ

/-- So does the reference, which declares no semaphore. -/
theorem frame_reference : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- The idealized kernel and the reference compute the same array. -/
theorem equal : Cert.algebraic_KernelInIdeal_ReferenceInIdeal := fun m ρ m' ρ' _ hagree =>
  ⟨fun c => Cert.KernelInIdeal.In.G m c,
    (θ_run Cert.KernelInIdeal.defs _ _).mono (fun _ h c => ⟨(h c).1.trans (Cert.KernelInIdeal.In.result m ρ c), (h c).2⟩)
      (Cert.KernelInIdeal.In.run (F := Ideal) m ρ),
    (θ_run Cert.ReferenceInIdeal.defs _ _).mono (fun _ h c => ⟨(h c).1.trans (by
        rw [(hagree c).1, (hagree c).2.1, (hagree c).2.2]
        funext i
        obtain ⟨r, n, rfl⟩ : ∃ (r : Fin 16384) (n : Fin 14336), i = (ix2 r n : Cert.ReferenceInIdeal.S16384x14336.Idx) := ⟨i 0, i 1, ValueIdx.eq_ix2 i⟩
        exact Cert.ReferenceInIdeal.In.result _ _ _ r n), (h c).2⟩)
      (Cert.ReferenceInIdeal.Value.run (F := Ideal) m' ρ')⟩

end Cert.Proof.In

end
-- ==== Proof.In2Calls.lean ====
/-
  The two calls of the odd input projection.

  A step of either does what a step of the even projection's does (`cast_eq`, `squares_eq`, `step_eq`); the grids differ.
  The first call takes the rows 256 at a time; point `t` of the second works on rows `1024 (t / 18) …` and columns
  `1024 (t % 18) …`.
-/
module

public import proofs.«01_k».proof.Proof.InCast
public import proofs.«01_k».proof.Proof.InProduct
public import proofs.«01_k».proof.Proof.Gen.KernelIn2Ideal.Frame

@[expose] public section

set_option maxRecDepth 16384

noncomputable section

open Idealize.ShloMosaic Idealize.ShloMosaic.TcCoe Idealize.SL.Sem

namespace Cert.KernelIn2Ideal.In

open Cert.KernelIn2Ideal Cert.KernelIn2Ideal.Gen

theorem cast_eq : out0_1 (F := Ideal) = KernelInIdeal.Gen.out0_1 := rfl
theorem squares_eq : out0_2 (F := Ideal) = KernelInIdeal.Gen.out0_2 := rfl
theorem step_eq : out1_3 (F := Ideal) = KernelInIdeal.Gen.out1_3 := rfl

variable (V : (c : Dev nD) → (b : Ref sig .tc) → Buf (Elt Ideal) ((c : Thread nD τ).loc b)) (c : Dev nD)

section First

variable (t : Fin cfg0.N)

theorem idx0 : ∀ t : Fin cfg0.N, win0_0.index t = ![t.val, 0] ∧ win0_1.index t = ![t.val, 0] ∧ win0_2.index t = ![t.val, 0] :=
  (by decide +kernel : ∀ t : Fin grid0.N, _)

/-- The rows the call is given, and the sums of their squares. -/
abbrev rows : (⟨2, ![16384, 4096]⟩ : Shape).Idx → EReal := V c main_v5
def sums (i : S16384x128.Idx) : EReal := Norm.squares fun k => rows V c (ix2 (i 0) k)

/-- Row `r` of a point's blocks is row `row t r` of the arrays: the same as in the even projection's first call. -/
abbrev row (r : Fin 256) : Fin 16384 := KernelInIdeal.In.row0 t r

theorem rows_at (r : Fin 256) (k : Fin 4096) : (iblk0 V c 0 t : Vec Ideal S256x4096 .f32) (ix2 r k) = rows V c (ix2 (row t r) k) := by
  have h := KernelInIdeal.In.pt0_lt t
  blk_ext [iblk0, idx0 t]

theorem cast_emb (y : Fin 256) (k : Fin 4096) : ((cfg0.win 1).blk t).view.emb (ix2 y k : S256x4096.Idx) = (ix2 (row t y) k : S16384x4096.Idx) := by
  have hi := (idx0 t).2.1
  refine funext fun a => Fin.ext ?_
  match a with
  | ⟨0, _⟩ =>
    show win0_1.index t (0 : Fin 2) * 256 + 1 * y.val = 256 * t.val + y.val
    rw [hi]; show t.val * 256 + 1 * y.val = 256 * t.val + y.val; omega
  | ⟨1, _⟩ =>
    show win0_1.index t (1 : Fin 2) * 4096 + 1 * k.val = k.val
    rw [hi]; show 0 * 4096 + 1 * k.val = k.val; omega

theorem sums_emb (y : Fin 256) (l : Fin 128) : ((cfg0.win 2).blk t).view.emb (ix2 y l : S256x128.Idx) = (ix2 (row t y) l : S16384x128.Idx) := by
  have hi := (idx0 t).2.2
  refine funext fun a => Fin.ext ?_
  match a with
  | ⟨0, _⟩ =>
    show win0_2.index t (0 : Fin 2) * 256 + 1 * y.val = 256 * t.val + y.val
    rw [hi]; show t.val * 256 + 1 * y.val = 256 * t.val + y.val; omega
  | ⟨1, _⟩ =>
    show win0_2.index t (1 : Fin 2) * 128 + 1 * l.val = l.val
    rw [hi]; show 0 * 128 + 1 * l.val = l.val; omega

/-- What the call writes back at a point, at an entry of its blocks. -/
theorem cast_flushed (r : Fin 256) (k : Fin 4096) : (dat0 V c).flushed 1 t (ix2 r k : S256x4096.Idx) = rows V c (ix2 (row t r) k) := by
  show (dat0 V c).after 1 t (ix2 r k : S256x4096.Idx) = _
  rw [after0_1, cast_eq]
  exact (KernelInIdeal.In.cast_at _ r k).trans (rows_at V c t r k)

theorem sums_flushed (r : Fin 256) (l : Fin 128) : (dat0 V c).flushed 2 t (ix2 r l : S256x128.Idx) = sums V c (ix2 (row t r) l) := by
  show (dat0 V c).after 2 t (ix2 r l : S256x128.Idx) = _
  rw [after0_2, squares_eq]
  exact (KernelInIdeal.In.squares_at _ r l).trans (congrArg Norm.squares (funext fun k => rows_at V c t r k))

theorem cast_result : (dat0 V c).arrAt 1 cfg0.N = rows V c := by
  refine (dat0 V c).arrAt_eq_of_cover 1 (rows V c) (fun t _ => funext fun y => ?_) (fun i => ?_)
  · obtain ⟨r, k, rfl⟩ : ∃ (r : Fin 256) (k : Fin 4096), y = (ix2 r k : S256x4096.Idx) := ⟨y 0, y 1, ValueIdx.eq_ix2 y⟩
    exact (cast_flushed V c t r k).trans (congrArg (rows V c) (cast_emb t r k).symm)
  · obtain ⟨r, k, rfl⟩ : ∃ (r : Fin 16384) (k : Fin 4096), i = (ix2 r k : S16384x4096.Idx) := ⟨i 0, i 1, ValueIdx.eq_ix2 i⟩
    obtain ⟨t, y, rfl⟩ := KernelInIdeal.In.covered0 r
    exact ⟨t, flush0_1 t, cast_emb t y k ▸ ((cfg0.win 1).blk t).view.emb_mem_set (ix2 y k : S256x4096.Idx)⟩

theorem sums_result : (dat0 V c).arrAt 2 cfg0.N = sums V c := by
  refine (dat0 V c).arrAt_eq_of_cover 2 (sums V c) (fun t _ => funext fun y => ?_) (fun i => ?_)
  · obtain ⟨r, l, rfl⟩ : ∃ (r : Fin 256) (l : Fin 128), y = (ix2 r l : S256x128.Idx) := ⟨y 0, y 1, ValueIdx.eq_ix2 y⟩
    exact (sums_flushed V c t r l).trans (congrArg (sums V c) (sums_emb t r l).symm)
  · obtain ⟨r, l, rfl⟩ : ∃ (r : Fin 16384) (l : Fin 128), i = (ix2 r l : S16384x128.Idx) := ⟨i 0, i 1, ValueIdx.eq_ix2 i⟩
    obtain ⟨t, y, rfl⟩ := KernelInIdeal.In.covered0 r
    exact ⟨t, flush0_2 t, sums_emb t y l ▸ ((cfg0.win 2).blk t).view.emb_mem_set (ix2 y l : S256x128.Idx)⟩

end First

section Second

variable (t : Fin cfg1.N)

theorem idx1 : ∀ t : Fin cfg1.N, win1_0.index t = ![t.val / 18, 0] ∧ win1_1.index t = ![t.val / 18, 0]
    ∧ win1_2.index t = ![0, 0, t.val % 18] ∧ win1_3.index t = ![t.val / 18, t.val % 18] :=
  (by decide +kernel : ∀ t : Fin grid1.N, _)

theorem pt1_lt : t.val < 288 := lt_of_lt_of_eq t.isLt (show cfg1.N = 288 from N_1)

/-- A row and a column of a point's blocks, in the arrays. -/
abbrev row1 (r : Fin 1024) : Fin 16384 := ⟨1024 * (t.val / 18) + r.val, by have := pt1_lt t; omega⟩
abbrev col1 (e : Fin 1024) : Fin 18432 := ⟨1024 * (t.val % 18) + e.val, by omega⟩

/-- The three arrays the call is given. -/
abbrev inH : (⟨2, ![16384, 4096]⟩ : Shape).Idx → EReal := V c main_v6_0
abbrev inQ : (⟨2, ![16384, 128]⟩ : Shape).Idx → EReal := V c main_v6_1
abbrev inW : (⟨3, ![2, 4096, 18432]⟩ : Shape).Idx → EReal := V c main_v7

/-- The array the call leaves. -/
def product (i : S16384x18432.Idx) : EReal :=
  (∑ k : Fin 4096, inH V c (ix2 (i 0) k) * inW V c (ix3 0 k (i 1)))
    * Ideal.rsqrt (inQ V c (ix2 (i 0) 0) * Norm.perWidth + Norm.eps)

theorem product_flushed (r e : Fin 1024) : (dat1 V c).flushed 3 t (ix2 r e : S1024x1024.Idx) = product V c (ix2 (row1 t r) (col1 t e)) := by
  show (dat1 V c).after 3 t (ix2 r e : S1024x1024.Idx) = _
  rw [after1_3, step_eq]
  have hp := pt1_lt t
  have h (k : Fin 4096) : (iblk1 V c 0 t : Vec Ideal S1024x4096 .bf16) (ix2 r k) = inH V c (ix2 (row1 t r) k) := by
    blk_ext [iblk1, idx1 t]
  have q : (iblk1 V c 1 t : Vec Ideal S1024x128 .f32) (ix2 r 0) = inQ V c (ix2 (row1 t r) 0) := by
    blk_ext [iblk1, idx1 t]
  have w (k : Fin 4096) : (iblk1 V c 2 t : Vec Ideal S1x4096x1024 .bf16) (ix3 0 k e) = inW V c (ix3 0 k (col1 t e)) := by
    blk_ext [iblk1, idx1 t]
  exact (KernelInIdeal.In.step_at _ _ _ r e).trans (congrArg₂ (HMul.hMul : EReal → EReal → EReal)
    (Finset.sum_congr rfl fun k _ => congrArg₂ (HMul.hMul : EReal → EReal → EReal) (h k) (w k))
    (congrArg (fun z : EReal => Ideal.rsqrt (z * Norm.perWidth + Norm.eps)) q))

theorem product_emb (y e : Fin 1024) : ((cfg1.win 3).blk t).view.emb (ix2 y e : S1024x1024.Idx) = (ix2 (row1 t y) (col1 t e) : S16384x18432.Idx) := by
  have hi := (idx1 t).2.2.2
  refine funext fun a => Fin.ext ?_
  match a with
  | ⟨0, _⟩ =>
    show win1_3.index t (0 : Fin 2) * 1024 + 1 * y.val = 1024 * (t.val / 18) + y.val
    rw [hi]; show t.val / 18 * 1024 + 1 * y.val = 1024 * (t.val / 18) + y.val; omega
  | ⟨1, _⟩ =>
    show win1_3.index t (1 : Fin 2) * 1024 + 1 * e.val = 1024 * (t.val % 18) + e.val
    rw [hi]; show t.val % 18 * 1024 + 1 * e.val = 1024 * (t.val % 18) + e.val; omega

theorem covered1 (r : Fin 16384) (n : Fin 18432) : ∃ (t : Fin cfg1.N) (y e : Fin 1024), row1 t y = r ∧ col1 t e = n := by
  refine ⟨⟨18 * (r.val / 1024) + n.val / 1024, lt_of_lt_of_eq (by omega) (show cfg1.N = 288 from N_1).symm⟩, ⟨r.val % 1024, by omega⟩, ⟨n.val % 1024, by omega⟩, Fin.ext ?_, Fin.ext ?_⟩
  · show 1024 * ((18 * (r.val / 1024) + n.val / 1024) / 18) + r.val % 1024 = r.val; omega
  · show 1024 * ((18 * (r.val / 1024) + n.val / 1024) % 18) + n.val % 1024 = n.val; omega

theorem product_result : (dat1 V c).arrAt 3 cfg1.N = product V c := by
  refine (dat1 V c).arrAt_eq_of_cover 3 (product V c) (fun t _ => funext fun y => ?_) (fun i => ?_)
  · obtain ⟨r, e, rfl⟩ : ∃ (r e : Fin 1024), y = (ix2 r e : S1024x1024.Idx) := ⟨y 0, y 1, ValueIdx.eq_ix2 y⟩
    exact (product_flushed V c t r e).trans (congrArg (product V c) (product_emb t r e).symm)
  · obtain ⟨r, n, rfl⟩ : ∃ (r : Fin 16384) (n : Fin 18432), i = (ix2 r n : S16384x18432.Idx) := ⟨i 0, i 1, ValueIdx.eq_ix2 i⟩
    obtain ⟨t, y, e, rfl, rfl⟩ := covered1 r n
    exact ⟨t, flush1_3 t, product_emb t y e ▸ ((cfg1.win 3).blk t).view.emb_mem_set (ix2 y e : S1024x1024.Idx)⟩

end Second

end Cert.KernelIn2Ideal.In

end
-- ==== Proof.In2Out.lean ====
/-
  The odd input projection's array, entry by entry: the host's preparations, then the two calls.
-/
module

public import proofs.«01_k».proof.Proof.In2Calls

@[expose] public section

set_option maxRecDepth 16384

noncomputable section

open Idealize.ShloMosaic Idealize.ShloMosaic.TcCoe Idealize.SL.Sem

namespace Cert.KernelIn2Ideal.In

open Cert.KernelIn2Ideal Cert.KernelIn2Ideal.Gen

variable (m : (ℓ : Loc nD τ sig) → Buf (Elt Ideal) ℓ) (ρ : Dev nD → PrngReg) (c : Dev nD)

/-- The three arguments: the rows, the norms' scales, the stacked weights. -/
abbrev argX : (⟨3, ![4, 4096, 4096]⟩ : Shape).Idx → EReal := m ((c : Thread nD τ).loc main_arg0)
abbrev argG : (⟨2, ![4, 4096]⟩ : Shape).Idx → EReal := m ((c : Thread nD τ).loc main_arg1)
abbrev argW : (⟨3, ![2, 4096, 18560]⟩ : Shape).Idx → EReal := m ((c : Thread nD τ).loc main_arg2)

/-- The host lays the batches one after the other. -/
theorem host_rows (r : Fin 16384) (k : Fin 4096) : rows (V1 m ρ) c (ix2 r k) = argX m c (ix3 ⟨r.val / 4096, by omega⟩ ⟨r.val % 4096, by omega⟩ k) := by
  show (StableHlo.after hostOps0 (W0 m ρ c) main_v5 : Vec Ideal S16384x4096 .f32) (ix2 r k) = _
  entry_read
  pointwise []

/-- The host scales the weights by the norms' odd rows; layer 0 takes row 1. -/
theorem host_scaled (k : Fin 4096) (n : Fin 18560) :
    (V1 m ρ c main_v4 : Vec Ideal S2x4096x18560 .bf16) (ix3 0 k n) = argW m c (ix3 0 k n) * argG m c (ix2 1 k) := by
  show (StableHlo.after hostOps0 (W0 m ρ c) main_v4 : Vec Ideal S2x4096x18560 .bf16) (ix3 0 k n) = _
  entry_read
  pointwise []

/-- Between the calls the host keeps the first 18432 columns. -/
theorem host_weights (k : Fin 4096) (n : Fin 18432) :
    (V3 m ρ c main_v7 : Vec Ideal S2x4096x18432 .bf16) (ix3 0 k n) = argW m c (ix3 0 k ⟨n.val, by omega⟩) * argG m c (ix2 1 k) := by
  have e : (V3 m ρ c main_v7 : Vec Ideal S2x4096x18432 .bf16) (ix3 0 k n) = (V2 m ρ c main_v4 : Vec Ideal S2x4096x18560 .bf16) (ix3 0 k ⟨n.val, by omega⟩) := by
    show (StableHlo.after hostOps1 (W2 m ρ c) main_v7 : Vec Ideal S2x4096x18432 .bf16) (ix3 0 k n) = _
    entry_read
    pointwise []
  rw [e, show V2 m ρ c main_v4 = V1 m ρ c main_v4 from W2_of_ne m ρ c main_v4 (by decide)]
  exact host_scaled m ρ c k _

/-- What the second call is given of the first: its two arrays. -/
theorem given_rows : inH (V3 m ρ) c = rows (V1 m ρ) c :=
  (W3_of m ρ c main_v6_0 (by decide)).trans ((W2_arr m ρ c 1).trans (cast_result (V1 m ρ) c))
theorem given_sums : inQ (V3 m ρ) c = sums (V1 m ρ) c :=
  (W3_of m ρ c main_v6_1 (by decide)).trans ((W2_arr m ρ c 2).trans (sums_result (V1 m ρ) c))

/-- The array the run leaves. -/
def G (i : S16384x18432.Idx) : EReal :=
  Norm.entry (fun k => argX m c (ix3 ⟨(i 0).val / 4096, by have := (i 0).isLt; show _ < 4; change (i 0).val < 16384 at this; omega⟩ ⟨(i 0).val % 4096, by show _ < 4096; omega⟩ k))
    (fun k => argG m c (ix2 1 k)) (fun k => argW m c (ix3 0 k ⟨(i 1).val, by have := (i 1).isLt; show _ < 18560; change (i 1).val < 18432 at this; omega⟩))

theorem result : (dat1 (V3 m ρ) c).arrAt 3 cfg1.N = G m c := by
  rw [product_result]
  funext i
  obtain ⟨r, n, rfl⟩ : ∃ (r : Fin 16384) (n : Fin 18432), i = (ix2 r n : S16384x18432.Idx) := ⟨i 0, i 1, ValueIdx.eq_ix2 i⟩
  refine Eq.trans ?_ (Norm.scaled_last _ _ _)
  unfold product
  rw [given_rows, given_sums]
  refine congrArg₂ (HMul.hMul : EReal → EReal → EReal) (Finset.sum_congr rfl fun k _ => ?_) (congrArg (fun f => Ideal.rsqrt (Norm.squares f * Norm.perWidth + Norm.eps)) (funext fun k => host_rows m ρ c r k))
  exact congrArg₂ (HMul.hMul : EReal → EReal → EReal) (host_rows m ρ c r k) (host_weights m ρ c k n)

end Cert.KernelIn2Ideal.In

end
-- ==== Proof.In2Ref.lean ====
/-
  The reference of the odd input projection, read entry by entry.
-/
module

public import proofs.«01_k».proof.Proof.NormSum
public import proofs.«01_k».proof.Proof.Gen.ReferenceIn2Ideal.Run
public import Idealize.ShloMosaic.Lib.Pointwise

@[expose] public section

set_option maxRecDepth 16384

noncomputable section

open Idealize.ShloMosaic Idealize.ShloMosaic.TcCoe Idealize.SL.Sem

namespace Cert.ReferenceIn2Ideal.In

open Cert.ReferenceIn2Ideal Cert.ReferenceIn2Ideal.Gen

variable (x : FVec Ideal S4x4096x4096 .f32) (g : FVec Ideal S4x4096 .f32) (w : FVec Ideal S2x4096x18560 .f32)

/-- The normalised rows times all columns of the weights. -/
def all : FVec Ideal S4x4096x18560 .f32 :=
  Host.dotGeneral dot_S4x4096x4096_S4096x18560_S4x4096x18560_2_0_01_1_n_n none (mulf (mulf x
      (broadcastInDim S4x4096x4096 ![0, 1, 2] bcast_S4x4096x1_S4x4096x4096_0_1_2 (Host.rsqrt (addf
        (Host.divf (broadcastInDim S4x4096x1 ![0, 1] bcast_S4x4096_S4x4096x1_0_1 (Host.reduceAdd (mulf x x) (constant S_ .f32 0x00000000#32) reducesTo_S4x4096x4096_S4x4096_d2 h_S_)) (broadcastInDim S4x4096x1 ![] bcast_S_S4x4096x1 (constant S_ .f32 0x45800000#32)))
        (broadcastInDim S4x4096x1 ![] bcast_S_S4x4096x1 (constant S_ .f32 0x358637BD#32))))))
      (broadcastInDim S4x4096x4096 ![0, 1, 2] bcast_S1x1x4096_S4x4096x4096_0_1_2 (broadcastInDim S1x1x4096 ![2] bcast_S4096_S1x1x4096_2 (shapeCast _ (extractStridedSlice S1x4096 ![1, 0] g slices_S4x4096_S1x4096_1_0) shapeCasts_S1x4096_S4096))))
    (shapeCast _ (extractStridedSlice S1x4096x18560 ![0, 0, 0] w slices_S2x4096x18560_S1x4096x18560_0_0_0) shapeCasts_S1x4096x18560_S4096x18560)

theorem all_at (b : Fin 4) (r : Fin 4096) (n : Fin 18560) :
    all x g w (ix3 b r n) = Norm.entry (fun k => x (ix3 b r k)) (fun k => g (ix2 1 k)) (fun k => w (ix3 0 k n)) := by
  pointwise [all, Norm.entry, Norm.factor, Norm.squares]

/-- Entry `(r, n)` of the reference's result: the first 18432 columns, the batches one after the other. -/
theorem result (r : Fin 16384) (n : Fin 18432) :
    (shapeCast S16384x18432 (extractStridedSlice S4x4096x18432 ![0, 0, 0] (all x g w) slices_S4x4096x18560_S4x4096x18432_0_0_0)
        shapeCasts_S4x4096x18432_S16384x18432 : FVec Ideal S16384x18432 .f32) (ix2 r n)
      = Norm.entry (fun k => x (ix3 ⟨r.val / 4096, by omega⟩ ⟨r.val % 4096, by omega⟩ k)) (fun k => g (ix2 1 k))
          (fun k => w (ix3 0 k ⟨n.val, by omega⟩)) := by
  pointwise []
  exact all_at x g w _ _ _

end Cert.ReferenceIn2Ideal.In

end
-- ==== Proof.In2Run.lean ====
/-
  The run of the odd input projection: its two calls, a host slice of the weights between them, and what the result's buffer holds at the end.
-/
module

public import proofs.«01_k».proof.Proof.Gen.KernelIn2Ideal.Frame

@[expose] public section

set_option maxRecDepth 16384

noncomputable section

namespace Cert.KernelIn2Ideal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIn2Ideal Cert.KernelIn2Ideal.Gen

variable {F : FTy → Type} [FloatOps F]

variable (m : (ℓ : Loc nD τ sig) → Buf (Elt F) ℓ) (ρ : Dev nD → PrngReg)

-- the launch's implicit arguments are found by unfolding plain definitions in a metavariable's type
set_option backward.isDefEq.respectTransparency.types false in
/-- Every execution ends with each buffer outside the calls' own at the contents the last boundary names. -/
theorem ends : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

/-- The result is the array the second call leaves, and the arguments are as they were. -/
theorem run : θ_run defs (onTc (τ := τ) (main (F := F))) ⟨m, fun _ => 0, ρ⟩ (fun r => ∀ c : Dev nD,
      r.2.mem ((c.tc : Thread nD τ).loc main_v8) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v8 (by decide))).trans (W4_arr m ρ c 3),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (ends m ρ)

end Cert.KernelIn2Ideal.In

end
-- ==== Proof.In2Equal.lean ====
/-
  The odd input projection: its frames, and the equality of the kernel's array with the reference's.
-/
module

public import proofs.«01_k».proof.Defs
public import proofs.«01_k».proof.Proof.In2Out
public import proofs.«01_k».proof.Proof.In2Ref
public import proofs.«01_k».proof.Proof.In2Run
public import proofs.«01_k».proof.Proof.Gen.KernelIn2.Frame
public import Idealize.ShloMosaic.Adequacy
public import Idealize.ShloMosaic.Init

@[expose] public section

noncomputable section

namespace Cert.Proof.In2

open Idealize.ShloMosaic Idealize.ShloMosaic.TcCoe Idealize.SL.Sem

/-- The kernel ends with its arguments unchanged and every counter at zero. -/
theorem frame_kernel : Cert.quiescent_KernelIn2 := fun m ρ _ => Cert.KernelIn2.Gen.frame m ρ

/-- So does its idealization. -/
theorem frame_ideal : Cert.quiescent_KernelIn2Ideal := fun m ρ _ => Cert.KernelIn2Ideal.Gen.frame m ρ

/-- So does the reference, which declares no semaphore. -/
theorem frame_reference : Cert.quiescent_ReferenceIn2Ideal := fun m ρ _ =>
  (θ_run Cert.ReferenceIn2Ideal.defs _ _).mono (fun r h => ⟨fun c => (h c).2, sem_eq_zero_of_no_sems (by decide) r.2⟩)
    (Cert.ReferenceIn2Ideal.Value.run (F := Ideal) m ρ)

/-- The idealized kernel and the reference compute the same array. -/
theorem equal : Cert.algebraic_KernelIn2Ideal_ReferenceIn2Ideal := fun m ρ m' ρ' _ hagree =>
  ⟨fun c => Cert.KernelIn2Ideal.In.G m c,
    (θ_run Cert.KernelIn2Ideal.defs _ _).mono (fun _ h c => ⟨(h c).1.trans (Cert.KernelIn2Ideal.In.result m ρ c), (h c).2⟩)
      (Cert.KernelIn2Ideal.In.run (F := Ideal) m ρ),
    (θ_run Cert.ReferenceIn2Ideal.defs _ _).mono (fun _ h c => ⟨(h c).1.trans (by
        rw [(hagree c).1, (hagree c).2.1, (hagree c).2.2]
        funext i
        obtain ⟨r, n, rfl⟩ : ∃ (r : Fin 16384) (n : Fin 18432), i = (ix2 r n : Cert.ReferenceIn2Ideal.S16384x18432.Idx) := ⟨i 0, i 1, ValueIdx.eq_ix2 i⟩
        exact Cert.ReferenceIn2Ideal.In.result _ _ _ r n), (h c).2⟩)
      (Cert.ReferenceIn2Ideal.Value.run (F := Ideal) m' ρ')⟩

end Cert.Proof.In2

end
-- ==== Proof.EvStep.lean ====
/-
  One grid step of the even mixer's output projection with its residual.

  A step works on 1024 rows and 1024 columns of the output and on the whole contracted axis, in four strips of 256
  columns: every entry of the block it leaves is the residual's plus a row times a column (`step_at`).
-/
module

public import proofs.«01_k».proof.Proof.Gen.KernelOutIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KernelOutIdeal.Ev

open Cert.KernelOutIdeal Cert.KernelOutIdeal.Gen

/-- A strip's new columns: the old ones plus the rows times the strip of the weights. -/
def strip (v : Vec Ideal S1024x256 .f32) (a : Vec Ideal S1024x4096 .bf16) (w : Vec Ideal S1x4096x256 .bf16) : FVec Ideal S1024x256 .f32 :=
  have w' : FVec Ideal S4096x256 .bf16 := shapeCast S4096x256 w shapeCasts_S1x4096x256_S4096x256
  have z : FVec Ideal S1024x256 .f32 := constant S1024x256 .f32 0x00000000#32
  have p : FVec Ideal S1024x256 .f32 := matmul (φ₁ := .bf16) dot_S1024x4096_S4096x256_S1024x256_1_0_0_1_n_n none a w' z
  addf v p

theorem strip_at (v : Vec Ideal S1024x256 .f32) (a : Vec Ideal S1024x4096 .bf16) (w : Vec Ideal S1x4096x256 .bf16) (r : Fin 1024) (e : Fin 256) :
    strip v a w (ix2 r e) = v (ix2 r e) + ∑ k : Fin 4096, a (ix2 r k) * w (ix3 0 k e) := by
  pointwise [strip]

theorem pay2_eq : k0_pay2 (F := Ideal) = strip := rfl
theorem pay4_eq : k0_pay4 (F := Ideal) = strip := rfl
theorem pay7_eq : k0_pay7 (F := Ideal) = strip := rfl
theorem pay9_eq : k0_pay9 (F := Ideal) = strip := rfl

/-- An entry of the block a step leaves, the entry it starts from being `acc y`. -/
def entry (acc : Vec Ideal S1024x1024 .f32) (x0 : Vec Ideal S1024x4096 .bf16) (x1 : Vec Ideal S1x4096x1024 .bf16) (y : S1024x1024.Idx) : EReal :=
  acc y + ∑ k : Fin 4096, x0 (ix2 (y 0) k) * x1 (ix3 0 k (y 1))

/-- Columns `o …` of an output block, and of a block of weights. -/
abbrev rO (o : ℕ) (inb : ∀ a, (![0, o] : Fin 2 → Nat) a + S1024x256.size a ≤ S1024x1024.size a) : Rect S1024x1024 :=
  Rect.unit ![0, o] S1024x256.size inb
abbrev rW (o : ℕ) (inb : ∀ a, (![0, 0, o] : Fin 3 → Nat) a + S1x4096x256.size a ≤ S1x4096x1024.size a) : Rect S1x4096x1024 :=
  Rect.unit ![0, 0, o] S1x4096x256.size inb

/-- A strip's entry is the block's. -/
theorem strip_entry (acc : Vec Ideal S1024x1024 .f32) (x0 : Vec Ideal S1024x4096 .bf16) (x1 : Vec Ideal S1x4096x1024 .bf16) (o : ℕ)
    (inb : ∀ a, (![0, o] : Fin 2 → Nat) a + S1024x256.size a ≤ S1024x1024.size a)
    (inb' : ∀ a, (![0, 0, o] : Fin 3 → Nat) a + S1x4096x256.size a ≤ S1x4096x1024.size a) (x : S1024x256.Idx) :
    strip (View.ld acc (rO o inb)) x0 (View.ld x1 (rW o inb')) x = entry acc x0 x1 ((rO o inb).emb x) := by
  obtain ⟨r, e, rfl⟩ : ∃ (r : Fin 1024) (e : Fin 256), x = ix2 r e := ⟨x 0, x 1, ValueIdx.eq_ix2 x⟩
  have ho : o + 256 ≤ 1024 := inb 1
  have hy : (rO o inb).emb (ix2 r e : S1024x256.Idx) = (ix2 r ⟨o + e.val, by omega⟩ : S1024x1024.Idx) := funext fun a => Fin.ext (by
    match a with
    | ⟨0, _⟩ => show 0 + 1 * r.val = r.val; omega
    | ⟨1, _⟩ => show o + 1 * e.val = o + e.val; omega)
  rw [hy]
  refine (strip_at _ _ _ r e).trans (congrArg₂ (HAdd.hAdd : EReal → EReal → EReal) (congrArg acc hy) (Finset.sum_congr rfl fun k _ => ?_))
  refine congrArg (fun z : EReal => x0 (ix2 r k) * z) (congrArg x1 (funext fun a => Fin.ext ?_))
  match a with
  | ⟨0, _⟩ => rfl
  | ⟨1, _⟩ => show 0 + 1 * k.val = k.val; omega
  | ⟨2, _⟩ => show o + 1 * e.val = o + e.val; omega

/-- The stores of a step, the last one first. -/
abbrev stores (acc : Vec Ideal S1024x1024 .f32) (x0 : Vec Ideal S1024x4096 .bf16) (x1 : Vec Ideal S1x4096x1024 .bf16) :
    List (View.Piece (Elt Ideal) S1024x1024 .f32) :=
  [⟨rO 768 inb_S1024x1024_S1024x256_0_768, strip (View.ld acc (rO 768 inb_S1024x1024_S1024x256_0_768)) x0 (View.ld x1 (rW 768 inb_S1x4096x1024_S1x4096x256_0_0_768))⟩,
    ⟨rO 512 inb_S1024x1024_S1024x256_0_512, strip (View.ld acc (rO 512 inb_S1024x1024_S1024x256_0_512)) x0 (View.ld x1 (rW 512 inb_S1x4096x1024_S1x4096x256_0_0_512))⟩,
    ⟨rO 256 inb_S1024x1024_S1024x256_0_256, strip (View.ld acc (rO 256 inb_S1024x1024_S1024x256_0_256)) x0 (View.ld x1 (rW 256 inb_S1x4096x1024_S1x4096x256_0_0_256))⟩,
    ⟨rO 0 inb_S1024x1024_S1024x256_0_0, strip (View.ld acc (rO 0 inb_S1024x1024_S1024x256_0_0)) x0 (View.ld x1 (rW 0 inb_S1x4096x1024_S1x4096x256_0_0_0))⟩]

/-- The four strips of a step are its block. -/
theorem block_at (acc : Vec Ideal S1024x1024 .f32) (x0 : Vec Ideal S1024x4096 .bf16) (x1 : Vec Ideal S1x4096x1024 .bf16) (y : S1024x1024.Idx) :
    View.canon (stores acc x0 x1) y = entry acc x0 x1 y := by
  refine View.canon_apply_of_pieces (entry acc x0 x1) _ (fun p hp x => ?_) y (View.cover_of_tiled (stores acc x0 x1) S1024x256.size rfl y)
  rcases List.mem_cons.1 hp with rfl | hp
  · exact strip_entry acc x0 x1 768 _ _ x
  rcases List.mem_cons.1 hp with rfl | hp
  · exact strip_entry acc x0 x1 512 _ _ x
  rcases List.mem_cons.1 hp with rfl | hp
  · exact strip_entry acc x0 x1 256 _ _ x
  obtain rfl := List.mem_singleton.1 hp
  exact strip_entry acc x0 x1 0 _ _ x

variable (m : (ℓ : Loc nD τ sig) → Buf (Elt Ideal) ℓ) (c : Dev nD) (t : Fin cfg0.N)

/-- What a step leaves, whether it is the first of its rows or a later one. -/
theorem step_at (y : S1024x1024.Idx) :
    (outsAt0 m c t.val t.isLt).1 y = entry (iblk m c 2 t) (iblk m c 0 t) (iblk m c 1 t) y := by
  by_cases h0 : t.val % 4 = 0
  · rw [outsAt0_A m c t h0 (by omega)]
    frame_out
    rw [pay2_eq, pay4_eq, pay7_eq, pay9_eq]
    exact block_at _ _ _ y
  · rw [outsAt0_B m c t h0 (by omega)]
    frame_out
    rw [pay2_eq, pay4_eq, pay7_eq, pay9_eq]
    exact block_at _ _ _ y

end Cert.KernelOutIdeal.Ev

end
-- ==== Proof.EvSum.lean ====
/-
  The even mixer's output projection with its residual, as a formula: the residual's entry plus a row times a column of
  the weights.
-/
module

public import Idealize.ShloMosaic.Lib.Pointwise

@[expose] public section

noncomputable section

open Idealize.ShloMosaic

namespace Ev

/-- Entry `(r, n)` of `h + a w`, `w` being layer 0 of the stacked weights. -/
def value (a : (⟨2, ![16384, 4096]⟩ : Shape).Idx → EReal) (w : (⟨3, ![2, 4096, 4096]⟩ : Shape).Idx → EReal)
    (h : (⟨2, ![16384, 4096]⟩ : Shape).Idx → EReal) (r : Fin 16384) (n : Fin 4096) : EReal :=
  h (ix2 r n) + ∑ k : Fin 4096, a (ix2 r k) * w (ix3 0 k n)

end Ev

end
-- ==== Proof.EvOut.lean ====
/-
  The array the even mixer's output projection leaves.

  Point `t` of the grid works on rows `1024 (t / 4) …` and columns `1024 (t % 4) …`; a block is written back at once, and
  the blocks cover the array (`result`).
-/
module

public import proofs.«01_k».proof.Proof.EvStep
public import proofs.«01_k».proof.Proof.EvSum
public import proofs.«01_k».proof.Proof.Gen.KernelOutIdeal.Value

@[expose] public section

set_option maxRecDepth 16384

noncomputable section

open Idealize.ShloMosaic Idealize.ShloMosaic.TcCoe Idealize.SL.Sem

namespace Cert.KernelOutIdeal.Ev

open Cert.KernelOutIdeal Cert.KernelOutIdeal.Gen

variable (m : (ℓ : Loc nD τ sig) → Buf (Elt Ideal) ℓ) (c : Dev nD) (t : Fin cfg0.N)

/-- Which blocks point `t` takes. -/
theorem idx : ∀ t : Fin cfg0.N, win0_0.index t = ![t.val / 4, 0] ∧ win0_1.index t = ![0, 0, t.val % 4]
    ∧ win0_2.index t = ![t.val / 4, t.val % 4] ∧ win0_3.index t = ![t.val / 4, t.val % 4] :=
  (by decide +kernel : ∀ t : Fin grid0.N, _)

theorem pt_lt : t.val < 64 := lt_of_lt_of_eq t.isLt (show cfg0.N = 64 from N_0)

/-- A row and a column of a point's blocks, in the arrays. -/
abbrev row (r : Fin 1024) : Fin 16384 := ⟨1024 * (t.val / 4) + r.val, by have := pt_lt t; omega⟩
abbrev col (e : Fin 1024) : Fin 4096 := ⟨1024 * (t.val % 4) + e.val, by omega⟩

/-- The three arguments. -/
abbrev argA : (⟨2, ![16384, 4096]⟩ : Shape).Idx → EReal := m ((c : Thread nD τ).loc main_arg0)
abbrev argW : (⟨3, ![2, 4096, 4096]⟩ : Shape).Idx → EReal := m ((c : Thread nD τ).loc main_arg1)
abbrev argH : (⟨2, ![16384, 4096]⟩ : Shape).Idx → EReal := m ((c : Thread nD τ).loc main_arg2)

theorem a_at (r : Fin 1024) (k : Fin 4096) : (iblk m c 0 t : Vec Ideal S1024x4096 .bf16) (ix2 r k) = argA m c (ix2 (row t r) k) := by
  have h := pt_lt t
  blk_ext! [iblk, V, idx t]

theorem h_at (r : Fin 1024) (e : Fin 1024) : (iblk m c 2 t : Vec Ideal S1024x1024 .f32) (ix2 r e) = argH m c (ix2 (row t r) (col t e)) := by
  have h := pt_lt t
  blk_ext! [iblk, V, idx t]

/-- The weights are cast by the host, which changes no exact value. -/
theorem w_at (k : Fin 4096) (e : Fin 1024) : (iblk m c 1 t : Vec Ideal S1x4096x1024 .bf16) (ix3 0 k e) = argW m c (ix3 0 k (col t e)) := by
  have h := pt_lt t
  have e1 : (iblk m c 1 t : Vec Ideal S1x4096x1024 .bf16) (ix3 0 k e) = (V m c main_v0 : Vec Ideal S2x4096x4096 .bf16) (ix3 0 k (col t e)) := by
    blk_ext [iblk, idx t]
  rw [e1]
  entry_read
  pointwise []

/-- The products of point `t` at an entry of its block. -/
theorem entry_at (acc : Vec Ideal S1024x1024 .f32) (r e : Fin 1024) : entry acc (iblk m c 0 t) (iblk m c 1 t) (ix2 r e)
    = acc (ix2 r e) + ∑ k : Fin 4096, argA m c (ix2 (row t r) k) * argW m c (ix3 0 k (col t e)) :=
  congrArg (fun z : EReal => acc (ix2 r e) + z) (Finset.sum_congr rfl fun k _ =>
    congrArg₂ (HMul.hMul : EReal → EReal → EReal) (a_at m c t r k) (w_at m c t k e))

/-- What is written back. -/
theorem written_at (r e : Fin 1024) :
    (outsAt0 m c t.val t.isLt).1 (ix2 r e) = _root_.Ev.value (argA m c) (argW m c) (argH m c) (row t r) (col t e) := by
  rw [step_at m c t, entry_at, h_at]
  rfl

/-- The point that writes entry `(r, n)` back. -/
theorem covered (r : Fin 16384) (n : Fin 4096) : ∃ (t : Fin cfg0.N) (y e : Fin 1024), row t y = r ∧ col t e = n := by
  refine ⟨⟨4 * (r.val / 1024) + n.val / 1024, lt_of_lt_of_eq (by omega) (show cfg0.N = 64 from N_0).symm⟩, ⟨r.val % 1024, by omega⟩, ⟨n.val % 1024, by omega⟩, Fin.ext ?_, Fin.ext ?_⟩
  · show 1024 * ((4 * (r.val / 1024) + n.val / 1024) / 4) + r.val % 1024 = r.val; omega
  · show 1024 * ((4 * (r.val / 1024) + n.val / 1024) % 4) + n.val % 1024 = n.val; omega

/-- Where entry `(y, e)` of the block of point `t` lies. -/
theorem emb_at (y e : Fin 1024) : ((cfg0.win 3).blk t).view.emb (ix2 y e : S1024x1024.Idx) = (ix2 (row t y) (col t e) : S16384x4096.Idx) := by
  obtain ⟨-, -, -, hi⟩ := idx t
  funext a
  apply Fin.ext
  match a with
  | ⟨0, _⟩ =>
    show win0_3.index t (0 : Fin 2) * 1024 + 1 * y.val = 1024 * (t.val / 4) + y.val
    rw [hi]
    show t.val / 4 * 1024 + 1 * y.val = 1024 * (t.val / 4) + y.val
    omega
  | ⟨1, _⟩ =>
    show win0_3.index t (1 : Fin 2) * 1024 + 1 * e.val = 1024 * (t.val % 4) + e.val
    rw [hi]
    show t.val % 4 * 1024 + 1 * e.val = 1024 * (t.val % 4) + e.val
    omega

/-- The array the run leaves. -/
def G (i : S16384x4096.Idx) : EReal := _root_.Ev.value (argA m c) (argW m c) (argH m c) (i 0) (i 1)

theorem result : (dats m 0 c).arrAt 3 cfg0.N = G m c := by
  refine (dats m 0 c).arrAt_eq_of_cover 3 (G m c) (fun t _ => ?_) (fun i => ?_)
  · rw [Value.flushed3]
    funext y
    obtain ⟨r, e, rfl⟩ : ∃ (r e : Fin 1024), y = (ix2 r e : S1024x1024.Idx) := ⟨y 0, y 1, ValueIdx.eq_ix2 y⟩
    exact (written_at m c t r e).trans (congrArg (G m c) (emb_at t r e).symm)
  · obtain ⟨t, y, e, hr, hn⟩ := covered (i 0) (i 1)
    refine ⟨t, flush0_3 t, ?_⟩
    have hm := ((cfg0.win 3).blk t).view.emb_mem_set (ix2 y e : S1024x1024.Idx)
    rw [emb_at, hr, hn] at hm
    exact (ValueIdx.eq_ix2 i) ▸ hm

end Cert.KernelOutIdeal.Ev

end
-- ==== Proof.EvRef.lean ====
/-
  The reference of the even mixer's output projection, read entry by entry.
-/
module

public import proofs.«01_k».proof.Proof.EvSum
public import proofs.«01_k».proof.Proof.Gen.ReferenceOutIdeal.Run
public import Idealize.ShloMosaic.Lib.Pointwise

@[expose] public section

set_option maxRecDepth 16384

noncomputable section

open Idealize.ShloMosaic Idealize.ShloMosaic.TcCoe Idealize.SL.Sem

namespace Cert.ReferenceOutIdeal.Ev

open Cert.ReferenceOutIdeal

/-- Entry `(r, n)` of the reference's result. -/
theorem result (a : FVec Ideal S16384x4096 .bf16) (w : FVec Ideal S2x4096x4096 .f32) (h : FVec Ideal S16384x4096 .f32) (i : S16384x4096.Idx) :
    addf h (Host.dotGeneral dot_S16384x4096_S4096x4096_S16384x4096_1_0_0_1_n_n none (extf .f32 a Gen.bitsLt_bf16_f32)
        (shapeCast _ (extractStridedSlice S1x4096x4096 ![0, 0, 0] w Gen.slices_S2x4096x4096_S1x4096x4096_0_0_0) Gen.shapeCasts_S1x4096x4096_S4096x4096)) i
      = _root_.Ev.value a w h (i 0) (i 1) := by
  obtain ⟨r, n, rfl⟩ : ∃ (r : Fin 16384) (n : Fin 4096), i = ix2 r n := ⟨i 0, i 1, ValueIdx.eq_ix2 i⟩
  pointwise [_root_.Ev.value]

end Cert.ReferenceOutIdeal.Ev

end
-- ==== Proof.EvEqual.lean ====
/-
  The even mixer's output projection with its residual: its frames, and the equality of the kernel's array with the reference's.
-/
module

public import proofs.«01_k».proof.Defs
public import proofs.«01_k».proof.Proof.EvOut
public import proofs.«01_k».proof.Proof.EvRef
public import proofs.«01_k».proof.Proof.Gen.KernelOut.Frame
public import proofs.«01_k».proof.Proof.Gen.KernelOutIdeal.Value
public import proofs.«01_k».proof.Proof.Gen.ReferenceOutIdeal.Run
public import Idealize.ShloMosaic.Adequacy
public import Idealize.ShloMosaic.Init

@[expose] public section

noncomputable section

namespace Cert.Proof.Ev

open Idealize.ShloMosaic Idealize.ShloMosaic.TcCoe Idealize.SL.Sem

/-- The kernel ends with its arguments unchanged and every counter at zero. -/
theorem frame_kernel : Cert.quiescent_KernelOut := fun m ρ _ => Cert.KernelOut.Gen.frame m ρ

/-- So does its idealization. -/
theorem frame_ideal : Cert.quiescent_KernelOutIdeal := fun m ρ _ => Cert.KernelOutIdeal.Gen.frame m ρ

/-- So does the reference, which declares no semaphore. -/
theorem frame_reference : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

/-- The idealized kernel and the reference compute the same array. -/
theorem equal : Cert.algebraic_KernelOutIdeal_ReferenceOutIdeal := fun m ρ m' ρ' _ hagree =>
  ⟨fun c => Cert.KernelOutIdeal.Ev.G m c,
    (θ_run Cert.KernelOutIdeal.defs _ _).mono (fun _ h c => ⟨(h c).1.trans (Cert.KernelOutIdeal.Ev.result m c), (h c).2.2.2⟩)
      (Cert.KernelOutIdeal.Value.run_blocks (F := Ideal) m ρ),
    (θ_run Cert.ReferenceOutIdeal.defs _ _).mono (fun _ h c => ⟨(h c).1.trans (by
        rw [(hagree c).1, (hagree c).2.1, (hagree c).2.2]
        exact funext fun i => Cert.ReferenceOutIdeal.Ev.result _ _ _ i), (h c).2⟩)
      (Cert.ReferenceOutIdeal.Value.run (F := Ideal) m' ρ')⟩

end Cert.Proof.Ev

end
-- ==== Proof.lean ====
/-
  The claims, put together: for each program the three frames and the equality of the kernel's result with the
  reference's, and for the mLSTM head group the named constant. What each side of that one computes is read in
  Proof/HeadSeq.lean and Proof/RefSeq.lean, in the terms of Proof/Seq.lean; the other programs are put together in
  Proof/UpEqual.lean, Proof/DownEqual.lean, Proof/InEqual.lean, Proof/In2Equal.lean and Proof/EvEqual.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.KernelUp
public import proofs.«01_k».proof.Proof.Gen.KernelUp.Skeleton
public import proofs.«01_k».proof.Proof.Gen.KernelUp.Launch
public import proofs.«01_k».proof.Proof.Gen.KernelUp.Regions
public import proofs.«01_k».proof.Proof.Gen.KernelUp.Points
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Regions
public import proofs.«01_k».proof.Proof.Gen.KernelUpIdeal.Points
public import proofs.«01_k».proof.Proof.Gen.ReferenceUpIdeal
public import proofs.«01_k».proof.Proof.Gen.ReferenceUpIdeal.Run
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.KernelIn2
public import proofs.«01_k».proof.Proof.Gen.KernelIn2.Skeleton
public import proofs.«01_k».proof.Proof.Gen.KernelIn2.Launch
public import proofs.«01_k».proof.Proof.Gen.KernelIn2.Points
public import proofs.«01_k».proof.Proof.Gen.KernelIn2.Frame
public import proofs.«01_k».proof.Proof.Gen.KernelIn2Ideal
public import proofs.«01_k».proof.Proof.Gen.KernelIn2Ideal.Skeleton
public import proofs.«01_k».proof.Proof.Gen.KernelIn2Ideal.Launch
public import proofs.«01_k».proof.Proof.Gen.KernelIn2Ideal.Points
public import proofs.«01_k».proof.Proof.Gen.KernelIn2Ideal.Frame
public import proofs.«01_k».proof.Proof.Gen.ReferenceIn2Ideal
public import proofs.«01_k».proof.Proof.Gen.ReferenceIn2Ideal.Run
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.HeadSeq
public import proofs.«01_k».proof.Proof.RefSeq
public import proofs.«01_k».proof.Proof.UpFrames
public import proofs.«01_k».proof.Proof.UpEqual
public import proofs.«01_k».proof.Proof.DownEqual
public import proofs.«01_k».proof.Proof.InEqual
public import proofs.«01_k».proof.Proof.In2Equal
public import proofs.«01_k».proof.Proof.EvEqual
public import Idealize.ShloMosaic.Adequacy
public import Idealize.ShloMosaic.Init

@[expose] public section

noncomputable section

namespace Cert.Proof

open Idealize.ShloMosaic Idealize.ShloMosaic.TcCoe Idealize.SL.Sem

/-- The kernel ends with its arguments unchanged and every counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant is the reciprocal of fifteen, which the kernel's literal rounds. -/
theorem preserved : Cert.preserves_Kernel_KernelIdeal :=
  IdealRules.named_const.statement Cert.KernelIdeal.κ "inv_cap" .f32 0x3D888889#32 _ rfl

/-- Arrays with equal entries are equal. -/
theorem ext3 {n0 n1 n2 : ℕ} (x y : (⟨3, ![n0, n1, n2]⟩ : Shape).Idx → EReal) (h : ∀ a b c, x (ix3 a b c) = y (ix3 a b c)) : x = y := by
  funext i
  rw [ValueIdx.eq_ix3 i]
  exact h _ _ _

/-- From arguments that agree the reference's result array is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : ∀ b, Cert.ReferenceIdeal.Head.args m' c b = Cert.KernelIdeal.Head.args m c b) (x : (⟨3, ![4, 4096, 2048]⟩ : Shape).Idx → EReal)
    (hx : ∀ b s e, x (ix3 b s e) = (Cert.ReferenceIdeal.Head.args m' c b).headOut ⟨e.val / 512, by omega⟩ (s.val / 128)
      ⟨s.val % 128, Nat.mod_lt _ (by decide)⟩ ⟨e.val % 512, Nat.mod_lt _ (by decide)⟩) : x = Cert.KernelIdeal.Value.G7 m c :=
  ext3 _ _ fun b s e => by
    rw [hx, h b]
    exact (Cert.KernelIdeal.Head.result m c b s e).symm

/-- The two batch rows' inputs are the same when the arguments agree. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (b : Fin 4) : Cert.ReferenceIdeal.Head.args m' c b = Cert.KernelIdeal.Head.args m c b := by
  unfold Cert.ReferenceIdeal.Head.args Cert.KernelIdeal.Head.args
  rw [h0, h1, h2, h3, h4]

/-- The idealized kernel and the reference compute the same array. -/
theorem equal : Cert.algebraic_KernelIdeal_ReferenceIdeal := fun m ρ m' ρ' _ hagree =>
  ⟨fun c => Cert.KernelIdeal.Value.G7 m c, Cert.KernelIdeal.Value.run (F := Ideal) m ρ,
    (θ_run Cert.ReferenceIdeal.defs _ _).mono (fun _ h c => ⟨(h c).1.trans (results_eq m m' c
        (args_eq m m' c (hagree c).1 (hagree c).2.1 (hagree c).2.2.1 (hagree c).2.2.2.1 (hagree c).2.2.2.2) _
        (Cert.ReferenceIdeal.Head.result m' c)), (h c).2⟩)
      (Cert.ReferenceIdeal.Value.run (F := Ideal) m' ρ')⟩

theorem claim : Cert.Claim := ⟨Cert.Kernel.Gen.facts, Cert.KernelIdeal.Gen.facts, Cert.ReferenceIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelIn.Gen.facts, Cert.KernelInIdeal.Gen.facts, Cert.ReferenceInIdeal.Gen.facts,
  Cert.KernelIn2.Gen.facts, Cert.KernelIn2Ideal.Gen.facts, Cert.ReferenceIn2Ideal.Gen.facts,
  Cert.KernelOut.Gen.facts, Cert.KernelOutIdeal.Gen.facts, Cert.ReferenceOutIdeal.Gen.facts, Up.cond_facts,
  frame_kernel, frame_ideal, frame_reference, Up.frame_kernel, Up.frame_ideal, Up.frame_ideal_cond, Up.frame_reference, Up.frame_reference_cond, Down.frame_kernel, Down.frame_ideal, Down.frame_reference,
  In.frame_kernel, In.frame_ideal, In.frame_reference, In2.frame_kernel, In2.frame_ideal, In2.frame_reference, Ev.frame_kernel, Ev.frame_ideal, Ev.frame_reference,
  preserved, equal, trivial, Up.equal, trivial, Down.equal, trivial, In.equal, trivial, In2.equal, trivial, Ev.equal⟩

end Cert.Proof

end
